-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_layer [hPre_finite_layer : Cert.Pre_finite_layer.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_layer.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).1 = (fun _ => 1#1)
    ∧ (Cert.Pre_finite_layer.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.1 = (fun _ => 1#1)
    ∧ (Cert.Pre_finite_layer.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.1 = (fun _ => 1#1)
    ∧ (Cert.Pre_finite_layer.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.2.1 = (fun _ => 1#1)
    ∧ (Cert.Pre_finite_layer.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.2.2.1 = (fun _ => 1#1)
    ∧ (Cert.Pre_finite_layer.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_layer [hPre_finite_layer : Cert.Pre_finite_layer.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_layer.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).1 = (fun _ => 1#1)
    ∧ (Cert.Pre_finite_layer.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.1 = (fun _ => 1#1)
    ∧ (Cert.Pre_finite_layer.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.1 = (fun _ => 1#1)
    ∧ (Cert.Pre_finite_layer.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.2.1 = (fun _ => 1#1)
    ∧ (Cert.Pre_finite_layer.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.2.2.1 = (fun _ => 1#1)
    ∧ (Cert.Pre_finite_layer.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite_layer [hKernel4Ideal : Cert.Kernel4Ideal.Facts] [hPre_finite_layer : Cert.Pre_finite_layer.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_layer m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite_layer [hReference4Ideal : Cert.Reference4Ideal.Facts] [hPre_finite_layer : Cert.Pre_finite_layer.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_layer m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def preserves_Kernel_KernelIdeal : Prop :=
  IdealRules.named_const.Statement Cert.KernelIdeal.κ "c1" .f32 0x3D372713#32 ((8943 / 200000 : ℝ) : EReal)
  ∧ IdealRules.named_const.Statement Cert.KernelIdeal.κ "c3" .f32 0x3E095D4F#32 ((26829 / 200000 : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_v107) = v2 c
          ∧ r.2.mem ((c.tc : Thread Cert.ReferenceIdeal.nD Cert.ReferenceIdeal.τ).loc Cert.ReferenceIdeal.main_v108) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v9_0)) (v1 : (c : Dev Cert.Kernel3Ideal.nD) → Buf (Elt Ideal) ((c.tc : Thread Cert.Kernel3Ideal.nD Cert.Kernel3Ideal.τ).loc Cert.Kernel3Ideal.main_v9_1)) (v2 : (c : Dev Cert.Kernel3Ideal.nD) → Buf (Elt Ideal) ((c.tc : Thread Cert.Kernel3Ideal.nD Cert.Kernel3Ideal.τ).loc Cert.Kernel3Ideal.main_v9_2)) (v3 : (c : Dev Cert.Kernel3Ideal.nD) → Buf (Elt Ideal) ((c.tc : Thread Cert.Kernel3Ideal.nD Cert.Kernel3Ideal.τ).loc Cert.Kernel3Ideal.main_v9_3)) (v4 : (c : Dev Cert.Kernel3Ideal.nD) → Buf (Elt Ideal) ((c.tc : Thread Cert.Kernel3Ideal.nD Cert.Kernel3Ideal.τ).loc Cert.Kernel3Ideal.main_v9_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9_0) = v0 c
          ∧ r.2.mem ((c.tc : Thread Cert.Kernel3Ideal.nD Cert.Kernel3Ideal.τ).loc Cert.Kernel3Ideal.main_v9_1) = v1 c
          ∧ r.2.mem ((c.tc : Thread Cert.Kernel3Ideal.nD Cert.Kernel3Ideal.τ).loc Cert.Kernel3Ideal.main_v9_2) = v2 c
          ∧ r.2.mem ((c.tc : Thread Cert.Kernel3Ideal.nD Cert.Kernel3Ideal.τ).loc Cert.Kernel3Ideal.main_v9_3) = v3 c
          ∧ r.2.mem ((c.tc : Thread Cert.Kernel3Ideal.nD Cert.Kernel3Ideal.τ).loc Cert.Kernel3Ideal.main_v9_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_v21) = v1 c
          ∧ r.2.mem ((c.tc : Thread Cert.Reference3Ideal.nD Cert.Reference3Ideal.τ).loc Cert.Reference3Ideal.main_v24) = v2 c
          ∧ r.2.mem ((c.tc : Thread Cert.Reference3Ideal.nD Cert.Reference3Ideal.τ).loc Cert.Reference3Ideal.main_v30) = v3 c
          ∧ r.2.mem ((c.tc : Thread Cert.Reference3Ideal.nD Cert.Reference3Ideal.τ).loc Cert.Reference3Ideal.main_v33) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_finite_layer [hKernel4Ideal : Cert.Kernel4Ideal.Facts] [hReference4Ideal : Cert.Reference4Ideal.Facts] [hPre_finite_layer : Cert.Pre_finite_layer.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_layer m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v34_0)) (v1 : (c : Dev Cert.Kernel4Ideal.nD) → Buf (Elt Ideal) ((c.tc : Thread Cert.Kernel4Ideal.nD Cert.Kernel4Ideal.τ).loc Cert.Kernel4Ideal.main_v34_1)) (v2 : (c : Dev Cert.Kernel4Ideal.nD) → Buf (Elt Ideal) ((c.tc : Thread Cert.Kernel4Ideal.nD Cert.Kernel4Ideal.τ).loc Cert.Kernel4Ideal.main_v34_2)) (v3 : (c : Dev Cert.Kernel4Ideal.nD) → Buf (Elt Ideal) ((c.tc : Thread Cert.Kernel4Ideal.nD Cert.Kernel4Ideal.τ).loc Cert.Kernel4Ideal.main_v34_3)) (v4 : (c : Dev Cert.Kernel4Ideal.nD) → Buf (Elt Ideal) ((c.tc : Thread Cert.Kernel4Ideal.nD Cert.Kernel4Ideal.τ).loc Cert.Kernel4Ideal.main_v34_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v34_0) = v0 c
          ∧ r.2.mem ((c.tc : Thread Cert.Kernel4Ideal.nD Cert.Kernel4Ideal.τ).loc Cert.Kernel4Ideal.main_v34_1) = v1 c
          ∧ r.2.mem ((c.tc : Thread Cert.Kernel4Ideal.nD Cert.Kernel4Ideal.τ).loc Cert.Kernel4Ideal.main_v34_2) = v2 c
          ∧ r.2.mem ((c.tc : Thread Cert.Kernel4Ideal.nD Cert.Kernel4Ideal.τ).loc Cert.Kernel4Ideal.main_v34_3) = v3 c
          ∧ r.2.mem ((c.tc : Thread Cert.Kernel4Ideal.nD Cert.Kernel4Ideal.τ).loc Cert.Kernel4Ideal.main_v34_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v57) = v0 c
          ∧ r.2.mem ((c.tc : Thread Cert.Reference4Ideal.nD Cert.Reference4Ideal.τ).loc Cert.Reference4Ideal.main_v60) = v1 c
          ∧ r.2.mem ((c.tc : Thread Cert.Reference4Ideal.nD Cert.Reference4Ideal.τ).loc Cert.Reference4Ideal.main_v63) = v2 c
          ∧ r.2.mem ((c.tc : Thread Cert.Reference4Ideal.nD Cert.Reference4Ideal.τ).loc Cert.Reference4Ideal.main_v66) = v3 c
          ∧ r.2.mem ((c.tc : Thread Cert.Reference4Ideal.nD Cert.Reference4Ideal.τ).loc Cert.Reference4Ideal.main_v67) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite_inputs : Cert.Pre_finite_inputs.Facts) (hPre_finite_layer : Cert.Pre_finite_layer.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_layer (hKernel4Ideal := hKernel4Ideal) (hPre_finite_layer := hPre_finite_layer)
    ∧ quiescent_Reference4Ideal (hReference4Ideal := hReference4Ideal)
    ∧ quiescent_Reference4Ideal_pre_finite_layer (hReference4Ideal := hReference4Ideal) (hPre_finite_layer := hPre_finite_layer)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_layer (hKernel4Ideal := hKernel4Ideal) (hReference4Ideal := hReference4Ideal) (hPre_finite_layer := hPre_finite_layer)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite_inputs.lean ====
abbrev S4096x4096 : Shape := ⟨2, ![4096, 4096]⟩
abbrev S4096x2048 : Shape := ⟨2, ![4096, 2048]⟩
abbrev S2048 : Shape := ⟨1, ![2048]⟩
abbrev S16x128x128 : Shape := ⟨3, ![16, 128, 128]⟩
abbrev S16x128 : Shape := ⟨2, ![16, 128]⟩
abbrev S_ : Shape := ⟨0, ![]⟩

class Facts : Prop where
  bcast_S_S4096x4096 : S_.BroadcastsInDim S4096x4096 (![] : Fin 0 → Fin S4096x4096.rank)
  bitsLt_bf16_f32 : FTy.bits .bf16 < FTy.bits .f32
  bcast_S_S4096x2048 : S_.BroadcastsInDim S4096x2048 (![] : Fin 0 → Fin S4096x2048.rank)
  bcast_S_S2048 : S_.BroadcastsInDim S2048 (![] : Fin 0 → Fin S2048.rank)
  bcast_S_S16x128x128 : S_.BroadcastsInDim S16x128x128 (![] : Fin 0 → Fin S16x128x128.rank)
  bcast_S_S16x128 : S_.BroadcastsInDim S16x128 (![] : Fin 0 → Fin S16x128.rank)

variable [Facts]

def fn {F : FTy → Type} [FloatOps F] (main_arg0 : FVec F S4096x4096 .f32) (main_arg1 : FVec F S4096x2048 .bf16) (main_arg2 : FVec F S2048 .f32) (main_arg3 : FVec F S16x128x128 .f32) (main_arg4 : FVec F S16x128 .f32) : IVec S4096x4096 1 × IVec S4096x2048 1 × IVec S2048 1 × IVec S16x128x128 1 × IVec S16x128 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_v3 : FVec F S4096x2048 .f32 := (extf .f32 · bitsLt_bf16_f32) main_arg1
  let main_v4 : FVec F S4096x2048 .f32 := Host.absf main_v3
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_v7 : FVec F S2048 .f32 := Host.absf main_arg2
  let main_cst_1 : FVec F S_ .f32 := constant S_ .f32 0x7F800000#32
  let main_v8 : FVec F S2048 .f32 := broadcastInDim S2048 ![] bcast_S_S2048 main_cst_1
  let main_v9 : IVec S2048 1 := cmpf .olt main_v7 main_v8
  let main_v10 : FVec F S16x128x128 .f32 := Host.absf main_arg3
  let main_cst_2 : FVec F S_ .f32 := constant S_ .f32 0x7F800000#32
  let main_v11 : FVec F S16x128x128 .f32 := broadcastInDim S16x128x128 ![] bcast_S_S16x128x128 main_cst_2
  let main_v12 : IVec S16x128x128 1 := cmpf .olt main_v10 main_v11
  let main_v13 : FVec F S16x128 .f32 := Host.absf main_arg4
  let main_cst_3 : FVec F S_ .f32 := constant S_ .f32 0x7F800000#32
  let main_v14 : FVec F S16x128 .f32 := broadcastInDim S16x128 ![] bcast_S_S16x128 main_cst_3
  let main_v15 : IVec S16x128 1 := cmpf .olt main_v13 main_v14
  (main_v2, main_v6, main_v9, main_v12, main_v15)
-- ==== Pre_finite_layer.lean ====
abbrev S4096x2048 : Shape := ⟨2, ![4096, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩

class Facts : Prop where
  bcast_S_S4096x2048 : S_.BroadcastsInDim S4096x2048 (![] : Fin 0 → Fin S4096x2048.rank)
  bcast_S_S2048 : S_.BroadcastsInDim S2048 (![] : Fin 0 → Fin S2048.rank)
  bcast_S_S2048x5632 : S_.BroadcastsInDim S2048x5632 (![] : Fin 0 → Fin S2048x5632.rank)
  bcast_S_S5632x2048 : S_.BroadcastsInDim S5632x2048 (![] : Fin 0 → Fin S5632x2048.rank)

variable [Facts]

def fn {F : FTy → Type} [FloatOps F] (main_arg0 : FVec F S4096x2048 .f32) (main_arg1 : FVec F S2048 .f32) (main_arg2 : FVec F S2048x5632 .f32) (main_arg3 : FVec F S2048x5632 .f32) (main_arg4 : FVec F S5632x2048 .f32) (main_arg5 : FVec F S4096x2048 .f32) : IVec S4096x2048 1 × IVec S2048 1 × IVec S2048x5632 1 × IVec S2048x5632 1 × IVec S5632x2048 1 × IVec S4096x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S2048 .f32 := Host.absf main_arg1
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_v6 : FVec F S2048x5632 .f32 := Host.absf main_arg2
  let main_cst_1 : FVec F S_ .f32 := constant S_ .f32 0x7F800000#32
  let main_v7 : FVec F S2048x5632 .f32 := broadcastInDim S2048x5632 ![] bcast_S_S2048x5632 main_cst_1
  let main_v8 : IVec S2048x5632 1 := cmpf .olt main_v6 main_v7
  let main_v9 : FVec F S2048x5632 .f32 := Host.absf main_arg3
  let main_cst_2 : FVec F S_ .f32 := constant S_ .f32 0x7F800000#32
  let main_v10 : FVec F S2048x5632 .f32 := broadcastInDim S2048x5632 ![] bcast_S_S2048x5632 main_cst_2
  let main_v11 : IVec S2048x5632 1 := cmpf .olt main_v9 main_v10
  let main_v12 : FVec F S5632x2048 .f32 := Host.absf main_arg4
  let main_cst_3 : FVec F S_ .f32 := constant S_ .f32 0x7F800000#32
  let main_v13 : FVec F S5632x2048 .f32 := broadcastInDim S5632x2048 ![] bcast_S_S5632x2048 main_cst_3
  let main_v14 : IVec S5632x2048 1 := cmpf .olt main_v12 main_v13
  let main_v15 : FVec F S4096x2048 .f32 := Host.absf main_arg5
  let main_cst_4 : FVec F S_ .f32 := constant S_ .f32 0x7F800000#32
  let main_v16 : FVec F S4096x2048 .f32 := broadcastInDim S4096x2048 ![] bcast_S_S4096x2048 main_cst_4
  let main_v17 : IVec S4096x2048 1 := cmpf .olt main_v15 main_v16
  (main_v2, main_v5, main_v8, main_v11, main_v14, main_v17)
-- ==== Kernel.lean ====
abbrev S4096x4096 : Shape := ⟨2, ![4096, 4096]⟩
abbrev S4096x2048 : Shape := ⟨2, ![4096, 2048]⟩
abbrev S2048 : Shape := ⟨1, ![2048]⟩
abbrev S16x128x128 : Shape := ⟨3, ![16, 128, 128]⟩
abbrev S16x128 : Shape := ⟨2, ![16, 128]⟩
abbrev S128x16 : Shape := ⟨2, ![128, 16]⟩
abbrev S128x16x128 : Shape := ⟨3, ![128, 16, 128]⟩
abbrev S128x2048 : Shape := ⟨2, ![128, 2048]⟩
abbrev S1x2048 : Shape := ⟨2, ![1, 2048]⟩
abbrev S8x2048 : Shape := ⟨2, ![8, 2048]⟩
abbrev S128x4096 : Shape := ⟨2, ![128, 4096]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩

abbrev nBuf : Space → Nat
  | .hbm => 13
  | .vmem => 13
  | .smem => 0
  | _ => 0

abbrev bufTy : (tb : Table) → Fin (tcTables nBuf tb) → BufTy
  | .hbm, ⟨0, _⟩ => ⟨S4096x4096, .f32⟩
  | .hbm, ⟨1, _⟩ => ⟨S4096x2048, .bf16⟩
  | .hbm, ⟨2, _⟩ => ⟨S2048, .f32⟩
  | .hbm, ⟨3, _⟩ => ⟨S16x128x128, .f32⟩
  | .hbm, ⟨4, _⟩ => ⟨S16x128, .f32⟩
  | .hbm, ⟨5, _⟩ => ⟨S128x16, .f32⟩
  | .hbm, ⟨6, _⟩ => ⟨S128x16x128, .f32⟩
  | .hbm, ⟨7, _⟩ => ⟨S128x2048, .f32⟩
  | .hbm, ⟨8, _⟩ => ⟨S1x2048, .f32⟩
  | .hbm, ⟨9, _⟩ => ⟨S4096x4096, .bf16⟩
  | .hbm, ⟨10, _⟩ => ⟨S16x128x128, .f32⟩
  | .hbm, ⟨11, _⟩ => ⟨S128x2048, .f32⟩
  | .hbm, ⟨12, _⟩ => ⟨S8x2048, .f32⟩
  | .local _ .vmem, ⟨0, _⟩ => ⟨S128x4096, .f32⟩
  | .local _ .vmem, ⟨1, _⟩ => ⟨S128x4096, .f32⟩
  | .local _ .vmem, ⟨2, _⟩ => ⟨S128x2048, .bf16⟩
  | .local _ .vmem, ⟨3, _⟩ => ⟨S128x2048, .bf16⟩
  | .local _ .vmem, ⟨4, _⟩ => ⟨S1x2048, .f32⟩
  | .local _ .vmem, ⟨5, _⟩ => ⟨S16x128x128, .f32⟩
  | .local _ .vmem, ⟨6, _⟩ => ⟨S128x2048, .f32⟩
  | .local _ .vmem, ⟨7, _⟩ => ⟨S128x4096, .bf16⟩
  | .local _ .vmem, ⟨8, _⟩ => ⟨S128x4096, .bf16⟩
  | .local _ .vmem, ⟨9, _⟩ => ⟨S16x128x128, .f32⟩
  | .local _ .vmem, ⟨10, _⟩ => ⟨S128x2048, .f32⟩
  | .local _ .vmem, ⟨11, _⟩ => ⟨S8x2048, .f32⟩
  | .local _ .vmem, ⟨12, _⟩ => ⟨S128x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c0_i32_545 : BitVec 32 := 0#32
  let v1081 : BitVec 1 := Scalar.cmpi .eq arg0 c0_i32_545
  let v1084 : BitVec 32 := Scalar.extui v1081
  let c0_i32_546 : BitVec 32 := 0#32
  let v1085 : BitVec 1 := Scalar.cmpi .ne v1084 c0_i32_546
  v1085

def k0_cond3 (i : grid0.Coords) : BitVec 1 :=
  let arg0 : BitVec 32 := BitVec.ofNat 32 (i 0).val
  let c0_i32_545 : BitVec 32 := 0#32
  let v1081 : BitVec 1 := Scalar.cmpi .eq arg0 c0_i32_545
  let v_true : BitVec 1 := 1#1
  let v1086 : BitVec 1 := Scalar.xori v1081 v_true
  let v1087 : BitVec 32 := Scalar.extui v1086
  let c0_i32_547 : BitVec 32 := 0#32
  let v1088 : BitVec 1 := Scalar.cmpi .ne v1087 c0_i32_547
  v1088

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S16x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelIdeal.lean ====
variable {F : FTy → Type} [FloatOps F] [Named F]
def κ : String → Option EReal := fun
  | "c1" => some ((8943 / 200000 : ℝ) : EReal)
  | "c3" => some ((26829 / 200000 : ℝ) : EReal)
  | _ => none
-- ==== ReferenceIdeal.lean ====
abbrev S4096x4096 : Shape := ⟨2, ![4096, 4096]⟩
abbrev S4096x2048 : Shape := ⟨2, ![4096, 2048]⟩
abbrev S2048 : Shape := ⟨1, ![2048]⟩
abbrev S16x128x128 : Shape := ⟨3, ![16, 128, 128]⟩
abbrev S16x128 : Shape := ⟨2, ![16, 128]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S32x128x16x128 : Shape := ⟨4, ![32, 128, 16, 128]⟩
abbrev S128x128 : Shape := ⟨2, ![128, 128]⟩
abbrev S1x128x128 : Shape := ⟨3, ![1, 128, 128]⟩
abbrev S16x32x128x128 : Shape := ⟨4, ![16, 32, 128, 128]⟩
abbrev S128x16 : Shape := ⟨2, ![128, 16]⟩
abbrev S1x128x16x1 : Shape := ⟨4, ![1, 128, 16, 1]⟩
abbrev S128x16x128 : Shape := ⟨3, ![128, 16, 128]⟩
abbrev S128x2048 : Shape := ⟨2, ![128, 2048]⟩
abbrev S8x2048 : Shape := ⟨2, ![8, 2048]⟩

abbrev nBuf : Space → Nat
  | .hbm => 146
  | .vmem => 0
  | .smem => 0
  | _ => 0

abbrev hbmTy0_0 (i : Nat) : BufTy := match i % 128 with
  | 0 => ⟨S4096x4096, .f32⟩
  | 1 => ⟨S4096x2048, .bf16⟩
  | 2 => ⟨S2048, .f32⟩
  | 3 => ⟨S16x128x128, .f32⟩
  | 4 => ⟨S16x128, .f32⟩
  | 5 => ⟨S_, .f32⟩
  | 6 => ⟨S_, .f32⟩
  | 7 => ⟨S_, .f32⟩
  | 8 => ⟨S4096x4096, .f32⟩
  | 9 => ⟨S4096x4096, .f32⟩
  | 10 => ⟨S4096x4096, .f32⟩
  | 11 => ⟨S_, .f32⟩
  | 12 => ⟨S4096x4096, .f32⟩
  | 13 => ⟨S4096x4096, .f32⟩
  | 14 => ⟨S4096x4096, .f32⟩
  | 15 => ⟨S4096x4096, .f32⟩
  | 16 => ⟨S4096x4096, .f32⟩
  | 17 => ⟨S_, .f32⟩
  | 18 => ⟨S4096x4096, .f32⟩
  | 19 => ⟨S4096x4096, .f32⟩
  | 20 => ⟨S4096x4096, .f32⟩
  | 21 => ⟨S_, .f32⟩
  | 22 => ⟨S4096x4096, .f32⟩
  | 23 => ⟨S4096x4096, .f32⟩
  | 24 => ⟨S_, .f32⟩
  | 25 => ⟨S4096x4096, .f32⟩
  | 26 => ⟨S4096x4096, .f32⟩
  | 27 => ⟨S4096x4096, .f32⟩
  | 28 => ⟨S_, .f32⟩
  | 29 => ⟨S4096x4096, .f32⟩
  | 30 => ⟨S4096x4096, .f32⟩
  | 31 => ⟨S_, .f32⟩
  | 32 => ⟨S4096x4096, .f32⟩
  | 33 => ⟨S4096x4096, .f32⟩
  | 34 => ⟨S4096x4096, .f32⟩
  | 35 => ⟨S4096x2048, .f32⟩
  | 36 => ⟨S4096x2048, .f32⟩
  | 37 => ⟨S4096x2048, .f32⟩
  | 38 => ⟨S_, .f32⟩
  | 39 => ⟨S4096, .f32⟩
  | 40 => ⟨S4096x1, .f32⟩
  | 41 => ⟨S_, .f32⟩
  | 42 => ⟨S4096x1, .f32⟩
  | 43 => ⟨S4096x1, .f32⟩
  | 44 => ⟨S_, .f32⟩
  | 45 => ⟨S4096x1, .f32⟩
  | 46 => ⟨S4096x1, .f32⟩
  | 47 => ⟨S4096x1, .f32⟩
  | 48 => ⟨S4096x1, .f32⟩
  | 49 => ⟨S_, .f32⟩
  | 50 => ⟨S4096x1, .f32⟩
  | 51 => ⟨S4096x1, .f32⟩
  | 52 => ⟨S4096x2048, .f32⟩
  | 53 => ⟨S4096x2048, .f32⟩
  | 54 => ⟨S1x2048, .f32⟩
  | 55 => ⟨S4096x2048, .f32⟩
  | 56 => ⟨S4096x2048, .f32⟩
  | 57 => ⟨S32x128x16x128, .f32⟩
  | 58 => ⟨S_, .f32⟩
  | 59 => ⟨S128x128, .f32⟩
  | 60 => ⟨S128x128, .i32⟩
  | 61 => ⟨S_, .i32⟩
  | 62 => ⟨S128x128, .i32⟩
  | 63 => ⟨S128x128, .i32⟩
  | 64 => ⟨S128x128, .i32⟩
  | 65 => ⟨S128x128, .i1⟩
  | 66 => ⟨S_, .f32⟩
  | 67 => ⟨S128x128, .f32⟩
  | 68 => ⟨S128x128, .f32⟩
  | 69 => ⟨S1x128x128, .f32⟩
  | 70 => ⟨S16x128x128, .f32⟩
  | 71 => ⟨S16x128x128, .f32⟩
  | 72 => ⟨S16x32x128x128, .f32⟩
  | 73 => ⟨S32x128x16x128, .f32⟩
  | 74 => ⟨S128x16, .f32⟩
  | 75 => ⟨S1x128x16x1, .f32⟩
  | 76 => ⟨S32x128x16x128, .f32⟩
  | 77 => ⟨S32x128x16x128, .f32⟩
  | 78 => ⟨S4096x2048, .f32⟩
  | 79 => ⟨S4096x2048, .f32⟩
  | 80 => ⟨S4096x2048, .f32⟩
  | 81 => ⟨S4096x2048, .f32⟩
  | 82 => ⟨S4096x2048, .f32⟩
  | 83 => ⟨S32x128x16x128, .f32⟩
  | 84 => ⟨S_, .f32⟩
  | 85 => ⟨S128x16, .f32⟩
  | 86 => ⟨S1x128x16x1, .f32⟩
  | 87 => ⟨S_, .f32⟩
  | 88 => ⟨S128x16, .f32⟩
  | 89 => ⟨S16x128, .f32⟩
  | 90 => ⟨S16x32x128x128, .f32⟩
  | 91 => ⟨S16x128x128, .f32⟩
  | 92 => ⟨S16x32x128x128, .f32⟩
  | 93 => ⟨S32x128x16x128, .f32⟩
  | 94 => ⟨S16x128x128, .f32⟩
  | 95 => ⟨S16x128x128, .f32⟩
  | 96 => ⟨S4096x2048, .f32⟩
  | 97 => ⟨S4096x2048, .f32⟩
  | 98 => ⟨S_, .f32⟩
  | 99 => ⟨S2048, .f32⟩
  | 100 => ⟨S1x2048, .f32⟩
  | 101 => ⟨S4096x2048, .f32⟩
  | 102 => ⟨S4096x2048, .f32⟩
  | 103 => ⟨S_, .f32⟩
  | 104 => ⟨S2048, .f32⟩
  | 105 => ⟨S4096x2048, .f32⟩
  | 106 => ⟨S_, .f32⟩
  | 107 => ⟨S4096, .f32⟩
  | 108 => ⟨S4096x1, .f32⟩
  | 109 => ⟨S4096x2048, .f32⟩
  | 110 => ⟨S4096x2048, .f32⟩
  | 111 => ⟨S4096x1, .f32⟩
  | 112 => ⟨S_, .f32⟩
  | 113 => ⟨S4096x1, .f32⟩
  | 114 => ⟨S4096x1, .f32⟩
  | 115 => ⟨S_, .f32⟩
  | 116 => ⟨S4096, .f32⟩
  | 117 => ⟨S4096x2048, .f32⟩
  | 118 => ⟨S4096x2048, .f32⟩
  | 119 => ⟨S4096x2048, .f32⟩
  | 120 => ⟨S4096x2048, .f32⟩
  | 121 => ⟨S4096x2048, .f32⟩
  | 122 => ⟨S_, .f32⟩
  | 123 => ⟨S4096x4096, .f32⟩
  | 124 => ⟨S_, .f32⟩
  | 125 => ⟨S4096x4096, .f32⟩
  | 126 => ⟨S4096x4096, .f32⟩
  | 127 => ⟨S4096x4096, .f32⟩
  | _ => ⟨S4096x4096, .f32⟩

abbrev hbmTy0_1 (i : Nat) : BufTy := match i % 128 with
  | 0 => ⟨S4096x4096, .f32⟩
  | 1 => ⟨S_, .f32⟩
  | 2 => ⟨S4096x4096, .f32⟩
  | 3 => ⟨S4096x4096, .f32⟩
  | 4 => ⟨S4096x4096, .f32⟩
  | 5 => ⟨S_, .f32⟩
  | 6 => ⟨S4096x4096, .f32⟩
  | 7 => ⟨S4096x4096, .f32⟩
  | 8 => ⟨S4096x4096, .f32⟩
  | 9 => ⟨S4096x4096, .f32⟩
  | 10 => ⟨S4096x4096, .f32⟩
  | 11 => ⟨S4096x4096, .f32⟩
  | 12 => ⟨S4096x4096, .f32⟩
  | 13 => ⟨S4096x4096, .bf16⟩
  | 14 => ⟨S128x16, .f32⟩
  | 15 => ⟨S128x16x128, .f32⟩
  | 16 => ⟨S128x2048, .f32⟩
  | 17 => ⟨S8x2048, .f32⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_10 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_11 : Ref sig .tc := ⟨.hbm, 58, rfl⟩
abbrev main_v41 : Ref sig .tc := ⟨.hbm, 59, rfl⟩
abbrev main_call0_v0 : Ref sig .tc := ⟨.hbm, 60, rfl⟩
abbrev main_call0_c : Ref sig .tc := ⟨.hbm, 61, rfl⟩
abbrev main_call0_v1 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_call0_cst : Ref sig .tc := ⟨.hbm, 66, rfl⟩
abbrev main_call0_v5 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_12 : Ref sig .tc := ⟨.hbm, 84, rfl⟩
abbrev main_v58 : Ref sig .tc := ⟨.hbm, 85, rfl⟩
abbrev main_v59 : Ref sig .tc := ⟨.hbm, 86, rfl⟩
abbrev main_cst_13 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_14 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_15 : Ref sig .tc := ⟨.hbm, 103, rfl⟩
abbrev main_v74 : Ref sig .tc := ⟨.hbm, 104, rfl⟩
abbrev main_v75 : Ref sig .tc := ⟨.hbm, 105, rfl⟩
abbrev main_cst_16 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_17 : Ref sig .tc := ⟨.hbm, 112, rfl⟩
abbrev main_v81 : Ref sig .tc := ⟨.hbm, 113, rfl⟩
abbrev main_v82 : Ref sig .tc := ⟨.hbm, 114, rfl⟩
abbrev main_cst_18 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_cst_20 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_21 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_22 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩

abbrev nD : Nat := 1
abbrev τ : Topo := Topo.v7x

variable {F : FTy → Type} [FloatOps F]
-- ==== Kernel2.lean ====
abbrev S4096x5632 : Shape := ⟨2, ![4096, 5632]⟩
abbrev S4096x2048 : Shape := ⟨2, ![4096, 2048]⟩
abbrev S4096x8x704 : Shape := ⟨3, ![4096, 8, 704]⟩
abbrev S8x4096x704 : Shape := ⟨3, ![8, 4096, 704]⟩
abbrev S8x704x2048 : Shape := ⟨3, ![8, 704, 2048]⟩
abbrev S1x1024x704 : Shape := ⟨3, ![1, 1024, 704]⟩
abbrev S1024x2048 : Shape := ⟨2, ![1024, 2048]⟩
abbrev S1x704x2048 : Shape := ⟨3, ![1, 704, 2048]⟩
abbrev S704x2048 : Shape := ⟨2, ![704, 2048]⟩
abbrev S1024x704 : Shape := ⟨2, ![1024, 704]⟩

abbrev nBuf : Space → Nat
  | .hbm => 5
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S4096x8x704, .bf16⟩
  | .hbm, ⟨3, _⟩ => ⟨S8x4096x704, .bf16⟩
  | .hbm, ⟨4, _⟩ => ⟨S8x704x2048, .bf16⟩
  | .local _ .vmem, ⟨0, _⟩ => ⟨S1x1024x704, .bf16⟩
  | .local _ .vmem, ⟨1, _⟩ => ⟨S1x1024x704, .bf16⟩
  | .local _ .vmem, ⟨2, _⟩ => ⟨S1024x2048, .bf16⟩
  | .local _ .vmem, ⟨3, _⟩ => ⟨S1024x2048, .bf16⟩
  | .local _ .vmem, ⟨4, _⟩ => ⟨S1x704x2048, .bf16⟩
  | .local _ .vmem, ⟨5, _⟩ => ⟨S1x704x2048, .bf16⟩
  | .local _ .vmem, ⟨6, _⟩ => ⟨S704x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_9 : BitVec 32 := 0#32
  let v14 : BitVec 1 := Scalar.cmpi .ne v13 c0_i32_9
  v14

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S4096x5632 : Shape := ⟨2, ![4096, 5632]⟩
abbrev S4096x2048 : Shape := ⟨2, ![4096, 2048]⟩
abbrev S2048x5632 : Shape := ⟨2, ![2048, 5632]⟩
abbrev S5632x2048 : Shape := ⟨2, ![5632, 2048]⟩
abbrev S8x704x2048 : Shape := ⟨3, ![8, 704, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S4096x5632, .f32⟩
  | .hbm, ⟨3, _⟩ => ⟨S4096x2048, .f32⟩
  | .hbm, ⟨4, _⟩ => ⟨S2048x5632, .f32⟩
  | .hbm, ⟨5, _⟩ => ⟨S5632x2048, .f32⟩
  | .hbm, ⟨6, _⟩ => ⟨S5632x2048, .bf16⟩
  | .hbm, ⟨7, _⟩ => ⟨S8x704x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel3.lean ====
abbrev S4096x2048 : Shape := ⟨2, ![4096, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S8x704x2048 : Shape := ⟨3, ![8, 704, 2048]⟩
abbrev S8x4096x704 : Shape := ⟨3, ![8, 4096, 704]⟩
abbrev S512x2048 : Shape := ⟨2, ![512, 2048]⟩
abbrev S1x704x2048 : Shape := ⟨3, ![1, 704, 2048]⟩
abbrev S1x512x704 : Shape := ⟨3, ![1, 512, 704]⟩
abbrev S512 : Shape := ⟨1, ![512]⟩
abbrev S512x1 : Shape := ⟨2, ![512, 1]⟩
abbrev S704x2048 : Shape := ⟨2, ![704, 2048]⟩
abbrev S512x704 : Shape := ⟨2, ![512, 704]⟩

abbrev nBuf : Space → Nat
  | .hbm => 19
  | .vmem => 20
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S1x2048, .f32⟩
  | .hbm, ⟨6, _⟩ => ⟨S5632x2048, .f32⟩
  | .hbm, ⟨7, _⟩ => ⟨S8x704x2048, .f32⟩
  | .hbm, ⟨8, _⟩ => ⟨S8x704x2048, .bf16⟩
  | .hbm, ⟨9, _⟩ => ⟨S5632x2048, .f32⟩
  | .hbm, ⟨10, _⟩ => ⟨S8x704x2048, .f32⟩
  | .hbm, ⟨11, _⟩ => ⟨S8x704x2048, .bf16⟩
  | .hbm, ⟨12, _⟩ => ⟨S8x704x2048, .f32⟩
  | .hbm, ⟨13, _⟩ => ⟨S8x704x2048, .bf16⟩
  | .hbm, ⟨14, _⟩ => ⟨S4096x2048, .f32⟩
  | .hbm, ⟨15, _⟩ => ⟨S4096x2048, .bf16⟩
  | .hbm, ⟨16, _⟩ => ⟨S8x4096x704, .bf16⟩
  | .hbm, ⟨17, _⟩ => ⟨S8x4096x704, .bf16⟩
  | .hbm, ⟨18, _⟩ => ⟨S8x4096x704, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x704x2048, .bf16⟩
  | .local _ .vmem, ⟨4, _⟩ => ⟨S1x704x2048, .bf16⟩
  | .local _ .vmem, ⟨5, _⟩ => ⟨S1x704x2048, .bf16⟩
  | .local _ .vmem, ⟨6, _⟩ => ⟨S1x704x2048, .bf16⟩
  | .local _ .vmem, ⟨7, _⟩ => ⟨S1x704x2048, .bf16⟩
  | .local _ .vmem, ⟨8, _⟩ => ⟨S1x704x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S1x512x704, .bf16⟩
  | .local _ .vmem, ⟨14, _⟩ => ⟨S1x512x704, .bf16⟩
  | .local _ .vmem, ⟨15, _⟩ => ⟨S1x512x704, .bf16⟩
  | .local _ .vmem, ⟨16, _⟩ => ⟨S1x512x704, .bf16⟩
  | .local _ .vmem, ⟨17, _⟩ => ⟨S1x512x704, .bf16⟩
  | .local _ .vmem, ⟨18, _⟩ => ⟨S1x512x704, .bf16⟩
  | .local _ .vmem, ⟨19, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v9_3 : Ref sig .tc := ⟨.hbm, 17, rfl⟩
abbrev main_v9_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v41 : BitVec 1 := Scalar.cmpi .eq arg1 c7_i32
  let v42 : BitVec 32 := Scalar.extui v41
  let c0_i32_28 : BitVec 32 := 0#32
  let v43 : BitVec 1 := Scalar.cmpi .ne v42 c0_i32_28
  v43

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x704x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x704x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference3Ideal.lean ====
abbrev S4096x2048 : Shape := ⟨2, ![4096, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S4096x5632 : Shape := ⟨2, ![4096, 5632]⟩
abbrev S4096x8x704 : Shape := ⟨3, ![4096, 8, 704]⟩
abbrev S8x4096x704 : Shape := ⟨3, ![8, 4096, 704]⟩

abbrev nBuf : Space → Nat
  | .hbm => 59
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x2048, .f32⟩
  | .hbm, ⟨17, _⟩ => ⟨S4096x2048, .f32⟩
  | .hbm, ⟨18, _⟩ => ⟨S1x2048, .f32⟩
  | .hbm, ⟨19, _⟩ => ⟨S4096x2048, .f32⟩
  | .hbm, ⟨20, _⟩ => ⟨S4096x2048, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S_, .f32⟩
  | .hbm, ⟨26, _⟩ => ⟨S4096x5632, .f32⟩
  | .hbm, ⟨27, _⟩ => ⟨S4096x5632, .f32⟩
  | .hbm, ⟨28, _⟩ => ⟨S_, .f32⟩
  | .hbm, ⟨29, _⟩ => ⟨S4096x5632, .f32⟩
  | .hbm, ⟨30, _⟩ => ⟨S4096x5632, .f32⟩
  | .hbm, ⟨31, _⟩ => ⟨S_, .f32⟩
  | .hbm, ⟨32, _⟩ => ⟨S4096x5632, .f32⟩
  | .hbm, ⟨33, _⟩ => ⟨S4096x5632, .f32⟩
  | .hbm, ⟨34, _⟩ => ⟨S4096x5632, .f32⟩
  | .hbm, ⟨35, _⟩ => ⟨S4096x5632, .f32⟩
  | .hbm, ⟨36, _⟩ => ⟨S4096x5632, .f32⟩
  | .hbm, ⟨37, _⟩ => ⟨S4096x2048, .f32⟩
  | .hbm, ⟨38, _⟩ => ⟨S_, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .bf16⟩
  | .hbm, ⟨43, _⟩ => ⟨S4096x5632, .bf16⟩
  | .hbm, ⟨44, _⟩ => ⟨S4096x8x704, .bf16⟩
  | .hbm, ⟨45, _⟩ => ⟨S8x4096x704, .bf16⟩
  | .hbm, ⟨46, _⟩ => ⟨S_, .f32⟩
  | .hbm, ⟨47, _⟩ => ⟨S4096x5632, .f32⟩
  | .hbm, ⟨48, _⟩ => ⟨S4096x5632, .f32⟩
  | .hbm, ⟨49, _⟩ => ⟨S4096x5632, .f32⟩
  | .hbm, ⟨50, _⟩ => ⟨S4096x5632, .f32⟩
  | .hbm, ⟨51, _⟩ => ⟨S4096x5632, .f32⟩
  | .hbm, ⟨52, _⟩ => ⟨S4096x5632, .f32⟩
  | .hbm, ⟨53, _⟩ => ⟨S4096x5632, .bf16⟩
  | .hbm, ⟨54, _⟩ => ⟨S4096x8x704, .bf16⟩
  | .hbm, ⟨55, _⟩ => ⟨S8x4096x704, .bf16⟩
  | .hbm, ⟨56, _⟩ => ⟨S4096x5632, .bf16⟩
  | .hbm, ⟨57, _⟩ => ⟨S4096x8x704, .bf16⟩
  | .hbm, ⟨58, _⟩ => ⟨S8x4096x704, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_v15_2 : Ref sig .tc := ⟨.hbm, 30, rfl⟩
abbrev main_call0_cst_1 : Ref sig .tc := ⟨.hbm, 31, rfl⟩
abbrev main_call0_v6 : Ref sig .tc := ⟨.hbm, 32, rfl⟩
abbrev main_call0_v7 : Ref sig .tc := ⟨.hbm, 33, rfl⟩
abbrev main_v15_1 : Ref sig .tc := ⟨.hbm, 34, rfl⟩
abbrev main_v15_0 : Ref sig .tc := ⟨.hbm, 35, rfl⟩
abbrev main_v16 : Ref sig .tc := ⟨.hbm, 36, rfl⟩
abbrev main_v17 : Ref sig .tc := ⟨.hbm, 37, rfl⟩
abbrev main_cst_2 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩

abbrev nD : Nat := 1
abbrev τ : Topo := Topo.v7x

variable {F : FTy → Type} [FloatOps F]
-- ==== Kernel4.lean ====
abbrev S4096x2048 : Shape := ⟨2, ![4096, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S4096x5632 : Shape := ⟨2, ![4096, 5632]⟩
abbrev S4096x8x704 : Shape := ⟨3, ![4096, 8, 704]⟩
abbrev S8x4096x704 : Shape := ⟨3, ![8, 4096, 704]⟩
abbrev S8x704x2048 : Shape := ⟨3, ![8, 704, 2048]⟩
abbrev S8x2048 : Shape := ⟨2, ![8, 2048]⟩
abbrev S512x2048 : Shape := ⟨2, ![512, 2048]⟩
abbrev S1x512x704 : Shape := ⟨3, ![1, 512, 704]⟩
abbrev S1x704x2048 : Shape := ⟨3, ![1, 704, 2048]⟩
abbrev S704x2048 : Shape := ⟨2, ![704, 2048]⟩
abbrev S512x704 : Shape := ⟨2, ![512, 704]⟩
abbrev S512 : Shape := ⟨1, ![512]⟩
abbrev S512x1 : Shape := ⟨2, ![512, 1]⟩

abbrev nBuf : Space → Nat
  | .hbm => 64
  | .vmem => 21
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x2048, .f32⟩
  | .hbm, ⟨18, _⟩ => ⟨S4096x2048, .f32⟩
  | .hbm, ⟨19, _⟩ => ⟨S1x2048, .f32⟩
  | .hbm, ⟨20, _⟩ => ⟨S4096x2048, .f32⟩
  | .hbm, ⟨21, _⟩ => ⟨S4096x2048, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S_, .f32⟩
  | .hbm, ⟨27, _⟩ => ⟨S4096x5632, .f32⟩
  | .hbm, ⟨28, _⟩ => ⟨S4096x5632, .f32⟩
  | .hbm, ⟨29, _⟩ => ⟨S_, .f32⟩
  | .hbm, ⟨30, _⟩ => ⟨S4096x5632, .f32⟩
  | .hbm, ⟨31, _⟩ => ⟨S4096x5632, .f32⟩
  | .hbm, ⟨32, _⟩ => ⟨S_, .f32⟩
  | .hbm, ⟨33, _⟩ => ⟨S4096x5632, .f32⟩
  | .hbm, ⟨34, _⟩ => ⟨S4096x5632, .f32⟩
  | .hbm, ⟨35, _⟩ => ⟨S4096x5632, .f32⟩
  | .hbm, ⟨36, _⟩ => ⟨S4096x5632, .f32⟩
  | .hbm, ⟨37, _⟩ => ⟨S_, .f32⟩
  | .hbm, ⟨38, _⟩ => ⟨S4096x5632, .f32⟩
  | .hbm, ⟨39, _⟩ => ⟨S4096x5632, .f32⟩
  | .hbm, ⟨40, _⟩ => ⟨S4096x5632, .f32⟩
  | .hbm, ⟨41, _⟩ => ⟨S4096x5632, .f32⟩
  | .hbm, ⟨42, _⟩ => ⟨S4096x5632, .f32⟩
  | .hbm, ⟨43, _⟩ => ⟨S4096x5632, .f32⟩
  | .hbm, ⟨44, _⟩ => ⟨S4096x5632, .bf16⟩
  | .hbm, ⟨45, _⟩ => ⟨S4096x8x704, .bf16⟩
  | .hbm, ⟨46, _⟩ => ⟨S8x4096x704, .bf16⟩
  | .hbm, ⟨47, _⟩ => ⟨S4096x5632, .bf16⟩
  | .hbm, ⟨48, _⟩ => ⟨S4096x8x704, .bf16⟩
  | .hbm, ⟨49, _⟩ => ⟨S8x4096x704, .bf16⟩
  | .hbm, ⟨50, _⟩ => ⟨S1x2048, .f32⟩
  | .hbm, ⟨51, _⟩ => ⟨S5632x2048, .f32⟩
  | .hbm, ⟨52, _⟩ => ⟨S8x704x2048, .f32⟩
  | .hbm, ⟨53, _⟩ => ⟨S8x704x2048, .bf16⟩
  | .hbm, ⟨54, _⟩ => ⟨S5632x2048, .f32⟩
  | .hbm, ⟨55, _⟩ => ⟨S8x704x2048, .f32⟩
  | .hbm, ⟨56, _⟩ => ⟨S8x704x2048, .bf16⟩
  | .hbm, ⟨57, _⟩ => ⟨S8x704x2048, .f32⟩
  | .hbm, ⟨58, _⟩ => ⟨S8x704x2048, .bf16⟩
  | .hbm, ⟨59, _⟩ => ⟨S4096x2048, .f32⟩
  | .hbm, ⟨60, _⟩ => ⟨S8x4096x704, .bf16⟩
  | .hbm, ⟨61, _⟩ => ⟨S8x4096x704, .bf16⟩
  | .hbm, ⟨62, _⟩ => ⟨S4096x2048, .bf16⟩
  | .hbm, ⟨63, _⟩ => ⟨S8x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x512x704, .bf16⟩
  | .local _ .vmem, ⟨4, _⟩ => ⟨S1x512x704, .bf16⟩
  | .local _ .vmem, ⟨5, _⟩ => ⟨S1x512x704, .bf16⟩
  | .local _ .vmem, ⟨6, _⟩ => ⟨S1x512x704, .bf16⟩
  | .local _ .vmem, ⟨7, _⟩ => ⟨S1x704x2048, .bf16⟩
  | .local _ .vmem, ⟨8, _⟩ => ⟨S1x704x2048, .bf16⟩
  | .local _ .vmem, ⟨9, _⟩ => ⟨S1x704x2048, .bf16⟩
  | .local _ .vmem, ⟨10, _⟩ => ⟨S1x704x2048, .bf16⟩
  | .local _ .vmem, ⟨11, _⟩ => ⟨S1x704x2048, .bf16⟩
  | .local _ .vmem, ⟨12, _⟩ => ⟨S1x704x2048, .bf16⟩
  | .local _ .vmem, ⟨13, _⟩ => ⟨S512x2048, .f32⟩
  | .local _ .vmem, ⟨14, _⟩ => ⟨S1x512x704, .bf16⟩
  | .local _ .vmem, ⟨15, _⟩ => ⟨S1x512x704, .bf16⟩
  | .local _ .vmem, ⟨16, _⟩ => ⟨S1x512x704, .bf16⟩
  | .local _ .vmem, ⟨17, _⟩ => ⟨S1x512x704, .bf16⟩
  | .local _ .vmem, ⟨18, _⟩ => ⟨S512x2048, .bf16⟩
  | .local _ .vmem, ⟨19, _⟩ => ⟨S8x2048, .f32⟩
  | .local _ .vmem, ⟨20, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_v15_2 : Ref sig .tc := ⟨.hbm, 31, rfl⟩
abbrev main_call0_cst_1 : Ref sig .tc := ⟨.hbm, 32, rfl⟩
abbrev main_call0_v6 : Ref sig .tc := ⟨.hbm, 33, rfl⟩
abbrev main_call0_v7 : Ref sig .tc := ⟨.hbm, 34, rfl⟩
abbrev main_v15_1 : Ref sig .tc := ⟨.hbm, 35, rfl⟩
abbrev main_v15_0 : Ref sig .tc := ⟨.hbm, 36, rfl⟩
abbrev main_cst_2 : Ref sig .tc := ⟨.hbm, 37, rfl⟩
abbrev main_v16 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34_0 : Ref sig .tc := ⟨.hbm, 59, rfl⟩
abbrev main_v34_1 : Ref sig .tc := ⟨.hbm, 60, rfl⟩
abbrev main_v34_2 : Ref sig .tc := ⟨.hbm, 61, rfl⟩
abbrev main_v34_3 : Ref sig .tc := ⟨.hbm, 62, rfl⟩
abbrev main_v34_4 : Ref sig .tc := ⟨.hbm, 63, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_scratch0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v40 : BitVec 1 := Scalar.cmpi .eq arg1 c7_i32
  let v41 : BitVec 32 := Scalar.extui v40
  let c0_i32_33 : BitVec 32 := 0#32
  let v42 : BitVec 1 := Scalar.cmpi .ne v41 c0_i32_33
  v42

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond3 (i : grid0.Coords) : BitVec 1 :=
  let arg0 : BitVec 32 := BitVec.ofNat 32 (i 0).val
  let c0_i32_50 : BitVec 32 := 0#32
  let v75 : BitVec 1 := Scalar.cmpi .eq arg0 c0_i32_50
  let v78 : BitVec 32 := Scalar.extui v75
  let c0_i32_51 : BitVec 32 := 0#32
  let v79 : BitVec 1 := Scalar.cmpi .ne v78 c0_i32_51
  v79

def k0_cond4 (i : grid0.Coords) : BitVec 1 :=
  let arg0 : BitVec 32 := BitVec.ofNat 32 (i 0).val
  let c0_i32_50 : BitVec 32 := 0#32
  let v75 : BitVec 1 := Scalar.cmpi .eq arg0 c0_i32_50
  let v_true : BitVec 1 := 1#1
  let v80 : BitVec 1 := Scalar.xori v75 v_true
  let v81 : BitVec 32 := Scalar.extui v80
  let c0_i32_52 : BitVec 32 := 0#32
  let v82 : BitVec 1 := Scalar.cmpi .ne v81 c0_i32_52
  v82

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x704x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x704x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x704x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S512x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 2 → Memref sig .tc .vmem S1x512x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S512x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]

abbrev stage0_12 : Fin 1 → Memref sig .tc .vmem S8x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== Reference4Ideal.lean ====
abbrev S4096x2048 : Shape := ⟨2, ![4096, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S4096x5632 : Shape := ⟨2, ![4096, 5632]⟩
abbrev S4096 : Shape := ⟨1, ![4096]⟩
abbrev S4096x1 : Shape := ⟨2, ![4096, 1]⟩
abbrev S1x2048 : Shape := ⟨2, ![1, 2048]⟩
abbrev S4096x8x704 : Shape := ⟨3, ![4096, 8, 704]⟩
abbrev S8x4096x704 : Shape := ⟨3, ![8, 4096, 704]⟩
abbrev S8x2048 : Shape := ⟨2, ![8, 2048]⟩

abbrev nBuf : Space → Nat
  | .hbm => 102
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S4096x2048, .f32⟩
  | .hbm, ⟨6, _⟩ => ⟨S_, .f32⟩
  | .hbm, ⟨7, _⟩ => ⟨S4096x5632, .f32⟩
  | .hbm, ⟨8, _⟩ => ⟨S4096x2048, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x2048, .f32⟩
  | .hbm, ⟨24, _⟩ => ⟨S4096x2048, .f32⟩
  | .hbm, ⟨25, _⟩ => ⟨S1x2048, .f32⟩
  | .hbm, ⟨26, _⟩ => ⟨S4096x2048, .f32⟩
  | .hbm, ⟨27, _⟩ => ⟨S4096x2048, .f32⟩
  | .hbm, ⟨28, _⟩ => ⟨S4096x5632, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S_, .f32⟩
  | .hbm, ⟨33, _⟩ => ⟨S4096x5632, .f32⟩
  | .hbm, ⟨34, _⟩ => ⟨S4096x5632, .f32⟩
  | .hbm, ⟨35, _⟩ => ⟨S_, .f32⟩
  | .hbm, ⟨36, _⟩ => ⟨S4096x5632, .f32⟩
  | .hbm, ⟨37, _⟩ => ⟨S4096x5632, .f32⟩
  | .hbm, ⟨38, _⟩ => ⟨S_, .f32⟩
  | .hbm, ⟨39, _⟩ => ⟨S4096x5632, .f32⟩
  | .hbm, ⟨40, _⟩ => ⟨S4096x5632, .f32⟩
  | .hbm, ⟨41, _⟩ => ⟨S4096x5632, .f32⟩
  | .hbm, ⟨42, _⟩ => ⟨S4096x5632, .f32⟩
  | .hbm, ⟨43, _⟩ => ⟨S4096x5632, .f32⟩
  | .hbm, ⟨44, _⟩ => ⟨S4096x5632, .f32⟩
  | .hbm, ⟨45, _⟩ => ⟨S4096x5632, .f32⟩
  | .hbm, ⟨46, _⟩ => ⟨S4096x2048, .f32⟩
  | .hbm, ⟨47, _⟩ => ⟨S_, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S4096x2048, .f32⟩
  | .hbm, ⟨54, _⟩ => ⟨S4096x2048, .f32⟩
  | .hbm, ⟨55, _⟩ => ⟨S4096x5632, .f32⟩
  | .hbm, ⟨56, _⟩ => ⟨S4096x5632, .f32⟩
  | .hbm, ⟨57, _⟩ => ⟨S4096x5632, .f32⟩
  | .hbm, ⟨58, _⟩ => ⟨S4096x2048, .f32⟩
  | .hbm, ⟨59, _⟩ => ⟨S4096x5632, .f32⟩
  | .hbm, ⟨60, _⟩ => ⟨S4096x5632, .f32⟩
  | .hbm, ⟨61, _⟩ => ⟨S4096x5632, .f32⟩
  | .hbm, ⟨62, _⟩ => ⟨S4096x5632, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S_, .f32⟩
  | .hbm, ⟨67, _⟩ => ⟨S2048, .f32⟩
  | .hbm, ⟨68, _⟩ => ⟨S1x2048, .f32⟩
  | .hbm, ⟨69, _⟩ => ⟨S4096x2048, .f32⟩
  | .hbm, ⟨70, _⟩ => ⟨S4096x2048, .f32⟩
  | .hbm, ⟨71, _⟩ => ⟨S_, .f32⟩
  | .hbm, ⟨72, _⟩ => ⟨S2048, .f32⟩
  | .hbm, ⟨73, _⟩ => ⟨S4096x2048, .f32⟩
  | .hbm, ⟨74, _⟩ => ⟨S_, .f32⟩
  | .hbm, ⟨75, _⟩ => ⟨S4096, .f32⟩
  | .hbm, ⟨76, _⟩ => ⟨S4096x1, .f32⟩
  | .hbm, ⟨77, _⟩ => ⟨S4096x2048, .f32⟩
  | .hbm, ⟨78, _⟩ => ⟨S4096x2048, .f32⟩
  | .hbm, ⟨79, _⟩ => ⟨S4096x2048, .f32⟩
  | .hbm, ⟨80, _⟩ => ⟨S4096x1, .f32⟩
  | .hbm, ⟨81, _⟩ => ⟨S_, .f32⟩
  | .hbm, ⟨82, _⟩ => ⟨S4096x1, .f32⟩
  | .hbm, ⟨83, _⟩ => ⟨S4096x1, .f32⟩
  | .hbm, ⟨84, _⟩ => ⟨S_, .f32⟩
  | .hbm, ⟨85, _⟩ => ⟨S4096, .f32⟩
  | .hbm, ⟨86, _⟩ => ⟨S4096x2048, .f32⟩
  | .hbm, ⟨87, _⟩ => ⟨S4096x2048, .f32⟩
  | .hbm, ⟨88, _⟩ => ⟨S4096x2048, .f32⟩
  | .hbm, ⟨89, _⟩ => ⟨S4096x2048, .f32⟩
  | .hbm, ⟨90, _⟩ => ⟨S4096x2048, .f32⟩
  | .hbm, ⟨91, _⟩ => ⟨S4096x5632, .bf16⟩
  | .hbm, ⟨92, _⟩ => ⟨S4096x8x704, .bf16⟩
  | .hbm, ⟨93, _⟩ => ⟨S8x4096x704, .bf16⟩
  | .hbm, ⟨94, _⟩ => ⟨S4096x5632, .bf16⟩
  | .hbm, ⟨95, _⟩ => ⟨S4096x8x704, .bf16⟩
  | .hbm, ⟨96, _⟩ => ⟨S8x4096x704, .bf16⟩
  | .hbm, ⟨97, _⟩ => ⟨S_, .f32⟩
  | .hbm, ⟨98, _⟩ => ⟨S4096x2048, .f32⟩
  | .hbm, ⟨99, _⟩ => ⟨S4096x2048, .f32⟩
  | .hbm, ⟨100, _⟩ => ⟨S4096x2048, .bf16⟩
  | .hbm, ⟨101, _⟩ => ⟨S8x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v19_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v19_1 : Ref sig .tc := ⟨.hbm, 41, rfl⟩
abbrev main_v19_0 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_5 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_6 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_7 : Ref sig .tc := ⟨.hbm, 71, rfl⟩
abbrev main_v42 : Ref sig .tc := ⟨.hbm, 72, rfl⟩
abbrev main_v43 : Ref sig .tc := ⟨.hbm, 73, rfl⟩
abbrev main_cst_8 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_9 : Ref sig .tc := ⟨.hbm, 81, rfl⟩
abbrev main_v50 : Ref sig .tc := ⟨.hbm, 82, rfl⟩
abbrev main_v51 : Ref sig .tc := ⟨.hbm, 83, rfl⟩
abbrev main_cst_10 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_11 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩

abbrev nD : Nat := 1
abbrev τ : Topo := Topo.v7x

variable {F : FTy → Type} [FloatOps F]
-- ==== Kernel5.lean ====
abbrev S4096x2048 : Shape := ⟨2, ![4096, 2048]⟩
abbrev S8x256x2048 : Shape := ⟨3, ![8, 256, 2048]⟩
abbrev S1024x256 : Shape := ⟨2, ![1024, 256]⟩
abbrev S1024x2048 : Shape := ⟨2, ![1024, 2048]⟩
abbrev S1x256x2048 : Shape := ⟨3, ![1, 256, 2048]⟩
abbrev S256x2048 : Shape := ⟨2, ![256, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S8x256x2048, .bf16⟩
  | .local _ .vmem, ⟨0, _⟩ => ⟨S1024x256, .bf16⟩
  | .local _ .vmem, ⟨1, _⟩ => ⟨S1024x256, .bf16⟩
  | .local _ .vmem, ⟨2, _⟩ => ⟨S1024x2048, .f32⟩
  | .local _ .vmem, ⟨3, _⟩ => ⟨S1024x2048, .f32⟩
  | .local _ .vmem, ⟨4, _⟩ => ⟨S1x256x2048, .bf16⟩
  | .local _ .vmem, ⟨5, _⟩ => ⟨S1x256x2048, .bf16⟩
  | .local _ .vmem, ⟨6, _⟩ => ⟨S256x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S4096x2048 : Shape := ⟨2, ![4096, 2048]⟩
abbrev S2048x2048 : Shape := ⟨2, ![2048, 2048]⟩
abbrev S8x256x2048 : Shape := ⟨3, ![8, 256, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S4096x2048, .f32⟩
  | .hbm, ⟨3, _⟩ => ⟨S2048x2048, .f32⟩
  | .hbm, ⟨4, _⟩ => ⟨S2048x2048, .f32⟩
  | .hbm, ⟨5, _⟩ => ⟨S2048x2048, .bf16⟩
  | .hbm, ⟨6, _⟩ => ⟨S8x256x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel6.lean ====
abbrev S4096x2048 : Shape := ⟨2, ![4096, 2048]⟩
abbrev S4096x4096 : Shape := ⟨2, ![4096, 4096]⟩
abbrev S8x2048x512 : Shape := ⟨3, ![8, 2048, 512]⟩
abbrev S1024x2048 : Shape := ⟨2, ![1024, 2048]⟩
abbrev S1024x512 : Shape := ⟨2, ![1024, 512]⟩
abbrev S1x2048x512 : Shape := ⟨3, ![1, 2048, 512]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S8x2048x512, .bf16⟩
  | .local _ .vmem, ⟨0, _⟩ => ⟨S1024x2048, .bf16⟩
  | .local _ .vmem, ⟨1, _⟩ => ⟨S1024x2048, .bf16⟩
  | .local _ .vmem, ⟨2, _⟩ => ⟨S1024x512, .bf16⟩
  | .local _ .vmem, ⟨3, _⟩ => ⟨S1024x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S2048x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S4096x2048 : Shape := ⟨2, ![4096, 2048]⟩
abbrev S4096x4096 : Shape := ⟨2, ![4096, 4096]⟩
abbrev S2048x4096 : Shape := ⟨2, ![2048, 4096]⟩
abbrev S2048x8x512 : Shape := ⟨3, ![2048, 8, 512]⟩
abbrev S8x2048x512 : Shape := ⟨3, ![8, 2048, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S4096x2048, .f32⟩
  | .hbm, ⟨3, _⟩ => ⟨S4096x4096, .f32⟩
  | .hbm, ⟨4, _⟩ => ⟨S4096x2048, .f32⟩
  | .hbm, ⟨5, _⟩ => ⟨S2048x4096, .f32⟩
  | .hbm, ⟨6, _⟩ => ⟨S2048x4096, .bf16⟩
  | .hbm, ⟨7, _⟩ => ⟨S2048x8x512, .bf16⟩
  | .hbm, ⟨8, _⟩ => ⟨S8x2048x512, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel7.lean ====
abbrev S4096x2048 : Shape := ⟨2, ![4096, 2048]⟩
abbrev S4096x6144 : Shape := ⟨2, ![4096, 6144]⟩
abbrev S8x2048x768 : Shape := ⟨3, ![8, 2048, 768]⟩
abbrev S1024x2048 : Shape := ⟨2, ![1024, 2048]⟩
abbrev S1024x768 : Shape := ⟨2, ![1024, 768]⟩
abbrev S1x2048x768 : Shape := ⟨3, ![1, 2048, 768]⟩
abbrev S2048x768 : Shape := ⟨2, ![2048, 768]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S8x2048x768, .bf16⟩
  | .local _ .vmem, ⟨0, _⟩ => ⟨S1024x2048, .bf16⟩
  | .local _ .vmem, ⟨1, _⟩ => ⟨S1024x2048, .bf16⟩
  | .local _ .vmem, ⟨2, _⟩ => ⟨S1024x768, .bf16⟩
  | .local _ .vmem, ⟨3, _⟩ => ⟨S1024x768, .bf16⟩
  | .local _ .vmem, ⟨4, _⟩ => ⟨S1x2048x768, .bf16⟩
  | .local _ .vmem, ⟨5, _⟩ => ⟨S1x2048x768, .bf16⟩
  | .local _ .vmem, ⟨6, _⟩ => ⟨S2048x768, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference7Ideal.lean ====
abbrev S4096x2048 : Shape := ⟨2, ![4096, 2048]⟩
abbrev S4096x6144 : Shape := ⟨2, ![4096, 6144]⟩
abbrev S6144x2048 : Shape := ⟨2, ![6144, 2048]⟩
abbrev S2048x6144 : Shape := ⟨2, ![2048, 6144]⟩
abbrev S2048x8x768 : Shape := ⟨3, ![2048, 8, 768]⟩
abbrev S8x2048x768 : Shape := ⟨3, ![8, 2048, 768]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S4096x2048, .f32⟩
  | .hbm, ⟨3, _⟩ => ⟨S4096x6144, .f32⟩
  | .hbm, ⟨4, _⟩ => ⟨S6144x2048, .f32⟩
  | .hbm, ⟨5, _⟩ => ⟨S2048x6144, .f32⟩
  | .hbm, ⟨6, _⟩ => ⟨S2048x6144, .bf16⟩
  | .hbm, ⟨7, _⟩ => ⟨S2048x8x768, .bf16⟩
  | .hbm, ⟨8, _⟩ => ⟨S8x2048x768, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel8.lean ====
abbrev S4096x2048 : Shape := ⟨2, ![4096, 2048]⟩
abbrev S4096x12288 : Shape := ⟨2, ![4096, 12288]⟩
abbrev S8x2048x1536 : Shape := ⟨3, ![8, 2048, 1536]⟩
abbrev S1024x2048 : Shape := ⟨2, ![1024, 2048]⟩
abbrev S1024x1536 : Shape := ⟨2, ![1024, 1536]⟩
abbrev S1x2048x1536 : Shape := ⟨3, ![1, 2048, 1536]⟩
abbrev S2048x1536 : Shape := ⟨2, ![2048, 1536]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x12288, .bf16⟩
  | .hbm, ⟨2, _⟩ => ⟨S8x2048x1536, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1536, .bf16⟩
  | .local _ .vmem, ⟨3, _⟩ => ⟨S1024x1536, .bf16⟩
  | .local _ .vmem, ⟨4, _⟩ => ⟨S1x2048x1536, .bf16⟩
  | .local _ .vmem, ⟨5, _⟩ => ⟨S1x2048x1536, .bf16⟩
  | .local _ .vmem, ⟨6, _⟩ => ⟨S2048x1536, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference8Ideal.lean ====
abbrev S4096x2048 : Shape := ⟨2, ![4096, 2048]⟩
abbrev S4096x12288 : Shape := ⟨2, ![4096, 12288]⟩
abbrev S12288x2048 : Shape := ⟨2, ![12288, 2048]⟩
abbrev S2048x12288 : Shape := ⟨2, ![2048, 12288]⟩
abbrev S2048x8x1536 : Shape := ⟨3, ![2048, 8, 1536]⟩
abbrev S8x2048x1536 : Shape := ⟨3, ![8, 2048, 1536]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x12288, .bf16⟩
  | .hbm, ⟨2, _⟩ => ⟨S4096x2048, .f32⟩
  | .hbm, ⟨3, _⟩ => ⟨S4096x12288, .f32⟩
  | .hbm, ⟨4, _⟩ => ⟨S12288x2048, .f32⟩
  | .hbm, ⟨5, _⟩ => ⟨S2048x12288, .f32⟩
  | .hbm, ⟨6, _⟩ => ⟨S2048x12288, .bf16⟩
  | .hbm, ⟨7, _⟩ => ⟨S2048x8x1536, .bf16⟩
  | .hbm, ⟨8, _⟩ => ⟨S8x2048x1536, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel9.lean ====
abbrev S4096x2048 : Shape := ⟨2, ![4096, 2048]⟩
abbrev S2048x2048 : Shape := ⟨2, ![2048, 2048]⟩
abbrev S8x256x2048 : Shape := ⟨3, ![8, 256, 2048]⟩
abbrev S512x2048 : Shape := ⟨2, ![512, 2048]⟩
abbrev S512x256 : Shape := ⟨2, ![512, 256]⟩
abbrev S1x256x2048 : Shape := ⟨3, ![1, 256, 2048]⟩
abbrev S256x2048 : Shape := ⟨2, ![256, 2048]⟩

abbrev nBuf : Space → Nat
  | .hbm => 6
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S2048x2048, .f32⟩
  | .hbm, ⟨3, _⟩ => ⟨S8x256x2048, .f32⟩
  | .hbm, ⟨4, _⟩ => ⟨S8x256x2048, .bf16⟩
  | .hbm, ⟨5, _⟩ => ⟨S4096x2048, .f32⟩
  | .local _ .vmem, ⟨0, _⟩ => ⟨S512x2048, .f32⟩
  | .local _ .vmem, ⟨1, _⟩ => ⟨S512x2048, .f32⟩
  | .local _ .vmem, ⟨2, _⟩ => ⟨S512x256, .bf16⟩
  | .local _ .vmem, ⟨3, _⟩ => ⟨S512x256, .bf16⟩
  | .local _ .vmem, ⟨4, _⟩ => ⟨S1x256x2048, .bf16⟩
  | .local _ .vmem, ⟨5, _⟩ => ⟨S1x256x2048, .bf16⟩
  | .local _ .vmem, ⟨6, _⟩ => ⟨S512x2048, .f32⟩
  | .local _ .vmem, ⟨7, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg1 : BitVec 32 := BitVec.ofNat 32 (i 1).val
  let c0_i32_5 : BitVec 32 := 0#32
  let v7 : BitVec 1 := Scalar.cmpi .sgt arg1 c0_i32_5
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference9Ideal.lean ====
abbrev S4096x2048 : Shape := ⟨2, ![4096, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S2048x2048, .f32⟩
  | .hbm, ⟨3, _⟩ => ⟨S4096x2048, .f32⟩
  | .hbm, ⟨4, _⟩ => ⟨S4096x2048, .f32⟩
  | .hbm, ⟨5, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel10.lean ====
abbrev S4096x2048 : Shape := ⟨2, ![4096, 2048]⟩
abbrev S2048x2048 : Shape := ⟨2, ![2048, 2048]⟩
abbrev S8x256x2048 : Shape := ⟨3, ![8, 256, 2048]⟩
abbrev S512x2048 : Shape := ⟨2, ![512, 2048]⟩
abbrev S1x256x2048 : Shape := ⟨3, ![1, 256, 2048]⟩
abbrev S512x256 : Shape := ⟨2, ![512, 256]⟩
abbrev S256x2048 : Shape := ⟨2, ![256, 2048]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S8x256x2048, .f32⟩
  | .hbm, ⟨3, _⟩ => ⟨S8x256x2048, .bf16⟩
  | .hbm, ⟨4, _⟩ => ⟨S4096x2048, .f32⟩
  | .local _ .vmem, ⟨0, _⟩ => ⟨S512x2048, .f32⟩
  | .local _ .vmem, ⟨1, _⟩ => ⟨S512x2048, .f32⟩
  | .local _ .vmem, ⟨2, _⟩ => ⟨S1x256x2048, .bf16⟩
  | .local _ .vmem, ⟨3, _⟩ => ⟨S1x256x2048, .bf16⟩
  | .local _ .vmem, ⟨4, _⟩ => ⟨S512x256, .f32⟩
  | .local _ .vmem, ⟨5, _⟩ => ⟨S512x256, .f32⟩
  | .local _ .vmem, ⟨6, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S4096x2048 : Shape := ⟨2, ![4096, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel11.lean ====
abbrev S4096x2048 : Shape := ⟨2, ![4096, 2048]⟩
abbrev S2048x2048 : Shape := ⟨2, ![2048, 2048]⟩
abbrev S8x256x2048 : Shape := ⟨3, ![8, 256, 2048]⟩
abbrev S512x2048 : Shape := ⟨2, ![512, 2048]⟩
abbrev S1x256x2048 : Shape := ⟨3, ![1, 256, 2048]⟩
abbrev S512x256 : Shape := ⟨2, ![512, 256]⟩
abbrev S256x2048 : Shape := ⟨2, ![256, 2048]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S8x256x2048, .f32⟩
  | .hbm, ⟨3, _⟩ => ⟨S8x256x2048, .bf16⟩
  | .hbm, ⟨4, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x256x2048, .bf16⟩
  | .local _ .vmem, ⟨3, _⟩ => ⟨S1x256x2048, .bf16⟩
  | .local _ .vmem, ⟨4, _⟩ => ⟨S512x256, .bf16⟩
  | .local _ .vmem, ⟨5, _⟩ => ⟨S512x256, .bf16⟩
  | .local _ .vmem, ⟨6, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S4096x2048 : Shape := ⟨2, ![4096, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Wgrad.lean ====
/- The weight gradient's blocks: each point adds one block row's product, and the last of four writes the sum. -/
module

public import proofs.«01_k».proof.Defs
public import proofs.«01_k».proof.Proof.Gen.Kernel2.Frame
public import proofs.«01_k».proof.Proof.Gen.Kernel2Ideal.Value
public import proofs.«01_k».proof.Proof.Gen.Reference2Ideal.Read
public import Idealize.ShloMosaic.Lib.Pipeline.ReadBack
public import Idealize.ShloMosaic.Lib.Pointwise
public import Idealize.ShloMosaic.Lib.Pipeline.ValueKit.Geometry
public import Idealize.ShloMosaic.Lib.Pipeline.ValueKit.Point
public import Idealize.ShloMosaic.Lib.Claim

@[expose] public section

set_option maxRecDepth 16384

noncomputable section

namespace Cert.Kernel2Ideal.Block

open Cert.Kernel2Ideal Cert.Kernel2Ideal.Gen Idealize.ShloMosaic Idealize.ShloMosaic.TcCoe Idealize.SL.Sem

/-- A block row's product at a place. -/
def part (x0 : Vec Ideal S1x1024x704 .bf16) (x1 : Vec Ideal S1024x2048 .bf16) (a : Fin 704) (b : Fin 2048) : EReal :=
  ∑ k : Fin 1024, x0 (ix3 0 k a) * x1 (ix2 k b)

theorem pay2_apply (v : Vec Ideal S704x2048 .f32) (x0 : Vec Ideal S1x1024x704 .bf16) (x1 : Vec Ideal S1024x2048 .bf16) (a : Fin 704) (b : Fin 2048) :
    k0_pay2 v x0 x1 (ix2 a b) = v (ix2 a b) + part x0 x1 a b := by
  unfold k0_pay2
  pointwise
  rfl

theorem pay1_apply (y : S704x2048.Idx) : k0_pay1 (F := Ideal) y = 0 := by
  idx_vars y
  unfold k0_pay1
  pointwise

theorem pay3_apply (v : Vec Ideal S704x2048 .f32) (a : Fin 704) (b : Fin 2048) : k0_pay3 v (ix3 0 a b) = v (ix2 a b) := by
  unfold k0_pay3
  pointwise

variable (m : (ℓ : Loc nD τ sig) → Buf (Elt Ideal) ℓ)

/-- The grid point of a block column and a block row. -/
abbrev tp (j : Fin 8) (r : Fin 4) : Fin cfg0.N := Fin.cast N_0.symm ⟨4 * j.val + r.val, by omega⟩

theorem idx_in : ∀ (j : Fin 8) (r : Fin 4), win0_0.index (tp j r) = ![j.val, r.val, 0] ∧ win0_1.index (tp j r) = ![r.val, 0] := by
  decide +kernel

/-- A row of the whole arrays from its block row and its place. -/
abbrev row (r : Fin 4) (k : Fin 1024) : Fin 4096 := ⟨r.val * 1024 + k.val, by omega⟩

/-- A column of the hidden width from its block and its place. -/
abbrev col (j : Fin 8) (a : Fin 704) : Fin 5632 := ⟨j.val * 704 + a.val, by omega⟩

theorem blk0 (c : Dev nD) (j : Fin 8) (r : Fin 4) (k : Fin 1024) (a : Fin 704) :
    iblk m c 0 (tp j r) (ix3 0 k a) = m ((c : Thread nD τ).loc main_arg0) (ix2 (row r k) (col j a)) := by
  have h : iblk m c 0 (tp j r) (ix3 0 k a) = V m c main_v1 (ix3 j (row r k) a) := by blk_ext [iblk, idx_in j r]
  rw [h]
  entry_read
  pointwise

theorem blk1 (c : Dev nD) (j : Fin 8) (r : Fin 4) (k : Fin 1024) (b : Fin 2048) :
    iblk m c 1 (tp j r) (ix2 k b) = m ((c : Thread nD τ).loc main_arg1) (ix2 (row r k) b) := by
  blk_ext [iblk, V, idx_in j r]

/-- What the scratch holds at a point that is not the last of its four: the products so far. -/
theorem scr (c : Dev nD) (j : Fin 8) (r : ℕ) (h : 4 * j.val + r < cfg0.N) (hr : r < 3) (a : Fin 704) (b : Fin 2048) :
    (outsAt0 m c (4 * j.val + r) h).2 (ix2 a b)
      = ∑ q : Fin (r + 1), part (iblk m c 0 (tp j ⟨q.val, by omega⟩)) (iblk m c 1 (tp j ⟨q.val, by omega⟩)) a b := by
  induction r with
  | zero =>
    rw [Fin.sum_univ_one]
    have e := outsAt0_A m c ⟨4 * j.val + 0, h⟩ (by dsimp only; omega) (by dsimp only; omega)
    dsimp only at e
    rw [e]
    frame_out
    rw [pay2_apply, pay1_apply, zero_add]
    rfl
  | succ r ih =>
    rw [Fin.sum_univ_castSucc]
    have e := outsAt0_B m c ⟨4 * j.val + (r + 1), h⟩ (by dsimp only; omega) (by dsimp only; omega)
    dsimp only at e
    rw [e]
    frame_out
    rw [pay2_apply, Memref.IsWhole.read_unread (m := scM0_0)]
    exact congrArg₂ (· + ·) (ih (by omega) (by omega)) rfl

/-- What the last of four points writes. -/
theorem fin (c : Dev nD) (j : Fin 8) (h : 4 * j.val + 3 < cfg0.N) (a : Fin 704) (b : Fin 2048) :
    (outsAt0 m c (4 * j.val + 3) h).1 (ix3 0 a b)
      = ∑ q : Fin 4, part (iblk m c 0 (tp j q)) (iblk m c 1 (tp j q)) a b := by
  rw [Fin.sum_univ_castSucc]
  have e := outsAt0_C m c ⟨4 * j.val + 3, h⟩ (by dsimp only; omega) (by dsimp only; omega)
  dsimp only at e
  rw [e]
  frame_out
  rw [pay3_apply, pay2_apply, Memref.IsWhole.read_unread (m := scM0_0)]
  exact congrArg₂ (· + ·) (scr m c j 2 (by omega) (by omega) a b) rfl

/-- The gradient of a product in its weights, at a place of a block. -/
def grad (x0 : Vec Ideal S4096x5632 .bf16) (x1 : Vec Ideal S4096x2048 .bf16) (j : Fin 8) (a : Fin 704) (b : Fin 2048) : EReal :=
  ∑ k : Fin 4096, x0 (ix2 k (col j a)) * x1 (ix2 k b)

/-- The result array at a place of a block. -/
theorem arr (c : Dev nD) (j : Fin 8) (a : Fin 704) (b : Fin 2048) :
    Value.G2 m c (ix3 j a b) = grad (m ((c : Thread nD τ).loc main_arg0)) (m ((c : Thread nD τ).loc main_arg1)) j a b := by
  have hlt : 4 * j.val + 3 < cfg0.N := lt_of_lt_of_eq (by omega) N_0.symm
  have hp : Value.pt2Of (ix3 j a b) = 4 * j.val + 3 := by
    show 4 * (1 * (j.val / 1 - 0) + 1 * (a.val / 704 - 0) + 1 * (b.val / 2048 - 0)) + 3 = _
    omega
  have hl : Value.loc2Of (ix3 j a b) = ix3 0 a b := by
    funext x; apply Fin.ext
    match x with
    | ⟨0, _⟩ => show j.val % 1 = 0; omega
    | ⟨1, _⟩ => show a.val % 704 = a.val; omega
    | ⟨2, _⟩ => show b.val % 2048 = b.val; omega
  have hlt' : 0 + (4 * j.val + 3) < cfg0.N := by rw [Nat.zero_add]; exact hlt
  have e : Value.G2 m c (ix3 j a b) = (outsAt0 m c (4 * j.val + 3) hlt).1 (ix3 0 a b) := by
    rw [Value.outsAt0_sweep m c _ hlt, ← hl]
    refine (dif_pos (show Value.pt2Of (ix3 j a b) < cfg0.N from lt_of_eq_of_lt hp hlt)).trans ?_
    rw [Value.fold0_congr m c _ _ (4 * j.val + 3) hlt' hp]
  rw [e, fin]
  unfold grad
  refine Eq.trans ?_ (Fin.sum_univ_tiles (M := EReal) (N := 4096) 4 1024 (by norm_num) _).symm
  refine Finset.sum_congr (M := EReal) rfl fun r _ => ?_
  unfold part
  refine Finset.sum_congr (M := EReal) rfl fun k _ => ?_
  exact congrArg₂ (α := EReal) (β := EReal) (· * ·) (blk0 m c j r k a) (blk1 m c j r k b)

/-- The reference's result at a place of a block. -/
theorem ref (x0 : Vec Ideal S4096x5632 .bf16) (x1 : Vec Ideal S4096x2048 .bf16) (j : Fin 8) (a : Fin 704) (b : Fin 2048) :
    Cert.Reference2Ideal.Read.val_main_v5 (F := Ideal) x0 x1 (ix3 j a b) = grad x0 x1 j a b := by
  rw [Cert.Reference2Ideal.Read.val_main_v5_apply, Cert.Reference2Ideal.Read.val_main_v4_apply, Cert.Reference2Ideal.Read.val_main_v3_apply,
    Cert.Reference2Ideal.Read.val_main_v2_apply]
  show ∑ k : Fin 4096, _ = _
  unfold grad
  refine Finset.sum_congr rfl fun k _ => ?_
  rw [mul_comm]
  refine congrArg₂ (· * ·) (congrArg x0 ?_) (congrArg x1 ?_)
  · funext q; refine Fin.ext ?_
    match q with
    | ⟨0, _⟩ => rfl
    | ⟨1, _⟩ => show ((j.val * 704 + a.val) * 2048 + b.val) / 2048 = j.val * 704 + a.val; omega
  · funext q; refine Fin.ext ?_
    match q with
    | ⟨0, _⟩ => rfl
    | ⟨1, _⟩ => show ((j.val * 704 + a.val) * 2048 + b.val) % 2048 = b.val; omega

end Cert.Kernel2Ideal.Block

namespace Cert.Wgrad

open Idealize.ShloMosaic Idealize.ShloMosaic.TcCoe Idealize.SL.Sem

theorem frame_p : Cert.quiescent_Kernel2 := fun m ρ _ => Cert.Kernel2.Gen.frame m ρ

theorem frame_pi : Cert.quiescent_Kernel2Ideal := fun m ρ _ => Cert.Kernel2Ideal.Gen.frame m ρ

theorem frame_ri : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

theorem preserves : Cert.preserves_Kernel2_Kernel2Ideal := trivial

/-- The two programs leave the same weight gradient. -/
theorem algebraic : Cert.algebraic_Kernel2Ideal_Reference2Ideal := by
  intro m ρ m' ρ' hpre hagree
  refine ⟨_, Cert.Kernel2Ideal.Value.run (F := Ideal) m ρ, ?_⟩
  refine (θ_run Cert.Reference2Ideal.defs _ _).mono (fun r h c => ?_) (Cert.Reference2Ideal.Value.run (F := Ideal) m' ρ')
  obtain ⟨g0, g1⟩ := hagree c
  obtain ⟨r0, rest⟩ := h c
  rw [Cert.Reference2Ideal.Read.val_main_v5_eq, g0, g1] at r0
  refine ⟨r0.trans ?_, rest⟩
  funext i
  change Cert.Kernel2Ideal.S8x704x2048.Idx at i
  idx_vars i
  exact (Cert.Kernel2Ideal.Block.ref _ _ _ _ _).trans (Cert.Kernel2Ideal.Block.arr m c _ _ _).symm

end Cert.Wgrad
-- ==== Proof.FfnFwdRunA.lean ====
module

public import proofs.«01_k».proof.Proof.Gen.Kernel3Ideal.Frame
public import proofs.«01_k».proof.Proof.Gen.Kernel3Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.ValueKit
public import Idealize.ShloMosaic.Lib.VecWindow

@[expose] public section

set_option maxRecDepth 16384

noncomputable section

namespace Cert.FfnFwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

/-! ## The body's branch conditions -/

/-- The condition of the body's `scf.if` 0, from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 8) — by arithmetic of the point. -/
theorem hcond0_0 : ∀ t : Fin cfg0.N, cond0_0 (grid0.coords t) ↔ t.val % 8 = 0 :=
  (fun t => by
    have ht : t.val < 64 := Nat.lt_of_lt_of_eq t.isLt N_0
    have e0 : (grid0.coords t 0).val = t.val / 8 % 8 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 8 = 0)

/-- The condition of the body's `scf.if` 1, from the grid coordinates (the skeleton's scalar
    chain substituted). -/
abbrev cond0_1 (i : grid0.Coords) : Prop := k0_cond2 i = 1#1
/-- It holds at the points ≡ 7 (mod 8) — by arithmetic of the point. -/
theorem hcond0_1 : ∀ t : Fin cfg0.N, cond0_1 (grid0.coords t) ↔ t.val % 8 = 7 :=
  (fun t => by
    have ht : t.val < 64 := Nat.lt_of_lt_of_eq t.isLt N_0
    have e0 : (grid0.coords t 0).val = t.val / 8 % 8 := Pipeline.Grid.coords_val t 0 (by decide) rfl
    have e1 : (grid0.coords t 1).val = t.val / 1 % 8 := Pipeline.Grid.coords_val t 1 (by decide) rfl
    simp only [cond0_1, k0_cond2, e0, e1]
    word_cmp
   : ∀ t : Fin grid0.N, cond0_1 (grid0.coords t) ↔ t.val % 8 = 7)

variable (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x704x2048 .bf16) (harg4 : arg4.IsWhole) (arg5 : Memref sig .tc .vmem S1x704x2048 .bf16) (harg5 : arg5.IsWhole) (arg6 : Memref sig .tc .vmem S1x704x2048 .bf16) (harg6 : arg6.IsWhole) (arg7 : Memref sig .tc .vmem S512x2048 .f32) (harg7 : arg7.IsWhole) (arg8 : Memref sig .tc .vmem S512x2048 .bf16) (harg8 : arg8.IsWhole) (arg9 : Memref sig .tc .vmem S1x512x704 .bf16) (harg9 : arg9.IsWhole) (arg10 : Memref sig .tc .vmem S1x512x704 .bf16) (harg10 : arg10.IsWhole) (arg11 : Memref sig .tc .vmem S1x512x704 .bf16) (harg11 : arg11.IsWhole) (arg12 : Memref sig .tc .vmem S512x2048 .f32) (harg12 : arg12.IsWhole)

set_option maxHeartbeats 4000000 in
/-- The body in case A. -/
theorem runA (hc0 : cond0_0 i) (hc1 : ¬cond0_1 i) (x0 : Vec F S512x2048 .f32) (x1 : Vec F S1x2048 .f32) (x2 : Vec F S1x704x2048 .bf16) (x3 : Vec F S1x704x2048 .bf16) (x4 : Vec F S1x704x2048 .bf16) (x5 : Vec F S512x2048 .f32) (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay4 x0 x1) ∗ owns (c : Thread nD τ) arg9 fullShare (k0_pay12 (k0_pay4 x0 x1) x2 x3) ∗ owns (c : Thread nD τ) arg10 fullShare (k0_pay13 (k0_pay4 x0 x1) x2 x3) ∗ owns (c : Thread nD τ) arg11 fullShare (k0_pay1 (k0_pay14 (k0_pay4 x0 x1) x2)) ∗ owns (c : Thread nD τ) arg12 fullShare (k0_pay2 (k0_pay11 (k0_pay4 x0 x1) x2 x3) (k0_pay5 (F := F)) x4)) -∗ K ⟨⟩))
      ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11 arg12 harg12) K := by
  simp only [cc0_ffn_fwd_eq_skeleton]; unfold cc0_ffn_fwd_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc0 | sl_exact hc1)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact harg7.read_unread _
  isplitl [H6]
  · iexists _; isplitr; swap; · iexact H6
    ipureintro; frame_out; exact View.read_writes_full _ _ _ _ _
  isplitl [H7]
  · iexists _; isplitr; swap; · iexact H7
    ipureintro; frame_out; exact View.read_writes_full _ _ _ _ _
  isplitl [H8]
  · iexists _; isplitr; swap; · iexact H8
    ipureintro; frame_out; exact View.read_writes_full _ _ _ _ _
  isplitl [H9]
  · iexists _; isplitr; swap; · iexact H9
    ipureintro; frame_out; exact View.read_writes_full _ _ _ _ _
  iexists _; isplitr; swap; · iexact H10
  ipureintro; frame_out; exact View.read_writes_full _ _ _ _ _

end Cert.FfnFwd

end
-- ==== Proof.FfnFwdRunB.lean ====
module

public import proofs.«01_k».proof.Proof.Gen.Kernel3Ideal.Frame
public import proofs.«01_k».proof.Proof.Gen.Kernel3Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.ValueKit
public import Idealize.ShloMosaic.Lib.VecWindow
public import proofs.«01_k».proof.Proof.FfnFwdRunA

@[expose] public section

set_option maxRecDepth 16384

noncomputable section

namespace Cert.FfnFwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

variable (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x704x2048 .bf16) (harg4 : arg4.IsWhole) (arg5 : Memref sig .tc .vmem S1x704x2048 .bf16) (harg5 : arg5.IsWhole) (arg6 : Memref sig .tc .vmem S1x704x2048 .bf16) (harg6 : arg6.IsWhole) (arg7 : Memref sig .tc .vmem S512x2048 .f32) (harg7 : arg7.IsWhole) (arg8 : Memref sig .tc .vmem S512x2048 .bf16) (harg8 : arg8.IsWhole) (arg9 : Memref sig .tc .vmem S1x512x704 .bf16) (harg9 : arg9.IsWhole) (arg10 : Memref sig .tc .vmem S1x512x704 .bf16) (harg10 : arg10.IsWhole) (arg11 : Memref sig .tc .vmem S1x512x704 .bf16) (harg11 : arg11.IsWhole) (arg12 : Memref sig .tc .vmem S512x2048 .f32) (harg12 : arg12.IsWhole)

set_option maxHeartbeats 4000000 in
/-- The body in case B. -/
theorem runB (hc0 : ¬cond0_0 i) (hc1 : ¬cond0_1 i) (x0 : Vec F S512x2048 .f32) (x1 : Vec F S1x2048 .f32) (x2 : Vec F S1x704x2048 .bf16) (x3 : Vec F S1x704x2048 .bf16) (x4 : Vec F S1x704x2048 .bf16) (x5 : Vec F S512x2048 .f32) (x6 : Vec F S512x2048 .bf16) (x10 : Vec F S512x2048 .f32) (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare x10
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay12 x6 x2 x3) ∗ owns (c : Thread nD τ) arg10 fullShare (k0_pay13 x6 x2 x3) ∗ owns (c : Thread nD τ) arg11 fullShare (k0_pay1 (k0_pay14 x6 x2)) ∗ owns (c : Thread nD τ) arg12 fullShare (k0_pay2 (k0_pay11 x6 x2 x3) x10 x4)) -∗ K ⟨⟩))
      ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11 arg12 harg12) K := by
  simp only [cc0_ffn_fwd_eq_skeleton]; unfold cc0_ffn_fwd_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg12.eq_unread hf10
  sl_exec (disch := first | sl_exact hc0 | sl_exact hc1)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact harg7.read_unread _
  isplitl [H6]
  · iexists _; isplitr; swap; · iexact H6
    ipureintro; exact harg8.read_unread _
  isplitl [H7]
  · iexists _; isplitr; swap; · iexact H7
    ipureintro; frame_out; exact View.read_writes_full _ _ _ _ _
  isplitl [H8]
  · iexists _; isplitr; swap; · iexact H8
    ipureintro; frame_out; exact View.read_writes_full _ _ _ _ _
  isplitl [H9]
  · iexists _; isplitr; swap; · iexact H9
    ipureintro; frame_out; exact View.read_writes_full _ _ _ _ _
  iexists _; isplitr; swap; · iexact H10
  ipureintro; frame_out; exact View.read_writes_full _ _ _ _ _

end Cert.FfnFwd

end
-- ==== Proof.FfnFwdRunC.lean ====
module

public import proofs.«01_k».proof.Proof.Gen.Kernel3Ideal.Frame
public import proofs.«01_k».proof.Proof.Gen.Kernel3Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.ValueKit
public import Idealize.ShloMosaic.Lib.VecWindow
public import proofs.«01_k».proof.Proof.FfnFwdRunB

@[expose] public section

set_option maxRecDepth 16384

noncomputable section

namespace Cert.FfnFwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

variable (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x704x2048 .bf16) (harg4 : arg4.IsWhole) (arg5 : Memref sig .tc .vmem S1x704x2048 .bf16) (harg5 : arg5.IsWhole) (arg6 : Memref sig .tc .vmem S1x704x2048 .bf16) (harg6 : arg6.IsWhole) (arg7 : Memref sig .tc .vmem S512x2048 .f32) (harg7 : arg7.IsWhole) (arg8 : Memref sig .tc .vmem S512x2048 .bf16) (harg8 : arg8.IsWhole) (arg9 : Memref sig .tc .vmem S1x512x704 .bf16) (harg9 : arg9.IsWhole) (arg10 : Memref sig .tc .vmem S1x512x704 .bf16) (harg10 : arg10.IsWhole) (arg11 : Memref sig .tc .vmem S1x512x704 .bf16) (harg11 : arg11.IsWhole) (arg12 : Memref sig .tc .vmem S512x2048 .f32) (harg12 : arg12.IsWhole)

set_option maxHeartbeats 4000000 in
/-- The body in case C. -/
theorem runC (hc0 : ¬cond0_0 i) (hc1 : cond0_1 i) (x0 : Vec F S512x2048 .f32) (x1 : Vec F S1x2048 .f32) (x2 : Vec F S1x704x2048 .bf16) (x3 : Vec F S1x704x2048 .bf16) (x4 : Vec F S1x704x2048 .bf16) (x6 : Vec F S512x2048 .bf16) (x10 : Vec F S512x2048 .f32) (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare x10
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay3 x0 (k0_pay2 (k0_pay11 x6 x2 x3) x10 x4)) ∗ owns (c : Thread nD τ) arg8 fullShare x6 ∗ owns (c : Thread nD τ) arg9 fullShare (k0_pay12 x6 x2 x3) ∗ owns (c : Thread nD τ) arg10 fullShare (k0_pay13 x6 x2 x3) ∗ owns (c : Thread nD τ) arg11 fullShare (k0_pay1 (k0_pay14 x6 x2)) ∗ owns (c : Thread nD τ) arg12 fullShare (k0_pay2 (k0_pay11 x6 x2 x3) x10 x4)) -∗ K ⟨⟩))
      ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11 arg12 harg12) K := by
  simp only [cc0_ffn_fwd_eq_skeleton]; unfold cc0_ffn_fwd_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%d8, %f8, -, H8⟩, ⟨%d9, %f9, -, H9⟩, ⟨%f10, %hf10, H10⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg12.eq_unread hf10
  sl_exec (disch := first | sl_exact hc0 | sl_exact hc1)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; frame_out; exact View.read_writes_full _ _ _ _ _
  isplitl [H6]
  · iexists _; isplitr; swap; · iexact H6
    ipureintro; exact harg8.read_unread _
  isplitl [H7]
  · iexists _; isplitr; swap; · iexact H7
    ipureintro; frame_out; exact View.read_writes_full _ _ _ _ _
  isplitl [H8]
  · iexists _; isplitr; swap; · iexact H8
    ipureintro; frame_out; exact View.read_writes_full _ _ _ _ _
  isplitl [H9]
  · iexists _; isplitr; swap; · iexact H9
    ipureintro; frame_out; exact View.read_writes_full _ _ _ _ _
  iexists _; isplitr; swap; · iexact H10
  ipureintro; frame_out; exact View.read_writes_full _ _ _ _ _

end Cert.FfnFwd

end
-- ==== Proof.FfnFwdFrame.lean ====
module

public import proofs.«01_k».proof.Proof.FfnFwdRunC
public import proofs.«01_k».proof.Proof.Gen.Kernel3Ideal.Launch
public import proofs.«01_k».proof.Proof.Gen.Kernel3Ideal.Points
public import Idealize.ShloMosaic.Lib.Pipeline.FrameBody
public import Idealize.ShloMosaic.Lib.Pipeline.TableIdle

@[expose] public section

set_option maxRecDepth 16384

noncomputable section

namespace Cert.FfnFwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

/-- Each window's current staging memref at point `t`, spelled as the pipeline passes it (`bodyAt0`), and its wholeness. -/
abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x704x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x704x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x704x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x2048 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512x704 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512x704 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512x704 .bf16 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S512x2048 .f32 := Memref.whole cc0_scratch0
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d)) ∗ (∃ r, prngReg c r)) := by
  unfold Pipeline.ΦA; rw [scopedRest0_eq]; simp only [scM0_0, owns_whole]; try rfl

variable (m : (ℓ : Loc nD τ sig) → Buf (Elt F) ℓ) (ρ : Dev nD → PrngReg)

/-- The normalised block and the accumulator after point `n`: at the first point of a row block the block is
    normalised and the accumulator starts from zero, at every other the block is kept and the accumulator added to. -/
def first (c : Dev nD) (t : Fin cfg0.N) : Vec F S512x2048 .bf16 × Vec F S512x2048 .f32 :=
  (k0_pay4 (iblk m c 0 t) (iblk m c 1 t), k0_pay2 (k0_pay11 (k0_pay4 (iblk m c 0 t) (iblk m c 1 t)) (iblk m c 2 t) (iblk m c 3 t)) (k0_pay5 (F := F)) (iblk m c 4 t))

/-- A later point, from what the point before left. -/
def next (c : Dev nD) (t : Fin cfg0.N) (p : Vec F S512x2048 .bf16 × Vec F S512x2048 .f32) :
    Vec F S512x2048 .bf16 × Vec F S512x2048 .f32 :=
  (p.1, k0_pay2 (k0_pay11 p.1 (iblk m c 2 t) (iblk m c 3 t)) p.2 (iblk m c 4 t))

def st (c : Dev nD) : (n : ℕ) → n < cfg0.N → Vec F S512x2048 .bf16 × Vec F S512x2048 .f32
  | 0, h => first m c ⟨0, h⟩
  | n + 1, h => if (n + 1) % 8 = 0 then first m c ⟨n + 1, h⟩ else next m c ⟨n + 1, h⟩ (st c n (Nat.lt_of_succ_lt h))

theorem st_first (c : Dev nD) (t : Fin cfg0.N) (h0 : t.val % 8 = 0) : st m c t.val t.isLt = first m c t := by
  obtain ⟨n, h⟩ := t
  cases n with
  | zero => rfl
  | succ n => exact if_pos h0

theorem st_next (c : Dev nD) (t : Fin cfg0.N) (h0 : ¬t.val % 8 = 0) :
    st m c t.val t.isLt = next m c t (st m c (t.val - 1) (Nat.lt_of_le_of_lt (Nat.sub_le _ _) t.isLt)) := by
  obtain ⟨n, h⟩ := t
  cases n with
  | zero => exact absurd rfl h0
  | succ n => exact if_neg h0

/-- The region invariant before position `n`: the scratch at what the point before left. -/
def PhiS (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scM0_0 fullShare ((st m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((st m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((st m c (n - 1) (by omega)).2)) ∗ (∃ r, prngReg c r)) := by
  cases n with
  | zero => exact absurd rfl hz
  | succ n => rfl

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay3 (iblk m c 0 t) (st m c t.val t.isLt).2
    | ⟨6, _⟩ => (st m c t.val t.isLt).1
    | ⟨7, _⟩ => k0_pay12 (st m c t.val t.isLt).1 (iblk m c 2 t) (iblk m c 3 t)
    | ⟨8, _⟩ => k0_pay13 (st m c t.val t.isLt).1 (iblk m c 2 t) (iblk m c 3 t)
    | ⟨9, _⟩ => k0_pay1 (k0_pay14 (st m c t.val t.isLt).1 (iblk m c 2 t))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = k0_pay3 (iblk m c 0 t) (st m c t.val t.isLt).2 := by dsimp only [dats]
theorem after0_6 (c : Dev nD) (t : Fin cfg0.N) : (dats m 0 c).after 6 t = (st m c t.val t.isLt).1 := by dsimp only [dats]
theorem after0_7 (c : Dev nD) (t : Fin cfg0.N) : (dats m 0 c).after 7 t = k0_pay12 (st m c t.val t.isLt).1 (iblk m c 2 t) (iblk m c 3 t) := by dsimp only [dats]
theorem after0_8 (c : Dev nD) (t : Fin cfg0.N) : (dats m 0 c).after 8 t = k0_pay13 (st m c t.val t.isLt).1 (iblk m c 2 t) (iblk m c 3 t) := by dsimp only [dats]
theorem after0_9 (c : Dev nD) (t : Fin cfg0.N) : (dats m 0 c).after 9 t = k0_pay1 (k0_pay14 (st m c t.val t.isLt).1 (iblk m c 2 t)) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

theorem idle6 : ∀ t : Fin cfg0.N, ¬t.val % 8 = 0 → cfg0.idle 6 (grid0.coords t) = true := by decide +kernel
theorem live6 : ∀ t : Fin cfg0.N, t.val % 8 = 0 → cfg0.idle 6 (grid0.coords t) = false := by decide +kernel
theorem idle5 : ∀ t : Fin cfg0.N, ¬t.val % 8 = 7 → cfg0.idle 5 (grid0.coords t) = true := by decide +kernel
theorem live5 : ∀ t : Fin cfg0.N, t.val % 8 = 7 → cfg0.idle 5 (grid0.coords t) = false := by decide +kernel

theorem nofresh6 : ∀ (n : ℕ), n ≤ cfg0.N → ¬n % 8 = 0 → cfg0.fresh 6 n = false
  | 0, _, h => absurd rfl h
  | n + 1, hn, h => by
    have hlt : n < cfg0.N := hn
    rw [Pipeline.Cfg.fresh_succ cfg0 6 n hlt, Bool.or_eq_false_iff, Bool.and_eq_false_iff]
    refine ⟨Bool.eq_false_iff.mpr fun hf => by have := (flush0_6 ⟨n, hlt⟩).mp hf; dsimp only at this; omega, ?_⟩
    by_cases h0 : n % 8 = 0
    · exact Or.inl (live6 ⟨n, hlt⟩ h0)
    · exact Or.inr (nofresh6 n (Nat.le_of_lt hlt) h0)

/-- At every point but the first of a row block the buffer of the normalised block holds what the point before left. -/
theorem before0_6 (c : Dev nD) (t : Fin cfg0.N) (h0 : ¬t.val % 8 = 0) (d) :
    (dats m 0 c).before 6 t d = (st m c (t.val - 1) (Nat.lt_of_le_of_lt (Nat.sub_le _ _) t.isLt)).1 := by
  rw [Dat.before_out_traj (dats m 0 c) 6 rfl (fun _ _ => rfl) (fun t' hz hi _ => by
      have h0' : ¬t'.val % 8 = 0 := fun h => by rw [live6 t' h] at hi; exact Bool.false_ne_true hi
      rw [after0_6, after0_6, st_next m c t' h0']; rfl) t.val t rfl d,
    nofresh6 t.val (Nat.le_of_lt t.isLt) h0, if_neg Bool.false_ne_true, after0_6]

/-- What the body is called with at point `t`, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4000000 in
/-- The body at a point of case A. -/
theorem sound_A (c : Dev nD) (t : Fin cfg0.N) (h0 : t.val % 8 = 0) :
    bodyPre m c t ⊢ wp frame (wpE (defs₀ (F := F)) Variants.none c none) Set.univ (bodyAt0 t) (fun _ => bodyPost m c t) := by
  unfold bodyPre bodyPost bodyAt0
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [show cfg0.idle 0 (grid0.coords t) = false from rfl], after0_0]
  rw [show (dats m 0 c).leavesExact 1 t = owns (c : Thread nD τ) (ms0_1 t) fullShare ((dats m 0 c).after 1 t) from by
    unfold Dat.leavesExact; rw [show cfg0.idle 1 (grid0.coords t) = false from rfl], after0_1]
  rw [show (dats m 0 c).leavesExact 2 t = owns (c : Thread nD τ) (ms0_2 t) fullShare ((dats m 0 c).after 2 t) from by
    unfold Dat.leavesExact; rw [show cfg0.idle 2 (grid0.coords t) = false from rfl], after0_2]
  rw [show (dats m 0 c).leavesExact 3 t = owns (c : Thread nD τ) (ms0_3 t) fullShare ((dats m 0 c).after 3 t) from by
    unfold Dat.leavesExact; rw [show cfg0.idle 3 (grid0.coords t) = false from rfl], after0_3]
  rw [show (dats m 0 c).leavesExact 4 t = owns (c : Thread nD τ) (ms0_4 t) fullShare ((dats m 0 c).after 4 t) from by
    unfold Dat.leavesExact; rw [show cfg0.idle 4 (grid0.coords t) = false from rfl], after0_4]
  rw [Dat.leavesExact_idle (dats m 0 c) 5 t (idle5 t (by omega)) (Bool.eq_false_iff.mpr fun h => by have := (flush0_5 t).mp h; omega)]
  rw [show (dats m 0 c).leavesExact 6 t = owns (c : Thread nD τ) (ms0_6 t) fullShare ((dats m 0 c).after 6 t) from by
    unfold Dat.leavesExact; rw [live6 t (by omega)], after0_6]
  rw [show (dats m 0 c).leavesExact 7 t = owns (c : Thread nD τ) (ms0_7 t) fullShare ((dats m 0 c).after 7 t) from by
    unfold Dat.leavesExact; rw [show cfg0.idle 7 (grid0.coords t) = false from rfl], after0_7]
  rw [show (dats m 0 c).leavesExact 8 t = owns (c : Thread nD τ) (ms0_8 t) fullShare ((dats m 0 c).after 8 t) from by
    unfold Dat.leavesExact; rw [show cfg0.idle 8 (grid0.coords t) = false from rfl], after0_8]
  rw [show (dats m 0 c).leavesExact 9 t = owns (c : Thread nD τ) (ms0_9 t) fullShare ((dats m 0 c).after 9 t) from by
    unfold Dat.leavesExact; rw [show cfg0.idle 9 (grid0.coords t) = false from rfl], after0_9]
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [st_first m c t h0, first]; (try dsimp only)
  by_cases hz : t.val = 0
  · rw [PhiS_castSucc m c t, PhiS_zero m c _ _ hz, PhiA0_eq]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (runA c (grid0.coords t) _ _ _ _ _ _ _ _ _ _ _ _ _ _ _ _ _ _ _ _ _ _ ((hcond0_0 t).mpr h0) (fun h => by have := (hcond0_1 t).mp h; omega) (iblk m c 0 t) (iblk m c 1 t) (iblk m c 2 t) (iblk m c 3 t) (iblk m c 4 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [HS]; · iexact HS
    iintro ⟨H0, H1, H2, H3, H4, H5, H6, H7, H8, H9, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists d5; iexact H5
    isplitl [H6]; · iexact H6
    isplitl [H7]; · iexact H7
    isplitl [H8]; · iexact H8
    iexact H9
  · rw [PhiS_castSucc m c t, PhiS_pos m c _ _ hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (runA c (grid0.coords t) _ _ _ _ _ _ _ _ _ _ _ _ _ _ _ _ _ _ _ _ _ _ ((hcond0_0 t).mpr h0) (fun h => by have := (hcond0_1 t).mp h; omega) (iblk m c 0 t) (iblk m c 1 t) (iblk m c 2 t) (iblk m c 3 t) (iblk m c 4 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [HS]; · iexists _; iexact HS
    iintro ⟨H0, H1, H2, H3, H4, H5, H6, H7, H8, H9, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists d5; iexact H5
    isplitl [H6]; · iexact H6
    isplitl [H7]; · iexact H7
    isplitl [H8]; · iexact H8
    iexact H9

set_option maxHeartbeats 4000000 in
/-- The body at a point of case B. -/
theorem sound_B (c : Dev nD) (t : Fin cfg0.N) (h0 : ¬t.val % 8 = 0) (h1 : ¬t.val % 8 = 7) :
    bodyPre m c t ⊢ wp frame (wpE (defs₀ (F := F)) Variants.none c none) Set.univ (bodyAt0 t) (fun _ => bodyPost m c t) := by
  unfold bodyPre bodyPost bodyAt0
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [show cfg0.idle 0 (grid0.coords t) = false from rfl], after0_0]
  rw [show (dats m 0 c).leavesExact 1 t = owns (c : Thread nD τ) (ms0_1 t) fullShare ((dats m 0 c).after 1 t) from by
    unfold Dat.leavesExact; rw [show cfg0.idle 1 (grid0.coords t) = false from rfl], after0_1]
  rw [show (dats m 0 c).leavesExact 2 t = owns (c : Thread nD τ) (ms0_2 t) fullShare ((dats m 0 c).after 2 t) from by
    unfold Dat.leavesExact; rw [show cfg0.idle 2 (grid0.coords t) = false from rfl], after0_2]
  rw [show (dats m 0 c).leavesExact 3 t = owns (c : Thread nD τ) (ms0_3 t) fullShare ((dats m 0 c).after 3 t) from by
    unfold Dat.leavesExact; rw [show cfg0.idle 3 (grid0.coords t) = false from rfl], after0_3]
  rw [show (dats m 0 c).leavesExact 4 t = owns (c : Thread nD τ) (ms0_4 t) fullShare ((dats m 0 c).after 4 t) from by
    unfold Dat.leavesExact; rw [show cfg0.idle 4 (grid0.coords t) = false from rfl], after0_4]
  rw [Dat.leavesExact_idle (dats m 0 c) 5 t (idle5 t (by omega)) (Bool.eq_false_iff.mpr fun h => by have := (flush0_5 t).mp h; omega)]
  rw [Dat.leavesExact_idle (dats m 0 c) 6 t (idle6 t (by omega)) (Bool.eq_false_iff.mpr fun h => by have := (flush0_6 t).mp h; omega)]
  rw [show (dats m 0 c).leavesExact 7 t = owns (c : Thread nD τ) (ms0_7 t) fullShare ((dats m 0 c).after 7 t) from by
    unfold Dat.leavesExact; rw [show cfg0.idle 7 (grid0.coords t) = false from rfl], after0_7]
  rw [show (dats m 0 c).leavesExact 8 t = owns (c : Thread nD τ) (ms0_8 t) fullShare ((dats m 0 c).after 8 t) from by
    unfold Dat.leavesExact; rw [show cfg0.idle 8 (grid0.coords t) = false from rfl], after0_8]
  rw [show (dats m 0 c).leavesExact 9 t = owns (c : Thread nD τ) (ms0_9 t) fullShare ((dats m 0 c).after 9 t) from by
    unfold Dat.leavesExact; rw [show cfg0.idle 9 (grid0.coords t) = false from rfl], after0_9]
  simp only [before0_0, before0_1, before0_2, before0_3, before0_4, before0_6 m c t h0]
  rw [show (dats m 0 c).owesAt () t.succ = (dats m 0 c).owesAt () t.castSucc from rfl]
  rw [show (dats m 0 c).Φ t.succ = PhiS m c (t.val + 1) t.isLt from rfl, PhiS_succ]
  rw [st_next m c t h0, next]; (try dsimp only)
  have hz : t.val ≠ 0 := by omega
  rw [PhiS_castSucc m c t, PhiS_pos m c _ _ hz]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (runB c (grid0.coords t) _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _ (st m c (t.val - 1) (Nat.lt_of_le_of_lt (Nat.sub_le _ _) t.isLt)).1 (st m c (t.val - 1) (Nat.lt_of_le_of_lt (Nat.sub_le _ _) t.isLt)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [HS]; · iexact HS
  iintro ⟨H0, H1, H2, H3, H4, H5, H6, H7, H8, H9, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists d5; iexact H5
  isplitl [H6]; · iexists d6; iexact H6
  isplitl [H7]; · iexact H7
  isplitl [H8]; · iexact H8
  iexact H9

set_option maxHeartbeats 4000000 in
/-- The body at a point of case C. -/
theorem sound_C (c : Dev nD) (t : Fin cfg0.N) (h1 : t.val % 8 = 7) :
    bodyPre m c t ⊢ wp frame (wpE (defs₀ (F := F)) Variants.none c none) Set.univ (bodyAt0 t) (fun _ => bodyPost m c t) := by
  unfold bodyPre bodyPost bodyAt0
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [show cfg0.idle 0 (grid0.coords t) = false from rfl], after0_0]
  rw [show (dats m 0 c).leavesExact 1 t = owns (c : Thread nD τ) (ms0_1 t) fullShare ((dats m 0 c).after 1 t) from by
    unfold Dat.leavesExact; rw [show cfg0.idle 1 (grid0.coords t) = false from rfl], after0_1]
  rw [show (dats m 0 c).leavesExact 2 t = owns (c : Thread nD τ) (ms0_2 t) fullShare ((dats m 0 c).after 2 t) from by
    unfold Dat.leavesExact; rw [show cfg0.idle 2 (grid0.coords t) = false from rfl], after0_2]
  rw [show (dats m 0 c).leavesExact 3 t = owns (c : Thread nD τ) (ms0_3 t) fullShare ((dats m 0 c).after 3 t) from by
    unfold Dat.leavesExact; rw [show cfg0.idle 3 (grid0.coords t) = false from rfl], after0_3]
  rw [show (dats m 0 c).leavesExact 4 t = owns (c : Thread nD τ) (ms0_4 t) fullShare ((dats m 0 c).after 4 t) from by
    unfold Dat.leavesExact; rw [show cfg0.idle 4 (grid0.coords t) = false from rfl], after0_4]
  rw [show (dats m 0 c).leavesExact 5 t = owns (c : Thread nD τ) (ms0_5 t) fullShare ((dats m 0 c).after 5 t) from by
    unfold Dat.leavesExact; rw [live5 t (by omega)], after0_5]
  rw [show (dats m 0 c).leavesExact 6 t = owns (c : Thread nD τ) (ms0_6 t) fullShare ((dats m 0 c).after 6 t) from by
    unfold Dat.leavesExact; rw [idle6 t (by omega), (flush0_6 t).mpr (by omega)], after0_6]
  rw [show (dats m 0 c).leavesExact 7 t = owns (c : Thread nD τ) (ms0_7 t) fullShare ((dats m 0 c).after 7 t) from by
    unfold Dat.leavesExact; rw [show cfg0.idle 7 (grid0.coords t) = false from rfl], after0_7]
  rw [show (dats m 0 c).leavesExact 8 t = owns (c : Thread nD τ) (ms0_8 t) fullShare ((dats m 0 c).after 8 t) from by
    unfold Dat.leavesExact; rw [show cfg0.idle 8 (grid0.coords t) = false from rfl], after0_8]
  rw [show (dats m 0 c).leavesExact 9 t = owns (c : Thread nD τ) (ms0_9 t) fullShare ((dats m 0 c).after 9 t) from by
    unfold Dat.leavesExact; rw [show cfg0.idle 9 (grid0.coords t) = false from rfl], after0_9]
  simp only [before0_0, before0_1, before0_2, before0_3, before0_4, before0_6 m c t (by omega : ¬t.val % 8 = 0)]
  rw [show (dats m 0 c).owesAt () t.succ = (dats m 0 c).owesAt () t.castSucc from rfl]
  rw [show (dats m 0 c).Φ t.succ = PhiS m c (t.val + 1) t.isLt from rfl, PhiS_succ]
  rw [st_next m c t (by omega), next]; (try dsimp only)
  have hz : t.val ≠ 0 := by omega
  rw [PhiS_castSucc m c t, PhiS_pos m c _ _ hz]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (runC c (grid0.coords t) _ _ _ _ _ _ _ _ _ _ _ _ _ _ _ _ _ _ _ _ _ _ (fun h => by have := (hcond0_0 t).mp h; omega) ((hcond0_1 t).mpr h1) (iblk m c 0 t) (iblk m c 1 t) (iblk m c 2 t) (iblk m c 3 t) (iblk m c 4 t) (st m c (t.val - 1) (Nat.lt_of_le_of_lt (Nat.sub_le _ _) t.isLt)).1 (st m c (t.val - 1) (Nat.lt_of_le_of_lt (Nat.sub_le _ _) t.isLt)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexists _; iexact H7
  isplitl [H8]; · iexists _; iexact H8
  isplitl [H9]; · iexists _; iexact H9
  isplitl [HS]; · iexact HS
  iintro ⟨H0, H1, H2, H3, H4, H5, H6, H7, H8, H9, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem sound_body (c : Dev nD) (t : Fin cfg0.N) :
    bodyPre m c t ⊢ wp frame (wpE (defs₀ (F := F)) Variants.none c none) Set.univ (bodyAt0 t) (fun _ => bodyPost m c t) := by
  by_cases h0 : t.val % 8 = 0
  · exact sound_A m c t h0
  · by_cases h1 : t.val % 8 = 7
    · exact sound_C m c t h1
    · exact sound_B m c t h0 h1
/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: every run ends with the arguments unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.FfnFwd

end
-- ==== Proof.FfnSpec.lean ====
/- A SwiGLU layer's forward values over the extended reals, and the reference's results at them. -/
module

public import proofs.«01_k».proof.Proof.Gen.Reference3Ideal.Read
public import Idealize.ShloMosaic.Lib.Pointwise

@[expose] public section

set_option maxRecDepth 16384

noncomputable section

namespace Cert.Ffn

open Cert.Reference3Ideal Cert.Reference3Ideal.Gen Cert.Reference3Ideal.Read Idealize.ShloMosaic Idealize.ShloMosaic.TcCoe

/-- A row of the whole arrays from its block row and its place. -/
abbrev row (r : Fin 8) (p : Fin 512) : Fin 4096 := ⟨r.val * 512 + p.val, by omega⟩

/-- A column of the hidden width from its block and its place. -/
abbrev col (j : Fin 8) (a : Fin 704) : Fin 5632 := ⟨j.val * 704 + a.val, by omega⟩

section Defs

variable (x : Vec Ideal S4096x2048 .f32) (g : Vec Ideal S2048 .f32) (wg wu : Vec Ideal S2048x5632 .f32) (wd : Vec Ideal S5632x2048 .f32)

/-- The normalised input. -/
def hn (i : Fin 4096) (k : Fin 2048) : EReal :=
  x (ix2 i k) * Ideal.rsqrt (Ideal.div (∑ q : Fin 2048, x (ix2 i q) * x (ix2 i q)) (Ideal.ofBits .f32 0x45000000#32)
    + Ideal.ofBits .f32 0x358637BD#32) * g (ix1 k)

/-- The normalised input times a weight matrix. -/
def lin (w : Vec Ideal S2048x5632 .f32) (i : Fin 4096) (l : Fin 5632) : EReal := ∑ k : Fin 2048, hn x g i k * w (ix2 k l)

/-- `silu` at a place of the hidden width. -/
def sil (i : Fin 4096) (l : Fin 5632) : EReal := lin x g wg i l * Ideal.logistic (lin x g wg i l)

def act (i : Fin 4096) (l : Fin 5632) : EReal := sil x g wg i l * lin x g wu i l

/-- The derivative of `silu`. -/
def dsil (a : EReal) : EReal := Ideal.logistic a * (1 + a * (1 - Ideal.logistic a))

def gat (i : Fin 4096) (l : Fin 5632) : EReal := lin x g wu i l * dsil (lin x g wg i l)

def out (i : Fin 4096) (b : Fin 2048) : EReal :=
  x (ix2 i b) + Ideal.ofBits .f32 0x3F000000#32 * ∑ l : Fin 5632, act x g wg wu i l * wd (ix2 l b)

end Defs

theorem one_coe : (1 : EReal) = ((1 : ℝ) : EReal) := rfl

theorem logistic_coe (r : ℝ) : Ideal.logistic (r : EReal) = (((1 + Real.exp (-r))⁻¹ : ℝ) : EReal) := by
  have h : (1 + Real.exp (-r)) ≠ 0 := (by positivity : (0 : ℝ) < 1 + Real.exp (-r)).ne'
  show Ideal.div 1 (1 + Ideal.exp (-(r : EReal))) = _
  have e : Ideal.exp (-(r : EReal)) = ((Real.exp (-r) : ℝ) : EReal) := rfl
  rw [e, one_coe, ← EReal.coe_add]
  unfold Ideal.div
  rw [if_neg (by exact_mod_cast h), ← EReal.coe_inv, ← EReal.coe_mul, one_mul]

/-- The two forms of the derivative of `silu` agree at every extended real. -/
theorem dsil_eq (a : EReal) : 1 * Ideal.logistic a + a * 1 * (Ideal.logistic a * (1 - Ideal.logistic a)) = dsil a := by
  unfold dsil
  induction a with
  | bot =>
    have h : Ideal.logistic ⊥ = 0 := by
      show Ideal.div 1 (1 + Ideal.exp (-⊥)) = 0
      rw [EReal.neg_bot]
      show Ideal.div 1 (1 + ⊤) = 0
      rw [one_coe, EReal.coe_add_top]
      unfold Ideal.div
      rw [if_neg (by decide), EReal.inv_top, mul_zero]
    rw [h]; simp
  | top =>
    have h : Ideal.logistic ⊤ = 1 := by
      show Ideal.div 1 (1 + Ideal.exp (-⊤)) = 1
      rw [EReal.neg_top]
      show Ideal.div 1 (1 + 0) = 1
      rw [add_zero]
      unfold Ideal.div
      rw [if_neg one_ne_zero]
      simp
    have e : (1 : EReal) - 1 = 0 := by rw [one_coe, ← EReal.coe_sub, sub_self]; rfl
    rw [h, e]; simp
  | coe r =>
    rw [logistic_coe, one_coe]
    norm_cast
    ring

section Ref

variable (x : Vec Ideal S4096x2048 .f32) (g : Vec Ideal S2048 .f32) (wg wu : Vec Ideal S2048x5632 .f32) (wd : Vec Ideal S5632x2048 .f32)

theorem ref12 (i : Fin 4096) (k : Fin 2048) : val_main_v12 (F := Ideal) x g (ix2 i k) = hn x g i k := by
  unfold val_main_v12 val_main_v11 val_main_v10 val_main_v9 val_main_v8 val_main_v7 val_main_v6 val_main_v5 val_main_cst_1 val_main_v4
    val_main_v3 val_main_cst_0 val_main_v2 val_main_v1 val_main_cst val_main_v0
  pointwise [Ideal.ofBits_zero_f32]
  rfl

theorem ref13 (i : Fin 4096) (l : Fin 5632) : val_main_v13 (F := Ideal) x g wg (ix2 i l) = lin x g wg i l := by
  unfold val_main_v13
  pointwise [ref12]
  rfl

theorem ref14 (i : Fin 4096) (l : Fin 5632) : val_main_v14 (F := Ideal) x g wu (ix2 i l) = lin x g wu i l := by
  unfold val_main_v14
  pointwise [ref12]
  rfl

theorem ref15_2 (i : Fin 4096) (l : Fin 5632) : val_main_v15_2 (F := Ideal) x g wg (ix2 i l) = Ideal.logistic (lin x g wg i l) := by
  unfold val_main_v15_2 val_main_call0_v4 val_main_call0_cst_0 val_main_call0_v3 val_main_call0_v2 val_main_call0_cst val_main_call0_v1
    val_main_call0_v0
  pointwise [ref13, Ideal.ofBits_one_f32]
  rfl

theorem ref15_1 (i : Fin 4096) (l : Fin 5632) : val_main_v15_1 (F := Ideal) x g wg (ix2 i l)
    = Ideal.logistic (lin x g wg i l) * (1 - Ideal.logistic (lin x g wg i l)) := by
  unfold val_main_v15_1 val_main_call0_v7 val_main_call0_v6 val_main_call0_cst_1
  pointwise [ref15_2, Ideal.ofBits_one_f32]

theorem ref15_0 (i : Fin 4096) (l : Fin 5632) : val_main_v15_0 (F := Ideal) x g wg (ix2 i l) = sil x g wg i l := by
  unfold val_main_v15_0
  pointwise [ref13, ref15_2]
  rfl

theorem ref16 (i : Fin 4096) (l : Fin 5632) : val_main_v16 (F := Ideal) x g wg wu (ix2 i l) = act x g wg wu i l := by
  unfold val_main_v16
  pointwise [ref14, ref15_0]
  rfl

theorem ref26 (i : Fin 4096) (l : Fin 5632) : val_main_v26 (F := Ideal) x g wg (ix2 i l) = dsil (lin x g wg i l) := by
  rw [← dsil_eq]
  unfold val_main_v26 val_main_call1_v1 val_main_call1_v2 val_main_call1_v0 val_main_v25 val_main_cst_3
  pointwise [ref13, ref15_1, ref15_2, Ideal.ofBits_one_f32]

theorem ref20 (i : Fin 4096) (b : Fin 2048) : val_main_v20 (F := Ideal) x g wg wu wd (ix2 i b) = out x g wg wu wd i b := by
  unfold val_main_v20 val_main_v19 val_main_v18 val_main_cst_2 val_main_v17
  pointwise [ref16]
  rfl

theorem ref21 (i : Fin 4096) (k : Fin 2048) : val_main_v21 (F := Ideal) x g (ix2 i k) = hn x g i k := by
  unfold val_main_v21
  pointwise [ref12]

theorem split_eq (j : Fin 8) (i : Fin 4096) (a : Fin 704) : idx_main_v23 (idx_main_v24 (ix3 j i a)) = ix2 i (col j a) := by
  funext q
  refine Fin.ext ?_
  match q with
  | ⟨0, _⟩ => show ((i.val * 8 + j.val) * 704 + a.val) / 5632 = i.val; omega
  | ⟨1, _⟩ => show ((i.val * 8 + j.val) * 704 + a.val) % 5632 = j.val * 704 + a.val; omega

theorem ref24 (j : Fin 8) (i : Fin 4096) (a : Fin 704) :
    val_main_v24 (F := Ideal) x g wg wu (ix3 j i a) = act x g wg wu i (col j a) := by
  rw [val_main_v24_apply, val_main_v23_apply, split_eq, val_main_v22_apply, ref16]
  rfl

theorem ref30 (j : Fin 8) (i : Fin 4096) (a : Fin 704) :
    val_main_v30 (F := Ideal) x g wg wu (ix3 j i a) = gat x g wg wu i (col j a) := by
  have e : idx_main_v29 (idx_main_v30 (ix3 j i a)) = ix2 i (col j a) := split_eq j i a
  rw [val_main_v30_apply, val_main_v29_apply, e, val_main_v28_apply, val_main_v27_apply, ref14, ref26]
  rfl

theorem ref33 (j : Fin 8) (i : Fin 4096) (a : Fin 704) :
    val_main_v33 (F := Ideal) x g wg (ix3 j i a) = sil x g wg i (col j a) := by
  have e : idx_main_v32 (idx_main_v33 (ix3 j i a)) = ix2 i (col j a) := split_eq j i a
  rw [val_main_v33_apply, val_main_v32_apply, e, val_main_v31_apply, ref15_0]
  rfl

end Ref

end Cert.Ffn

end
-- ==== Proof.FfnFwdValue.lean ====
/- What a SwiGLU layer's forward call leaves in its five result arrays. -/
module

public import proofs.«01_k».proof.Proof.FfnFwdFrame
public import proofs.«01_k».proof.Proof.FfnSpec
public import proofs.«01_k».proof.Proof.Gen.Kernel3Ideal.Skeleton
public import Idealize.ShloMosaic.Lib.Pipeline.Value
public import Idealize.ShloMosaic.Lib.Pipeline.ReadBack
public import Idealize.ShloMosaic.Lib.Pointwise
public import Idealize.ShloMosaic.Lib.Pipeline.ValueKit.Geometry
public import Idealize.ShloMosaic.Lib.Pipeline.ValueKit.Point
public import Idealize.ShloMosaic.Lib.Claim

@[expose] public section

set_option maxRecDepth 16384

noncomputable section

namespace Cert.FfnFwd

open Cert.Kernel3Ideal Cert.Kernel3Ideal.Gen Idealize.ShloMosaic Idealize.ShloMosaic.TcCoe Idealize.SL.Sem
open Cert.Ffn (row col hn lin sil act dsil gat out)

theorem pay4_apply (x : Vec Ideal S512x2048 .f32) (g : Vec Ideal S1x2048 .f32) (p : Fin 512) (k : Fin 2048) :
    k0_pay4 x g (ix2 p k) = x (ix2 p k) * Ideal.rsqrt (Ideal.div (∑ q : Fin 2048, x (ix2 p q) * x (ix2 p q)) (Ideal.ofBits .f32 0x45000000#32)
      + Ideal.ofBits .f32 0x358637BD#32) * g (ix2 0 k) := by
  unfold k0_pay4
  pointwise

theorem pay7_apply (h : Vec Ideal S512x2048 .bf16) (w : Vec Ideal S1x704x2048 .bf16) (p : Fin 512) (a : Fin 704) :
    k0_pay7 h w (ix2 p a) = ∑ k : Fin 2048, h (ix2 p k) * w (ix3 0 a k) := by
  unfold k0_pay7 k0_pay6
  pointwise

theorem pay8_apply (h : Vec Ideal S512x2048 .bf16) (w : Vec Ideal S1x704x2048 .bf16) (p : Fin 512) (a : Fin 704) :
    k0_pay8 h w (ix2 p a) = ∑ k : Fin 2048, h (ix2 p k) * w (ix3 0 a k) := by
  unfold k0_pay8 k0_pay6
  pointwise

theorem pay10_apply (h : Vec Ideal S512x2048 .bf16) (w : Vec Ideal S1x704x2048 .bf16) (p : Fin 512) (a : Fin 704) :
    k0_pay10 h w (ix2 p a) = k0_pay7 h w (ix2 p a) * Ideal.logistic (k0_pay7 h w (ix2 p a)) := by
  unfold k0_pay10 k0_pay9
  pointwise

theorem pay11_apply (h : Vec Ideal S512x2048 .bf16) (w v : Vec Ideal S1x704x2048 .bf16) (p : Fin 512) (a : Fin 704) :
    k0_pay11 h w v (ix2 p a) = k0_pay10 h w (ix2 p a) * k0_pay8 h v (ix2 p a) := by
  unfold k0_pay11
  pointwise

theorem pay12_apply (h : Vec Ideal S512x2048 .bf16) (w v : Vec Ideal S1x704x2048 .bf16) (p : Fin 512) (a : Fin 704) :
    k0_pay12 h w v (ix3 0 p a) = k0_pay11 h w v (ix2 p a) := by
  unfold k0_pay12
  pointwise

theorem pay13_apply (h : Vec Ideal S512x2048 .bf16) (w v : Vec Ideal S1x704x2048 .bf16) (p : Fin 512) (a : Fin 704) :
    k0_pay13 h w v (ix3 0 p a) = k0_pay8 h v (ix2 p a) * dsil (k0_pay7 h w (ix2 p a)) := by
  unfold k0_pay13 k0_pay9
  pointwise
  rfl

theorem pay1_apply (h : Vec Ideal S512x2048 .bf16) (w : Vec Ideal S1x704x2048 .bf16) (p : Fin 512) (a : Fin 704) :
    k0_pay1 (k0_pay14 h w) (ix3 0 p a) = k0_pay10 h w (ix2 p a) := by
  unfold k0_pay1 k0_pay14
  pointwise

theorem pay2_apply (s : Vec Ideal S512x704 .bf16) (v : Vec Ideal S512x2048 .f32) (w : Vec Ideal S1x704x2048 .bf16) (p : Fin 512) (b : Fin 2048) :
    k0_pay2 s v w (ix2 p b) = v (ix2 p b) + ∑ a : Fin 704, s (ix2 p a) * w (ix3 0 a b) := by
  unfold k0_pay2
  pointwise

theorem pay3_apply (x v : Vec Ideal S512x2048 .f32) (p : Fin 512) (b : Fin 2048) :
    k0_pay3 x v (ix2 p b) = x (ix2 p b) + Ideal.ofBits .f32 0x3F000000#32 * v (ix2 p b) := by
  unfold k0_pay3
  pointwise

theorem pay5_apply (p : Fin 512) (b : Fin 2048) : k0_pay5 (F := Ideal) (ix2 p b) = 0 := by
  unfold k0_pay5
  pointwise

variable (m : (ℓ : Loc nD τ sig) → Buf (Elt Ideal) ℓ)

/-- The grid point of a row block and a block of the hidden width. -/
abbrev tp (r j : Fin 8) : Fin cfg0.N := Fin.cast N_0.symm ⟨8 * r.val + j.val, by omega⟩

theorem tp_of (t : Fin cfg0.N) : ∃ r j : Fin 8, t = tp r j := by
  have ht : t.val < 64 := lt_of_lt_of_eq t.isLt N_0
  exact ⟨⟨t.val / 8, by omega⟩, ⟨t.val % 8, by omega⟩, Fin.ext (by show t.val = 8 * (t.val / 8) + t.val % 8; omega)⟩

theorem idx_in : ∀ r j : Fin 8, win0_0.index (tp r j) = ![r.val, 0] ∧ win0_1.index (tp r j) = ![0, 0]
    ∧ win0_2.index (tp r j) = ![j.val, 0, 0] ∧ win0_3.index (tp r j) = ![j.val, 0, 0] ∧ win0_4.index (tp r j) = ![j.val, 0, 0] := by
  decide +kernel

theorem idx_out : ∀ r j : Fin 8, win0_5.index (tp r j) = ![r.val, 0] ∧ win0_6.index (tp r j) = ![r.val, 0]
    ∧ win0_7.index (tp r j) = ![j.val, r.val, 0] ∧ win0_8.index (tp r j) = ![j.val, r.val, 0] ∧ win0_9.index (tp r j) = ![j.val, r.val, 0] := by
  decide +kernel

section Args

variable (c : Dev nD)

abbrev ax : Vec Ideal S4096x2048 .f32 := m ((c : Thread nD τ).loc main_arg0)
abbrev ag : Vec Ideal S2048 .f32 := m ((c : Thread nD τ).loc main_arg1)
abbrev awg : Vec Ideal S2048x5632 .f32 := m ((c : Thread nD τ).loc main_arg2)
abbrev awu : Vec Ideal S2048x5632 .f32 := m ((c : Thread nD τ).loc main_arg3)
abbrev awd : Vec Ideal S5632x2048 .f32 := m ((c : Thread nD τ).loc main_arg4)

end Args

theorem blk0 (c : Dev nD) (r j : Fin 8) (p : Fin 512) (k : Fin 2048) : iblk m c 0 (tp r j) (ix2 p k) = ax m c (ix2 (row r p) k) := by
  blk_ext [iblk, V, idx_in r j]

theorem blk1 (c : Dev nD) (r j : Fin 8) (k : Fin 2048) : iblk m c 1 (tp r j) (ix2 0 k) = ag m c (ix1 k) := by
  have h : iblk m c 1 (tp r j) (ix2 0 k) = V m c main_v0 (ix2 0 k) := by blk_ext [iblk, idx_in r j]
  rw [h]
  entry_read
  pointwise

theorem blk2 (c : Dev nD) (r j : Fin 8) (a : Fin 704) (k : Fin 2048) :
    iblk m c 2 (tp r j) (ix3 0 a k) = awg m c (ix2 k (col j a)) := by
  have h : iblk m c 2 (tp r j) (ix3 0 a k) = V m c main_v3 (ix3 j a k) := by blk_ext [iblk, idx_in r j]
  rw [h]
  entry_read
  pointwise

theorem blk3 (c : Dev nD) (r j : Fin 8) (a : Fin 704) (k : Fin 2048) :
    iblk m c 3 (tp r j) (ix3 0 a k) = awu m c (ix2 k (col j a)) := by
  have h : iblk m c 3 (tp r j) (ix3 0 a k) = V m c main_v6 (ix3 j a k) := by blk_ext [iblk, idx_in r j]
  rw [h]
  entry_read
  pointwise

theorem blk4 (c : Dev nD) (r j : Fin 8) (a : Fin 704) (k : Fin 2048) :
    iblk m c 4 (tp r j) (ix3 0 a k) = awd m c (ix2 (col j a) k) := by
  have h : iblk m c 4 (tp r j) (ix3 0 a k) = V m c main_v8 (ix3 j a k) := by blk_ext [iblk, idx_in r j]
  rw [h]
  entry_read
  pointwise

/-- The normalised block. -/
theorem norm_blk (c : Dev nD) (r j : Fin 8) (p : Fin 512) (k : Fin 2048) :
    k0_pay4 (iblk m c 0 (tp r j)) (iblk m c 1 (tp r j)) (ix2 p k) = hn (ax m c) (ag m c) (row r p) k := by
  rw [pay4_apply]
  unfold hn
  rw [blk0, blk1]
  refine congrArg (fun s : EReal => ax m c (ix2 (row r p) k) * Ideal.rsqrt (Ideal.div s _ + _) * _) ?_
  exact Finset.sum_congr (M := EReal) rfl fun q _ => congrArg₂ (α := EReal) (β := EReal) (· * ·) (blk0 m c r j p q) (blk0 m c r j p q)

section Point

variable (c : Dev nD) (r j : Fin 8) (h : Vec Ideal S512x2048 .bf16) (p : Fin 512)
  (hh : ∀ k : Fin 2048, h (ix2 p k) = hn (ax m c) (ag m c) (row r p) k)

include hh

theorem lin7 (a : Fin 704) : k0_pay7 h (iblk m c 2 (tp r j)) (ix2 p a) = lin (ax m c) (ag m c) (awg m c) (row r p) (col j a) := by
  rw [pay7_apply]
  unfold lin
  exact Finset.sum_congr (M := EReal) rfl fun k _ => congrArg₂ (α := EReal) (β := EReal) (· * ·) (hh k) (blk2 m c r j a k)

theorem lin8 (a : Fin 704) : k0_pay8 h (iblk m c 3 (tp r j)) (ix2 p a) = lin (ax m c) (ag m c) (awu m c) (row r p) (col j a) := by
  rw [pay8_apply]
  unfold lin
  exact Finset.sum_congr (M := EReal) rfl fun k _ => congrArg₂ (α := EReal) (β := EReal) (· * ·) (hh k) (blk3 m c r j a k)

theorem sil10 (a : Fin 704) : k0_pay10 h (iblk m c 2 (tp r j)) (ix2 p a) = sil (ax m c) (ag m c) (awg m c) (row r p) (col j a) := by
  rw [pay10_apply, lin7 m c r j h p hh]
  rfl

theorem act11 (a : Fin 704) :
    k0_pay11 h (iblk m c 2 (tp r j)) (iblk m c 3 (tp r j)) (ix2 p a) = act (ax m c) (ag m c) (awg m c) (awu m c) (row r p) (col j a) := by
  rw [pay11_apply, sil10 m c r j h p hh, lin8 m c r j h p hh]
  rfl

end Point

/-- One block of the hidden width's share of the product with the last weights. -/
def part (c : Dev nD) (i : Fin 4096) (b : Fin 2048) (j : Fin 8) : EReal :=
  ∑ a : Fin 704, act (ax m c) (ag m c) (awg m c) (awu m c) i (col j a) * awd m c (ix2 (col j a) b)

theorem acc_step (c : Dev nD) (r j : Fin 8) (h : Vec Ideal S512x2048 .bf16) (v : Vec Ideal S512x2048 .f32) (p : Fin 512)
    (hh : ∀ k : Fin 2048, h (ix2 p k) = hn (ax m c) (ag m c) (row r p) k) (b : Fin 2048) :
    k0_pay2 (k0_pay11 h (iblk m c 2 (tp r j)) (iblk m c 3 (tp r j))) v (iblk m c 4 (tp r j)) (ix2 p b)
      = v (ix2 p b) + part m c (row r p) b j := by
  rw [pay2_apply]
  unfold part
  refine congrArg (α := EReal) (v (ix2 p b) + ·) ?_
  exact Finset.sum_congr (M := EReal) rfl fun a _ => congrArg₂ (α := EReal) (β := EReal) (· * ·) (act11 m c r j h p hh a) (blk4 m c r j a b)

/-- What the points of a row block hold: its normalised rows, and the product over the blocks so far. -/
theorem st_eq (c : Dev nD) (r : Fin 8) (p : Fin 512) (n : ℕ) (hn' : n < 8) (h : 8 * r.val + n < cfg0.N) :
    (∀ k : Fin 2048, (st m c (8 * r.val + n) h).1 (ix2 p k) = hn (ax m c) (ag m c) (row r p) k)
      ∧ ∀ b : Fin 2048, (st m c (8 * r.val + n) h).2 (ix2 p b) = ∑ q : Fin (n + 1), part m c (row r p) b ⟨q.val, by omega⟩ := by
  induction n with
  | zero =>
    have e : st m c (8 * r.val + 0) h = first m c (tp r 0) := st_first m c (tp r 0) (by show (8 * r.val + 0) % 8 = 0; omega)
    rw [e]
    refine ⟨fun k => norm_blk m c r 0 p k, fun b => ?_⟩
    rw [Fin.sum_univ_one]
    refine (acc_step m c r 0 _ _ p (fun k => norm_blk m c r 0 p k) b).trans ?_
    rw [pay5_apply, zero_add]
    rfl
  | succ n ih =>
    obtain ⟨i1, i2⟩ := ih (by omega) (by omega)
    have e : st m c (8 * r.val + (n + 1)) h = next m c (tp r ⟨n + 1, hn'⟩) (st m c (8 * r.val + n) (by omega)) :=
      st_next m c (tp r ⟨n + 1, hn'⟩) (by show ¬(8 * r.val + (n + 1)) % 8 = 0; omega)
    rw [e]
    refine ⟨i1, fun b => ?_⟩
    rw [Fin.sum_univ_castSucc]
    exact (acc_step m c r ⟨n + 1, hn'⟩ _ _ p i1 b).trans (congrArg₂ (α := EReal) (β := EReal) (· + ·) (i2 b) rfl)

theorem st_norm (c : Dev nD) (r j : Fin 8) (p : Fin 512) (k : Fin 2048) :
    (st m c (tp r j).val (tp r j).isLt).1 (ix2 p k) = hn (ax m c) (ag m c) (row r p) k :=
  (st_eq m c r p j.val j.isLt (tp r j).isLt).1 k

theorem out_eq (c : Dev nD) (r : Fin 8) (p : Fin 512) (b : Fin 2048) :
    k0_pay3 (iblk m c 0 (tp r 7)) (st m c (tp r 7).val (tp r 7).isLt).2 (ix2 p b)
      = out (ax m c) (ag m c) (awg m c) (awu m c) (awd m c) (row r p) b := by
  rw [pay3_apply]
  have e : (st m c (tp r 7).val (tp r 7).isLt).2 (ix2 p b) = ∑ q : Fin 8, part m c (row r p) b q :=
    (st_eq m c r p 7 (by omega) (tp r 7).isLt).2 b
  have f : (∑ q : Fin 8, part m c (row r p) b q)
      = ∑ l : Fin 5632, act (ax m c) (ag m c) (awg m c) (awu m c) (row r p) l * awd m c (ix2 l b) := by
    refine Eq.trans ?_ (Fin.sum_univ_tiles (M := EReal) (N := 5632) 8 704 (by norm_num) _).symm
    refine Finset.sum_congr (M := EReal) rfl fun q _ => ?_
    unfold part
    exact Finset.sum_congr (M := EReal) rfl fun a _ => rfl
  rw [e, f, blk0]
  rfl

/-! ## The result arrays -/

/-- The five result arrays over the arguments. -/
def G5 (c : Dev nD) : Buf (Elt Ideal) ((c : Thread nD τ).loc main_v9_0) := fun i : S4096x2048.Idx =>
  out (ax m c) (ag m c) (awg m c) (awu m c) (awd m c) (i 0) (i 1)

def G6 (c : Dev nD) : Buf (Elt Ideal) ((c : Thread nD τ).loc main_v9_1) := fun i : S4096x2048.Idx => hn (ax m c) (ag m c) (i 0) (i 1)

/-- A place of the hidden width from a block index and a place in it. -/
abbrev hc (j : Fin 8) (a : Fin 704) : Fin 5632 := col j a

def G7 (c : Dev nD) : Buf (Elt Ideal) ((c : Thread nD τ).loc main_v9_2) := fun i : S8x4096x704.Idx =>
  act (ax m c) (ag m c) (awg m c) (awu m c) (i 1) (hc (i 0) (i 2))

def G8 (c : Dev nD) : Buf (Elt Ideal) ((c : Thread nD τ).loc main_v9_3) := fun i : S8x4096x704.Idx =>
  gat (ax m c) (ag m c) (awg m c) (awu m c) (i 1) (hc (i 0) (i 2))

def G9 (c : Dev nD) : Buf (Elt Ideal) ((c : Thread nD τ).loc main_v9_4) := fun i : S8x4096x704.Idx =>
  sil (ax m c) (ag m c) (awg m c) (i 1) (hc (i 0) (i 2))

theorem flushed5 (c : Dev nD) (t : Fin cfg0.N) (hf : (cfg0.win 5).flush t = true) :
    (dats m 0 c).flushed 5 t = ((cfg0.win 5).blk t).view.read (Elt Ideal) (G5 m c) := by
  have hm : t.val % 8 = 7 := (flush0_5 t).mp hf
  obtain ⟨r, j, rfl⟩ := tp_of t
  have hj : j = 7 := Fin.ext (by have : (8 * r.val + j.val) % 8 = 7 := hm; show j.val = 7; omega)
  subst hj
  show (cfg0.win 5).cut (grid0.coords _) ((dats m 0 c).after 5 _) = _
  rw [after0_5]
  funext y
  have hx0 : (((cfg0.win 5).blk (tp r 7)).view.emb y 0).val = win0_5.index (tp r 7) (0 : Fin 2) * 512 + 1 * (y 0).val := rfl
  have hx1 : (((cfg0.win 5).blk (tp r 7)).view.emb y 1).val = win0_5.index (tp r 7) (1 : Fin 2) * 2048 + 1 * (y 1).val := rfl
  have hi := (idx_out r 7).1
  rw [hi] at hx0 hx1
  have e : ((cfg0.win 5).blk (tp r 7)).view.emb y = ix2 (row r ⟨(y 0).val, (y 0).isLt⟩) (⟨(y 1).val, (y 1).isLt⟩ : Fin 2048) := by
    funext q
    refine Fin.ext ?_
    match q with
    | ⟨0, _⟩ => refine hx0.trans ?_; show r.val * 512 + 1 * (y 0).val = r.val * 512 + (y 0).val; omega
    | ⟨1, _⟩ => refine hx1.trans ?_; show 0 * 2048 + 1 * (y 1).val = (y 1).val; omega
  have e' : (cfg0.win 5).xinj (grid0.coords (tp r 7)) y = ix2 (⟨(y 0).val, (y 0).isLt⟩ : Fin 512) (⟨(y 1).val, (y 1).isLt⟩ : Fin 2048) := by
    funext q
    match q with
    | ⟨0, _⟩ => rfl
    | ⟨1, _⟩ => rfl
  show (k0_pay3 (iblk m c 0 (tp r 7)) (st m c (tp r 7).val (tp r 7).isLt).2) ((cfg0.win 5).xinj (grid0.coords (tp r 7)) y) = G5 m c (((cfg0.win 5).blk (tp r 7)).view.emb y)
  rw [e, e']
  exact out_eq m c r _ _

theorem mem_blk5 (t : Fin cfg0.N) (i : S4096x2048.Idx) :
    i ∈ ((cfg0.win 5).blk t).view.set ↔ ∀ a : Fin 2, win0_5.index t a * S512x2048.size a ≤ (i a).val ∧ (i a).val < win0_5.index t a * S512x2048.size a + S512x2048.size a := by
  show i ∈ ((View.whole main_v9_0).slice (win0_5.rect t)).set ↔ _
  rw [View.set_slice_whole, Rect.mem_set_unit]
  exact Iff.rfl

theorem cover5 (i : S4096x2048.Idx) : ∃ t : Fin cfg0.N, (cfg0.win 5).flush t = true ∧ i ∈ ((cfg0.win 5).blk t).view.set := by
  have h0 : (i 0).val < 4096 := (i 0).isLt
  have h1 : (i 1).val < 2048 := (i 1).isLt
  have hi := (idx_out ⟨(i 0).val / 512, by omega⟩ 7).1
  refine ⟨tp ⟨(i 0).val / 512, by omega⟩ 7, (flush0_5 _).mpr (by show (8 * ((i 0).val / 512) + 7) % 8 = 7; omega), ?_⟩
  rw [mem_blk5, hi]
  intro a
  match a with
  | ⟨0, _⟩ => show (i 0).val / 512 * 512 ≤ (i 0).val ∧ (i 0).val < (i 0).val / 512 * 512 + 512; omega
  | ⟨1, _⟩ => show 0 * 2048 ≤ (i 1).val ∧ (i 1).val < 0 * 2048 + 2048; omega

theorem final5 (c : Dev nD) : (dats m 0 c).arrAt 5 cfg0.N = G5 m c :=
  (dats m 0 c).arrAt_eq_of_cover 5 _ (fun t hf => flushed5 m c t hf) (cover5)

theorem flushed6 (c : Dev nD) (t : Fin cfg0.N) (hf : (cfg0.win 6).flush t = true) :
    (dats m 0 c).flushed 6 t = ((cfg0.win 6).blk t).view.read (Elt Ideal) (G6 m c) := by
  have hm : t.val % 8 = 7 := (flush0_6 t).mp hf
  obtain ⟨r, j, rfl⟩ := tp_of t
  have hj : j = 7 := Fin.ext (by have : (8 * r.val + j.val) % 8 = 7 := hm; show j.val = 7; omega)
  subst hj
  show (cfg0.win 6).cut (grid0.coords _) ((dats m 0 c).after 6 _) = _
  rw [after0_6]
  funext y
  have hx0 : (((cfg0.win 6).blk (tp r 7)).view.emb y 0).val = win0_6.index (tp r 7) (0 : Fin 2) * 512 + 1 * (y 0).val := rfl
  have hx1 : (((cfg0.win 6).blk (tp r 7)).view.emb y 1).val = win0_6.index (tp r 7) (1 : Fin 2) * 2048 + 1 * (y 1).val := rfl
  have hi := (idx_out r 7).2.1
  rw [hi] at hx0 hx1
  have e : ((cfg0.win 6).blk (tp r 7)).view.emb y = ix2 (row r ⟨(y 0).val, (y 0).isLt⟩) (⟨(y 1).val, (y 1).isLt⟩ : Fin 2048) := by
    funext q
    refine Fin.ext ?_
    match q with
    | ⟨0, _⟩ => refine hx0.trans ?_; show r.val * 512 + 1 * (y 0).val = r.val * 512 + (y 0).val; omega
    | ⟨1, _⟩ => refine hx1.trans ?_; show 0 * 2048 + 1 * (y 1).val = (y 1).val; omega
  have e' : (cfg0.win 6).xinj (grid0.coords (tp r 7)) y = ix2 (⟨(y 0).val, (y 0).isLt⟩ : Fin 512) (⟨(y 1).val, (y 1).isLt⟩ : Fin 2048) := by
    funext q
    match q with
    | ⟨0, _⟩ => rfl
    | ⟨1, _⟩ => rfl
  show ((st m c (tp r 7).val (tp r 7).isLt).1) ((cfg0.win 6).xinj (grid0.coords (tp r 7)) y) = G6 m c (((cfg0.win 6).blk (tp r 7)).view.emb y)
  rw [e, e']
  exact st_norm m c r 7 _ _

theorem mem_blk6 (t : Fin cfg0.N) (i : S4096x2048.Idx) :
    i ∈ ((cfg0.win 6).blk t).view.set ↔ ∀ a : Fin 2, win0_6.index t a * S512x2048.size a ≤ (i a).val ∧ (i a).val < win0_6.index t a * S512x2048.size a + S512x2048.size a := by
  show i ∈ ((View.whole main_v9_1).slice (win0_6.rect t)).set ↔ _
  rw [View.set_slice_whole, Rect.mem_set_unit]
  exact Iff.rfl

theorem cover6 (i : S4096x2048.Idx) : ∃ t : Fin cfg0.N, (cfg0.win 6).flush t = true ∧ i ∈ ((cfg0.win 6).blk t).view.set := by
  have h0 : (i 0).val < 4096 := (i 0).isLt
  have h1 : (i 1).val < 2048 := (i 1).isLt
  have hi := (idx_out ⟨(i 0).val / 512, by omega⟩ 7).2.1
  refine ⟨tp ⟨(i 0).val / 512, by omega⟩ 7, (flush0_6 _).mpr (by show (8 * ((i 0).val / 512) + 7) % 8 = 7; omega), ?_⟩
  rw [mem_blk6, hi]
  intro a
  match a with
  | ⟨0, _⟩ => show (i 0).val / 512 * 512 ≤ (i 0).val ∧ (i 0).val < (i 0).val / 512 * 512 + 512; omega
  | ⟨1, _⟩ => show 0 * 2048 ≤ (i 1).val ∧ (i 1).val < 0 * 2048 + 2048; omega

theorem final6 (c : Dev nD) : (dats m 0 c).arrAt 6 cfg0.N = G6 m c :=
  (dats m 0 c).arrAt_eq_of_cover 6 _ (fun t hf => flushed6 m c t hf) (cover6)

theorem flushed7 (c : Dev nD) (t : Fin cfg0.N) :
    (dats m 0 c).flushed 7 t = ((cfg0.win 7).blk t).view.read (Elt Ideal) (G7 m c) := by
  obtain ⟨r, j, rfl⟩ := tp_of t
  show (cfg0.win 7).cut (grid0.coords _) ((dats m 0 c).after 7 _) = _
  rw [after0_7]
  funext y
  have hy0 : (y 0).val < 1 := (y 0).isLt
  have hx0 : (((cfg0.win 7).blk (tp r j)).view.emb y 0).val = win0_7.index (tp r j) (0 : Fin 3) * 1 + 1 * (y 0).val := rfl
  have hx1 : (((cfg0.win 7).blk (tp r j)).view.emb y 1).val = win0_7.index (tp r j) (1 : Fin 3) * 512 + 1 * (y 1).val := rfl
  have hx2 : (((cfg0.win 7).blk (tp r j)).view.emb y 2).val = win0_7.index (tp r j) (2 : Fin 3) * 704 + 1 * (y 2).val := rfl
  have hi := (idx_out r j).2.2.1
  rw [hi] at hx0 hx1 hx2
  have e : ((cfg0.win 7).blk (tp r j)).view.emb y = ix3 j (row r ⟨(y 1).val, (y 1).isLt⟩) (⟨(y 2).val, (y 2).isLt⟩ : Fin 704) := by
    funext q
    refine Fin.ext ?_
    match q with
    | ⟨0, _⟩ => refine hx0.trans ?_; show j.val * 1 + 1 * (y 0).val = j.val; omega
    | ⟨1, _⟩ => refine hx1.trans ?_; show r.val * 512 + 1 * (y 1).val = r.val * 512 + (y 1).val; omega
    | ⟨2, _⟩ => refine hx2.trans ?_; show 0 * 704 + 1 * (y 2).val = (y 2).val; omega
  have e' : (cfg0.win 7).xinj (grid0.coords (tp r j)) y = ix3 (0 : Fin 1) (⟨(y 1).val, (y 1).isLt⟩ : Fin 512) (⟨(y 2).val, (y 2).isLt⟩ : Fin 704) := by
    funext q
    refine Fin.ext ?_
    match q with
    | ⟨0, _⟩ => show (y 0).val = 0; omega
    | ⟨1, _⟩ => rfl
    | ⟨2, _⟩ => rfl
  show (k0_pay12 (st m c (tp r j).val (tp r j).isLt).1 (iblk m c 2 (tp r j)) (iblk m c 3 (tp r j))) ((cfg0.win 7).xinj (grid0.coords (tp r j)) y) = G7 m c (((cfg0.win 7).blk (tp r j)).view.emb y)
  rw [e, e']
  exact (pay12_apply _ _ _ _ _).trans (act11 m c r j _ _ (st_norm m c r j _) _)

theorem mem_blk7 (t : Fin cfg0.N) (i : S8x4096x704.Idx) :
    i ∈ ((cfg0.win 7).blk t).view.set ↔ ∀ a : Fin 3, win0_7.index t a * S1x512x704.size a ≤ (i a).val ∧ (i a).val < win0_7.index t a * S1x512x704.size a + S1x512x704.size a := by
  show i ∈ ((View.whole main_v9_2).slice (win0_7.rect t)).set ↔ _
  rw [View.set_slice_whole, Rect.mem_set_unit]
  exact Iff.rfl

theorem cover7 (i : S8x4096x704.Idx) : ∃ t : Fin cfg0.N, (cfg0.win 7).flush t = true ∧ i ∈ ((cfg0.win 7).blk t).view.set := by
  have h0 : (i 0).val < 8 := (i 0).isLt
  have h1 : (i 1).val < 4096 := (i 1).isLt
  have h2 : (i 2).val < 704 := (i 2).isLt
  have hi := (idx_out ⟨(i 1).val / 512, by omega⟩ ⟨(i 0).val, h0⟩).2.2.1
  refine ⟨tp ⟨(i 1).val / 512, by omega⟩ ⟨(i 0).val, h0⟩, flush0_7 _, ?_⟩
  rw [mem_blk7, hi]
  intro a
  match a with
  | ⟨0, _⟩ => show (i 0).val * 1 ≤ (i 0).val ∧ (i 0).val < (i 0).val * 1 + 1; omega
  | ⟨1, _⟩ => show (i 1).val / 512 * 512 ≤ (i 1).val ∧ (i 1).val < (i 1).val / 512 * 512 + 512; omega
  | ⟨2, _⟩ => show 0 * 704 ≤ (i 2).val ∧ (i 2).val < 0 * 704 + 704; omega

theorem final7 (c : Dev nD) : (dats m 0 c).arrAt 7 cfg0.N = G7 m c :=
  (dats m 0 c).arrAt_eq_of_cover 7 _ (fun t _ => flushed7 m c t) (cover7)

theorem flushed8 (c : Dev nD) (t : Fin cfg0.N) :
    (dats m 0 c).flushed 8 t = ((cfg0.win 8).blk t).view.read (Elt Ideal) (G8 m c) := by
  obtain ⟨r, j, rfl⟩ := tp_of t
  show (cfg0.win 8).cut (grid0.coords _) ((dats m 0 c).after 8 _) = _
  rw [after0_8]
  funext y
  have hy0 : (y 0).val < 1 := (y 0).isLt
  have hx0 : (((cfg0.win 8).blk (tp r j)).view.emb y 0).val = win0_8.index (tp r j) (0 : Fin 3) * 1 + 1 * (y 0).val := rfl
  have hx1 : (((cfg0.win 8).blk (tp r j)).view.emb y 1).val = win0_8.index (tp r j) (1 : Fin 3) * 512 + 1 * (y 1).val := rfl
  have hx2 : (((cfg0.win 8).blk (tp r j)).view.emb y 2).val = win0_8.index (tp r j) (2 : Fin 3) * 704 + 1 * (y 2).val := rfl
  have hi := (idx_out r j).2.2.2.1
  rw [hi] at hx0 hx1 hx2
  have e : ((cfg0.win 8).blk (tp r j)).view.emb y = ix3 j (row r ⟨(y 1).val, (y 1).isLt⟩) (⟨(y 2).val, (y 2).isLt⟩ : Fin 704) := by
    funext q
    refine Fin.ext ?_
    match q with
    | ⟨0, _⟩ => refine hx0.trans ?_; show j.val * 1 + 1 * (y 0).val = j.val; omega
    | ⟨1, _⟩ => refine hx1.trans ?_; show r.val * 512 + 1 * (y 1).val = r.val * 512 + (y 1).val; omega
    | ⟨2, _⟩ => refine hx2.trans ?_; show 0 * 704 + 1 * (y 2).val = (y 2).val; omega
  have e' : (cfg0.win 8).xinj (grid0.coords (tp r j)) y = ix3 (0 : Fin 1) (⟨(y 1).val, (y 1).isLt⟩ : Fin 512) (⟨(y 2).val, (y 2).isLt⟩ : Fin 704) := by
    funext q
    refine Fin.ext ?_
    match q with
    | ⟨0, _⟩ => show (y 0).val = 0; omega
    | ⟨1, _⟩ => rfl
    | ⟨2, _⟩ => rfl
  show (k0_pay13 (st m c (tp r j).val (tp r j).isLt).1 (iblk m c 2 (tp r j)) (iblk m c 3 (tp r j))) ((cfg0.win 8).xinj (grid0.coords (tp r j)) y) = G8 m c (((cfg0.win 8).blk (tp r j)).view.emb y)
  rw [e, e']
  exact (pay13_apply _ _ _ _ _).trans (congrArg₂ (α := EReal) (β := EReal) (fun u v => u * dsil v)
    (lin8 m c r j _ _ (st_norm m c r j _) _) (lin7 m c r j _ _ (st_norm m c r j _) _))

theorem mem_blk8 (t : Fin cfg0.N) (i : S8x4096x704.Idx) :
    i ∈ ((cfg0.win 8).blk t).view.set ↔ ∀ a : Fin 3, win0_8.index t a * S1x512x704.size a ≤ (i a).val ∧ (i a).val < win0_8.index t a * S1x512x704.size a + S1x512x704.size a := by
  show i ∈ ((View.whole main_v9_3).slice (win0_8.rect t)).set ↔ _
  rw [View.set_slice_whole, Rect.mem_set_unit]
  exact Iff.rfl

theorem cover8 (i : S8x4096x704.Idx) : ∃ t : Fin cfg0.N, (cfg0.win 8).flush t = true ∧ i ∈ ((cfg0.win 8).blk t).view.set := by
  have h0 : (i 0).val < 8 := (i 0).isLt
  have h1 : (i 1).val < 4096 := (i 1).isLt
  have h2 : (i 2).val < 704 := (i 2).isLt
  have hi := (idx_out ⟨(i 1).val / 512, by omega⟩ ⟨(i 0).val, h0⟩).2.2.2.1
  refine ⟨tp ⟨(i 1).val / 512, by omega⟩ ⟨(i 0).val, h0⟩, flush0_8 _, ?_⟩
  rw [mem_blk8, hi]
  intro a
  match a with
  | ⟨0, _⟩ => show (i 0).val * 1 ≤ (i 0).val ∧ (i 0).val < (i 0).val * 1 + 1; omega
  | ⟨1, _⟩ => show (i 1).val / 512 * 512 ≤ (i 1).val ∧ (i 1).val < (i 1).val / 512 * 512 + 512; omega
  | ⟨2, _⟩ => show 0 * 704 ≤ (i 2).val ∧ (i 2).val < 0 * 704 + 704; omega

theorem final8 (c : Dev nD) : (dats m 0 c).arrAt 8 cfg0.N = G8 m c :=
  (dats m 0 c).arrAt_eq_of_cover 8 _ (fun t _ => flushed8 m c t) (cover8)

theorem flushed9 (c : Dev nD) (t : Fin cfg0.N) :
    (dats m 0 c).flushed 9 t = ((cfg0.win 9).blk t).view.read (Elt Ideal) (G9 m c) := by
  obtain ⟨r, j, rfl⟩ := tp_of t
  show (cfg0.win 9).cut (grid0.coords _) ((dats m 0 c).after 9 _) = _
  rw [after0_9]
  funext y
  have hy0 : (y 0).val < 1 := (y 0).isLt
  have hx0 : (((cfg0.win 9).blk (tp r j)).view.emb y 0).val = win0_9.index (tp r j) (0 : Fin 3) * 1 + 1 * (y 0).val := rfl
  have hx1 : (((cfg0.win 9).blk (tp r j)).view.emb y 1).val = win0_9.index (tp r j) (1 : Fin 3) * 512 + 1 * (y 1).val := rfl
  have hx2 : (((cfg0.win 9).blk (tp r j)).view.emb y 2).val = win0_9.index (tp r j) (2 : Fin 3) * 704 + 1 * (y 2).val := rfl
  have hi := (idx_out r j).2.2.2.2
  rw [hi] at hx0 hx1 hx2
  have e : ((cfg0.win 9).blk (tp r j)).view.emb y = ix3 j (row r ⟨(y 1).val, (y 1).isLt⟩) (⟨(y 2).val, (y 2).isLt⟩ : Fin 704) := by
    funext q
    refine Fin.ext ?_
    match q with
    | ⟨0, _⟩ => refine hx0.trans ?_; show j.val * 1 + 1 * (y 0).val = j.val; omega
    | ⟨1, _⟩ => refine hx1.trans ?_; show r.val * 512 + 1 * (y 1).val = r.val * 512 + (y 1).val; omega
    | ⟨2, _⟩ => refine hx2.trans ?_; show 0 * 704 + 1 * (y 2).val = (y 2).val; omega
  have e' : (cfg0.win 9).xinj (grid0.coords (tp r j)) y = ix3 (0 : Fin 1) (⟨(y 1).val, (y 1).isLt⟩ : Fin 512) (⟨(y 2).val, (y 2).isLt⟩ : Fin 704) := by
    funext q
    refine Fin.ext ?_
    match q with
    | ⟨0, _⟩ => show (y 0).val = 0; omega
    | ⟨1, _⟩ => rfl
    | ⟨2, _⟩ => rfl
  show (k0_pay1 (k0_pay14 (st m c (tp r j).val (tp r j).isLt).1 (iblk m c 2 (tp r j)))) ((cfg0.win 9).xinj (grid0.coords (tp r j)) y) = G9 m c (((cfg0.win 9).blk (tp r j)).view.emb y)
  rw [e, e']
  exact (pay1_apply _ _ _ _).trans (sil10 m c r j _ _ (st_norm m c r j _) _)

theorem mem_blk9 (t : Fin cfg0.N) (i : S8x4096x704.Idx) :
    i ∈ ((cfg0.win 9).blk t).view.set ↔ ∀ a : Fin 3, win0_9.index t a * S1x512x704.size a ≤ (i a).val ∧ (i a).val < win0_9.index t a * S1x512x704.size a + S1x512x704.size a := by
  show i ∈ ((View.whole main_v9_4).slice (win0_9.rect t)).set ↔ _
  rw [View.set_slice_whole, Rect.mem_set_unit]
  exact Iff.rfl

theorem cover9 (i : S8x4096x704.Idx) : ∃ t : Fin cfg0.N, (cfg0.win 9).flush t = true ∧ i ∈ ((cfg0.win 9).blk t).view.set := by
  have h0 : (i 0).val < 8 := (i 0).isLt
  have h1 : (i 1).val < 4096 := (i 1).isLt
  have h2 : (i 2).val < 704 := (i 2).isLt
  have hi := (idx_out ⟨(i 1).val / 512, by omega⟩ ⟨(i 0).val, h0⟩).2.2.2.2
  refine ⟨tp ⟨(i 1).val / 512, by omega⟩ ⟨(i 0).val, h0⟩, flush0_9 _, ?_⟩
  rw [mem_blk9, hi]
  intro a
  match a with
  | ⟨0, _⟩ => show (i 0).val * 1 ≤ (i 0).val ∧ (i 0).val < (i 0).val * 1 + 1; omega
  | ⟨1, _⟩ => show (i 1).val / 512 * 512 ≤ (i 1).val ∧ (i 1).val < (i 1).val / 512 * 512 + 512; omega
  | ⟨2, _⟩ => show 0 * 704 ≤ (i 2).val ∧ (i 2).val < 0 * 704 + 704; omega

theorem final9 (c : Dev nD) : (dats m 0 c).arrAt 9 cfg0.N = G9 m c :=
  (dats m 0 c).arrAt_eq_of_cover 9 _ (fun t _ => flushed9 m c t) (cover9)

/-- The run with each result array named, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v9_0) = G5 m c
      ∧ r.2.mem ((c : Thread nD τ).loc main_v9_1) = G6 m c
      ∧ r.2.mem ((c : Thread nD τ).loc main_v9_2) = G7 m c
      ∧ r.2.mem ((c : Thread nD τ).loc main_v9_3) = G8 m c
      ∧ r.2.mem ((c : Thread nD τ).loc main_v9_4) = G9 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 5).trans (final5 m c), ((h c).1 6).trans (final6 m c), ((h c).1 7).trans (final7 m c),
      ((h c).1 8).trans (final8 m c), ((h c).1 9).trans (final9 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.FfnFwd

end
-- ==== Proof.FfnFwd.lean ====
/- The claims about a SwiGLU layer's forward call. -/
module

public import proofs.«01_k».proof.Defs
public import proofs.«01_k».proof.Proof.FfnFwdValue
public import proofs.«01_k».proof.Proof.Gen.Kernel3
public import proofs.«01_k».proof.Proof.Gen.Reference3Ideal.Run

@[expose] public section

set_option maxRecDepth 16384

noncomputable section

namespace Cert.FfnFwd

open Idealize.ShloMosaic Idealize.ShloMosaic.TcCoe Idealize.SL.Sem
open Cert.Ffn

theorem frame_pi : Cert.quiescent_Kernel3Ideal := fun m ρ _ => frame m ρ

/-- The two programs' body tables are the same function, label by label. -/
theorem bodies_eq : Cert.Kernel3.defs₀ (F := Bits) = Cert.Kernel3Ideal.defs₀ (F := Bits) := by
  unfold Cert.Kernel3.defs₀ Cert.Kernel3Ideal.defs₀
  congr 1
  funext l a
  match l, a with
  | 0, (t, s) => rfl

theorem defs_eq : Cert.Kernel3.defs (F := Bits) = Cert.Kernel3Ideal.defs (F := Bits) := by
  unfold Cert.Kernel3.defs Cert.Kernel3Ideal.defs
  exact congrArg (Pipeline.defs (Cert.Kernel3Ideal.pcfgs (F := Bits))) bodies_eq

theorem frame_p : Cert.quiescent_Kernel3 := fun m ρ _ => by
  rw [defs_eq]
  exact frame (F := Bits) m ρ

theorem frame_ri : Cert.quiescent_Reference3Ideal := fun m ρ _ =>
  (θ_run Cert.Reference3Ideal.defs _ _).mono
    (fun r h => ⟨fun c => (h c).2.2.2.2.2, Idealize.ShloMosaic.sem_eq_zero_of_no_sems (by decide) r.2⟩)
    (Cert.Reference3Ideal.Value.run (F := Ideal) m ρ)

theorem preserves : Cert.preserves_Kernel3_Kernel3Ideal := trivial

/-- The two programs leave the same five results. -/
theorem algebraic : Cert.algebraic_Kernel3Ideal_Reference3Ideal := by
  intro m ρ m' ρ' hpre hagree
  refine ⟨_, _, _, _, _, run m ρ, ?_⟩
  refine (θ_run Cert.Reference3Ideal.defs _ _).mono (fun r h c => ?_) (Cert.Reference3Ideal.Value.run (F := Ideal) m' ρ')
  obtain ⟨g0, g1, g2, g3, g4⟩ := hagree c
  obtain ⟨r0, r1, r2, r3, r4, rest⟩ := h c
  rw [Cert.Reference3Ideal.Read.val_main_v20_eq, g0, g1, g2, g3, g4] at r0
  rw [Cert.Reference3Ideal.Read.val_main_v21_eq, g0, g1] at r1
  rw [Cert.Reference3Ideal.Read.val_main_v24_eq, g0, g1, g2, g3] at r2
  rw [Cert.Reference3Ideal.Read.val_main_v30_eq, g0, g1, g2, g3] at r3
  rw [Cert.Reference3Ideal.Read.val_main_v33_eq, g0, g1, g2] at r4
  refine ⟨r0.trans ?_, r1.trans ?_, r2.trans ?_, r3.trans ?_, r4.trans ?_, rest⟩
  · funext i
    change Cert.Kernel3Ideal.S4096x2048.Idx at i
    idx_vars i
    exact ref20 _ _ _ _ _ _ _
  · funext i
    change Cert.Kernel3Ideal.S4096x2048.Idx at i
    idx_vars i
    exact ref21 _ _ _ _
  · funext i
    change Cert.Kernel3Ideal.S8x4096x704.Idx at i
    idx_vars i
    exact ref24 _ _ _ _ _ _ _
  · funext i
    change Cert.Kernel3Ideal.S8x4096x704.Idx at i
    idx_vars i
    exact ref30 _ _ _ _ _ _ _
  · funext i
    change Cert.Kernel3Ideal.S8x4096x704.Idx at i
    idx_vars i
    exact ref33 _ _ _ _ _ _

end Cert.FfnFwd

end
-- ==== Proof.FfnDxRunA.lean ====
module

public import proofs.«01_k».proof.Proof.Gen.Kernel4Ideal.Frame
public import proofs.«01_k».proof.Proof.Gen.Kernel4Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.ValueKit
public import Idealize.ShloMosaic.Lib.VecWindow

@[expose] public section

set_option maxRecDepth 16384

noncomputable section

namespace Cert.FfnDx

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

/-! ## The body's branch conditions -/

/-- The condition of the body's `scf.if` 0, from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 8) — by arithmetic of the point. -/
theorem hcond0_0 : ∀ t : Fin cfg0.N, cond0_0 (grid0.coords t) ↔ t.val % 8 = 0 :=
  (fun t => by
    have ht : t.val < 64 := Nat.lt_of_lt_of_eq t.isLt N_0
    have e0 : (grid0.coords t 0).val = t.val / 8 % 8 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 8 = 0)

/-- The condition of the body's `scf.if` 1, from the grid coordinates (the skeleton's scalar
    chain substituted). -/
abbrev cond0_1 (i : grid0.Coords) : Prop := k0_cond2 i = 1#1
/-- It holds at the points ≡ 7 (mod 8) — by arithmetic of the point. -/
theorem hcond0_1 : ∀ t : Fin cfg0.N, cond0_1 (grid0.coords t) ↔ t.val % 8 = 7 :=
  (fun t => by
    have ht : t.val < 64 := Nat.lt_of_lt_of_eq t.isLt N_0
    have e0 : (grid0.coords t 0).val = t.val / 8 % 8 := Pipeline.Grid.coords_val t 0 (by decide) rfl
    have e1 : (grid0.coords t 1).val = t.val / 1 % 8 := Pipeline.Grid.coords_val t 1 (by decide) rfl
    simp only [cond0_1, k0_cond2, e0, e1]
    word_cmp
   : ∀ t : Fin grid0.N, cond0_1 (grid0.coords t) ↔ t.val % 8 = 7)

/-- The condition of the body's `scf.if` 2, from the grid coordinates (the skeleton's scalar
    chain substituted). -/
abbrev cond0_2 (i : grid0.Coords) : Prop := k0_cond3 i = 1#1
/-- It holds at the points before point 8 — by arithmetic of the point. -/
theorem hcond0_2 : ∀ t : Fin cfg0.N, cond0_2 (grid0.coords t) ↔ t.val < 8 :=
  (fun t => by
    have ht : t.val < 64 := Nat.lt_of_lt_of_eq t.isLt N_0
    have e0 : (grid0.coords t 0).val = t.val / 8 % 8 := Pipeline.Grid.coords_val t 0 (by decide) rfl
    have e1 : (grid0.coords t 1).val = t.val / 1 % 8 := Pipeline.Grid.coords_val t 1 (by decide) rfl
    simp only [cond0_2, k0_cond3, e0, e1]
    word_cmp
   : ∀ t : Fin grid0.N, cond0_2 (grid0.coords t) ↔ t.val < 8)

/-- The condition of the body's `scf.if` 3, from the grid coordinates (the skeleton's scalar
    chain substituted). -/
abbrev cond0_3 (i : grid0.Coords) : Prop := k0_cond4 i = 1#1
/-- It holds at the points from point 8 on — decided over the grid. -/
theorem hcond0_3 : ∀ t : Fin cfg0.N, cond0_3 (grid0.coords t) ↔ 8 ≤ t.val :=
  (by decide +kernel : ∀ t : Fin grid0.N, cond0_3 (grid0.coords t) ↔ 8 ≤ t.val)

variable (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1x512x704 .bf16) (harg5 : arg5.IsWhole) (arg6 : Memref sig .tc .vmem S1x512x704 .bf16) (harg6 : arg6.IsWhole) (arg7 : Memref sig .tc .vmem S1x704x2048 .bf16) (harg7 : arg7.IsWhole) (arg8 : Memref sig .tc .vmem S1x704x2048 .bf16) (harg8 : arg8.IsWhole) (arg9 : Memref sig .tc .vmem S1x704x2048 .bf16) (harg9 : arg9.IsWhole) (arg10 : Memref sig .tc .vmem S512x2048 .f32) (harg10 : arg10.IsWhole) (arg11 : Memref sig .tc .vmem S1x512x704 .bf16) (harg11 : arg11.IsWhole) (arg12 : Memref sig .tc .vmem S1x512x704 .bf16) (harg12 : arg12.IsWhole) (arg13 : Memref sig .tc .vmem S512x2048 .bf16) (harg13 : arg13.IsWhole) (arg14 : Memref sig .tc .vmem S8x2048 .f32) (harg14 : arg14.IsWhole) (arg15 : Memref sig .tc .vmem S512x2048 .f32) (harg15 : arg15.IsWhole)

set_option maxHeartbeats 4000000 in
/-- The body in case A. -/
theorem runA (hc0 : cond0_0 i) (hc1 : ¬cond0_1 i) (x0 : Vec F S512x2048 .f32) (x1 : Vec F S512x2048 .f32) (x2 : Vec F S1x2048 .f32) (x3 : Vec F S1x512x704 .bf16) (x4 : Vec F S1x512x704 .bf16) (x5 : Vec F S1x704x2048 .bf16) (x6 : Vec F S1x704x2048 .bf16) (x7 : Vec F S1x704x2048 .bf16) (x8 : Vec F S512x2048 .f32) (x12 : Vec F S8x2048 .f32) (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare x12 ∗ (∃ d, owns (c : Thread nD τ) arg15 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (k0_pay13 (k0_pay8 x0) x7 x3) ∗ owns (c : Thread nD τ) arg12 fullShare (k0_pay14 (k0_pay8 x0) x7 x4) ∗ owns (c : Thread nD τ) arg13 fullShare (k0_pay8 x0) ∗ owns (c : Thread nD τ) arg14 fullShare x12 ∗ owns (c : Thread nD τ) arg15 fullShare (k0_pay2 (k0_pay12 (k0_pay8 x0) x7 x4) (k0_pay1 (k0_pay15 (k0_pay8 x0) x7 x3 (k0_pay9 (F := F)) x5)) x6)) -∗ K ⟨⟩))
      ⊢ wp frame (wpE (defs₀ (F := F)) Variants.none c none) E (cc0_ffn_bwd_dx i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_ffn_bwd_dx_eq_skeleton]; unfold cc0_ffn_bwd_dx_skel
  simp only [k0_part2_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%f12, %hf12, H12⟩, ⟨%d13, %f13, -, H13⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg14.eq_unread hf12
  sl_exec (disch := first | sl_exact hc0 | sl_exact hc1)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact harg7.read_unread _
  isplitl [H6]
  · iexists _; isplitr; swap; · iexact H6
    ipureintro; exact harg8.read_unread _
  isplitl [H7]
  · iexists _; isplitr; swap; · iexact H7
    ipureintro; exact harg9.read_unread _
  isplitl [H8]
  · iexists _; isplitr; swap; · iexact H8
    ipureintro; exact harg10.read_unread _
  isplitl [H9]
  · iexists _; isplitr; swap; · iexact H9
    ipureintro; frame_out; exact View.read_writes_full _ _ _ _ _
  isplitl [H10]
  · iexists _; isplitr; swap; · iexact H10
    ipureintro; frame_out; exact View.read_writes_full _ _ _ _ _
  isplitl [H11]
  · iexists _; isplitr; swap; · iexact H11
    ipureintro; frame_out; exact View.read_writes_full _ _ _ _ _
  isplitl [H12]
  · iexists _; isplitr; swap; · iexact H12
    ipureintro; exact harg14.read_unread _
  iexists _; isplitr; swap; · iexact H13
  ipureintro; frame_out; exact View.read_writes_full _ _ _ _ _

end Cert.FfnDx

end
-- ==== Proof.FfnDxRunB.lean ====
module

public import proofs.«01_k».proof.Proof.Gen.Kernel4Ideal.Frame
public import proofs.«01_k».proof.Proof.Gen.Kernel4Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.ValueKit
public import Idealize.ShloMosaic.Lib.VecWindow
public import proofs.«01_k».proof.Proof.FfnDxRunA

@[expose] public section

set_option maxRecDepth 16384

noncomputable section

namespace Cert.FfnDx

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

variable (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1x512x704 .bf16) (harg5 : arg5.IsWhole) (arg6 : Memref sig .tc .vmem S1x512x704 .bf16) (harg6 : arg6.IsWhole) (arg7 : Memref sig .tc .vmem S1x704x2048 .bf16) (harg7 : arg7.IsWhole) (arg8 : Memref sig .tc .vmem S1x704x2048 .bf16) (harg8 : arg8.IsWhole) (arg9 : Memref sig .tc .vmem S1x704x2048 .bf16) (harg9 : arg9.IsWhole) (arg10 : Memref sig .tc .vmem S512x2048 .f32) (harg10 : arg10.IsWhole) (arg11 : Memref sig .tc .vmem S1x512x704 .bf16) (harg11 : arg11.IsWhole) (arg12 : Memref sig .tc .vmem S1x512x704 .bf16) (harg12 : arg12.IsWhole) (arg13 : Memref sig .tc .vmem S512x2048 .bf16) (harg13 : arg13.IsWhole) (arg14 : Memref sig .tc .vmem S8x2048 .f32) (harg14 : arg14.IsWhole) (arg15 : Memref sig .tc .vmem S512x2048 .f32) (harg15 : arg15.IsWhole)

set_option maxHeartbeats 4000000 in
/-- The body in case B. -/
theorem runB (hc0 : ¬cond0_0 i) (hc1 : ¬cond0_1 i) (x0 : Vec F S512x2048 .f32) (x1 : Vec F S512x2048 .f32) (x2 : Vec F S1x2048 .f32) (x3 : Vec F S1x512x704 .bf16) (x4 : Vec F S1x512x704 .bf16) (x5 : Vec F S1x704x2048 .bf16) (x6 : Vec F S1x704x2048 .bf16) (x7 : Vec F S1x704x2048 .bf16) (x8 : Vec F S512x2048 .f32) (x11 : Vec F S512x2048 .bf16) (x12 : Vec F S8x2048 .f32) (x13 : Vec F S512x2048 .f32) (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ owns (c : Thread nD τ) arg13 fullShare x11 ∗ owns (c : Thread nD τ) arg14 fullShare x12 ∗ owns (c : Thread nD τ) arg15 fullShare x13
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (k0_pay13 x11 x7 x3) ∗ owns (c : Thread nD τ) arg12 fullShare (k0_pay14 x11 x7 x4) ∗ owns (c : Thread nD τ) arg13 fullShare x11 ∗ owns (c : Thread nD τ) arg14 fullShare x12 ∗ owns (c : Thread nD τ) arg15 fullShare (k0_pay2 (k0_pay12 x11 x7 x4) (k0_pay1 (k0_pay15 x11 x7 x3 x13 x5)) x6)) -∗ K ⟨⟩))
      ⊢ wp frame (wpE (defs₀ (F := F)) Variants.none c none) E (cc0_ffn_bwd_dx i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_ffn_bwd_dx_eq_skeleton]; unfold cc0_ffn_bwd_dx_skel
  simp only [k0_part2_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%f12, %hf12, H12⟩, ⟨%f13, %hf13, H13⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg13.eq_unread hf11; obtain rfl := harg14.eq_unread hf12; obtain rfl := harg15.eq_unread hf13
  sl_exec (disch := first | sl_exact hc0 | sl_exact hc1)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact harg7.read_unread _
  isplitl [H6]
  · iexists _; isplitr; swap; · iexact H6
    ipureintro; exact harg8.read_unread _
  isplitl [H7]
  · iexists _; isplitr; swap; · iexact H7
    ipureintro; exact harg9.read_unread _
  isplitl [H8]
  · iexists _; isplitr; swap; · iexact H8
    ipureintro; exact harg10.read_unread _
  isplitl [H9]
  · iexists _; isplitr; swap; · iexact H9
    ipureintro; frame_out; exact View.read_writes_full _ _ _ _ _
  isplitl [H10]
  · iexists _; isplitr; swap; · iexact H10
    ipureintro; frame_out; exact View.read_writes_full _ _ _ _ _
  isplitl [H11]
  · iexists _; isplitr; swap; · iexact H11
    ipureintro; exact harg13.read_unread _
  isplitl [H12]
  · iexists _; isplitr; swap; · iexact H12
    ipureintro; exact harg14.read_unread _
  iexists _; isplitr; swap; · iexact H13
  ipureintro; frame_out; exact View.read_writes_full _ _ _ _ _

end Cert.FfnDx

end
-- ==== Proof.FfnDxRunC.lean ====
module

public import proofs.«01_k».proof.Proof.Gen.Kernel4Ideal.Frame
public import proofs.«01_k».proof.Proof.Gen.Kernel4Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.ValueKit
public import Idealize.ShloMosaic.Lib.VecWindow
public import proofs.«01_k».proof.Proof.FfnDxRunA

@[expose] public section

set_option maxRecDepth 16384

noncomputable section

namespace Cert.FfnDx

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

variable (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1x512x704 .bf16) (harg5 : arg5.IsWhole) (arg6 : Memref sig .tc .vmem S1x512x704 .bf16) (harg6 : arg6.IsWhole) (arg7 : Memref sig .tc .vmem S1x704x2048 .bf16) (harg7 : arg7.IsWhole) (arg8 : Memref sig .tc .vmem S1x704x2048 .bf16) (harg8 : arg8.IsWhole) (arg9 : Memref sig .tc .vmem S1x704x2048 .bf16) (harg9 : arg9.IsWhole) (arg10 : Memref sig .tc .vmem S512x2048 .f32) (harg10 : arg10.IsWhole) (arg11 : Memref sig .tc .vmem S1x512x704 .bf16) (harg11 : arg11.IsWhole) (arg12 : Memref sig .tc .vmem S1x512x704 .bf16) (harg12 : arg12.IsWhole) (arg13 : Memref sig .tc .vmem S512x2048 .bf16) (harg13 : arg13.IsWhole) (arg14 : Memref sig .tc .vmem S8x2048 .f32) (harg14 : arg14.IsWhole) (arg15 : Memref sig .tc .vmem S512x2048 .f32) (harg15 : arg15.IsWhole)

set_option maxHeartbeats 4000000 in
/-- The body in case C. -/
theorem runC (hc0 : ¬cond0_0 i) (hc1 : cond0_1 i) (hc2 : cond0_2 i) (hc3 : ¬cond0_3 i) (x0 : Vec F S512x2048 .f32) (x1 : Vec F S512x2048 .f32) (x2 : Vec F S1x2048 .f32) (x3 : Vec F S1x512x704 .bf16) (x4 : Vec F S1x512x704 .bf16) (x5 : Vec F S1x704x2048 .bf16) (x6 : Vec F S1x704x2048 .bf16) (x7 : Vec F S1x704x2048 .bf16) (x11 : Vec F S512x2048 .bf16) (x13 : Vec F S512x2048 .f32) (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare x11 ∗ (∃ d, owns (c : Thread nD τ) arg14 fullShare d) ∗ owns (c : Thread nD τ) arg15 fullShare x13
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k0_pay6 (k0_pay2 (k0_pay12 x11 x7 x4) (k0_pay1 (k0_pay15 x11 x7 x3 x13 x5)) x6) x1 x2 x0) ∗ owns (c : Thread nD τ) arg11 fullShare (k0_pay13 x11 x7 x3) ∗ owns (c : Thread nD τ) arg12 fullShare (k0_pay14 x11 x7 x4) ∗ owns (c : Thread nD τ) arg13 fullShare x11 ∗ owns (c : Thread nD τ) arg14 fullShare (k0_pay7 (k0_pay2 (k0_pay12 x11 x7 x4) (k0_pay1 (k0_pay15 x11 x7 x3 x13 x5)) x6) x1) ∗ owns (c : Thread nD τ) arg15 fullShare (k0_pay2 (k0_pay12 x11 x7 x4) (k0_pay1 (k0_pay15 x11 x7 x3 x13 x5)) x6)) -∗ K ⟨⟩))
      ⊢ wp frame (wpE (defs₀ (F := F)) Variants.none c none) E (cc0_ffn_bwd_dx i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_ffn_bwd_dx_eq_skeleton]; unfold cc0_ffn_bwd_dx_skel
  simp only [k0_part2_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%d12, %f12, -, H12⟩, ⟨%f13, %hf13, H13⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg13.eq_unread hf11; obtain rfl := harg15.eq_unread hf13
  sl_exec (disch := first | sl_exact hc0 | sl_exact hc1 | sl_exact hc2 | sl_exact hc3)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact harg7.read_unread _
  isplitl [H6]
  · iexists _; isplitr; swap; · iexact H6
    ipureintro; exact harg8.read_unread _
  isplitl [H7]
  · iexists _; isplitr; swap; · iexact H7
    ipureintro; exact harg9.read_unread _
  isplitl [H8]
  · iexists _; isplitr; swap; · iexact H8
    ipureintro; frame_out; exact View.read_writes_full _ _ _ _ _
  isplitl [H9]
  · iexists _; isplitr; swap; · iexact H9
    ipureintro; frame_out; exact View.read_writes_full _ _ _ _ _
  isplitl [H10]
  · iexists _; isplitr; swap; · iexact H10
    ipureintro; frame_out; exact View.read_writes_full _ _ _ _ _
  isplitl [H11]
  · iexists _; isplitr; swap; · iexact H11
    ipureintro; exact harg13.read_unread _
  isplitl [H12]
  · iexists _; isplitr; swap; · iexact H12
    ipureintro; frame_out; exact View.read_writes_full _ _ _ _ _
  iexists _; isplitr; swap; · iexact H13
  ipureintro; frame_out; exact View.read_writes_full _ _ _ _ _

end Cert.FfnDx

end
-- ==== Proof.FfnDxRunD.lean ====
module

public import proofs.«01_k».proof.Proof.Gen.Kernel4Ideal.Frame
public import proofs.«01_k».proof.Proof.Gen.Kernel4Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.ValueKit
public import Idealize.ShloMosaic.Lib.VecWindow
public import proofs.«01_k».proof.Proof.FfnDxRunA

@[expose] public section

set_option maxRecDepth 16384

noncomputable section

namespace Cert.FfnDx

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

variable (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1x512x704 .bf16) (harg5 : arg5.IsWhole) (arg6 : Memref sig .tc .vmem S1x512x704 .bf16) (harg6 : arg6.IsWhole) (arg7 : Memref sig .tc .vmem S1x704x2048 .bf16) (harg7 : arg7.IsWhole) (arg8 : Memref sig .tc .vmem S1x704x2048 .bf16) (harg8 : arg8.IsWhole) (arg9 : Memref sig .tc .vmem S1x704x2048 .bf16) (harg9 : arg9.IsWhole) (arg10 : Memref sig .tc .vmem S512x2048 .f32) (harg10 : arg10.IsWhole) (arg11 : Memref sig .tc .vmem S1x512x704 .bf16) (harg11 : arg11.IsWhole) (arg12 : Memref sig .tc .vmem S1x512x704 .bf16) (harg12 : arg12.IsWhole) (arg13 : Memref sig .tc .vmem S512x2048 .bf16) (harg13 : arg13.IsWhole) (arg14 : Memref sig .tc .vmem S8x2048 .f32) (harg14 : arg14.IsWhole) (arg15 : Memref sig .tc .vmem S512x2048 .f32) (harg15 : arg15.IsWhole)

set_option maxHeartbeats 4000000 in
/-- The body in case D. -/
theorem runD (hc0 : ¬cond0_0 i) (hc1 : cond0_1 i) (hc2 : ¬cond0_2 i) (hc3 : cond0_3 i) (x0 : Vec F S512x2048 .f32) (x1 : Vec F S512x2048 .f32) (x2 : Vec F S1x2048 .f32) (x3 : Vec F S1x512x704 .bf16) (x4 : Vec F S1x512x704 .bf16) (x5 : Vec F S1x704x2048 .bf16) (x6 : Vec F S1x704x2048 .bf16) (x7 : Vec F S1x704x2048 .bf16) (x11 : Vec F S512x2048 .bf16) (x12 : Vec F S8x2048 .f32) (x13 : Vec F S512x2048 .f32) (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare x11 ∗ owns (c : Thread nD τ) arg14 fullShare x12 ∗ owns (c : Thread nD τ) arg15 fullShare x13
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k0_pay6 (k0_pay2 (k0_pay12 x11 x7 x4) (k0_pay1 (k0_pay15 x11 x7 x3 x13 x5)) x6) x1 x2 x0) ∗ owns (c : Thread nD τ) arg11 fullShare (k0_pay13 x11 x7 x3) ∗ owns (c : Thread nD τ) arg12 fullShare (k0_pay14 x11 x7 x4) ∗ owns (c : Thread nD τ) arg13 fullShare x11 ∗ owns (c : Thread nD τ) arg14 fullShare (k0_pay3 (k0_pay7 (k0_pay2 (k0_pay12 x11 x7 x4) (k0_pay1 (k0_pay15 x11 x7 x3 x13 x5)) x6) x1) x12) ∗ owns (c : Thread nD τ) arg15 fullShare (k0_pay2 (k0_pay12 x11 x7 x4) (k0_pay1 (k0_pay15 x11 x7 x3 x13 x5)) x6)) -∗ K ⟨⟩))
      ⊢ wp frame (wpE (defs₀ (F := F)) Variants.none c none) E (cc0_ffn_bwd_dx i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_ffn_bwd_dx_eq_skeleton]; unfold cc0_ffn_bwd_dx_skel
  simp only [k0_part2_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%f12, %hf12, H12⟩, ⟨%f13, %hf13, H13⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg13.eq_unread hf11; obtain rfl := harg14.eq_unread hf12; obtain rfl := harg15.eq_unread hf13
  sl_exec (disch := first | sl_exact hc0 | sl_exact hc1 | sl_exact hc2 | sl_exact hc3)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact harg7.read_unread _
  isplitl [H6]
  · iexists _; isplitr; swap; · iexact H6
    ipureintro; exact harg8.read_unread _
  isplitl [H7]
  · iexists _; isplitr; swap; · iexact H7
    ipureintro; exact harg9.read_unread _
  isplitl [H8]
  · iexists _; isplitr; swap; · iexact H8
    ipureintro; frame_out; exact View.read_writes_full _ _ _ _ _
  isplitl [H9]
  · iexists _; isplitr; swap; · iexact H9
    ipureintro; frame_out; exact View.read_writes_full _ _ _ _ _
  isplitl [H10]
  · iexists _; isplitr; swap; · iexact H10
    ipureintro; frame_out; exact View.read_writes_full _ _ _ _ _
  isplitl [H11]
  · iexists _; isplitr; swap; · iexact H11
    ipureintro; exact harg13.read_unread _
  isplitl [H12]
  · iexists _; isplitr; swap; · iexact H12
    ipureintro; frame_out; exact View.read_writes_full _ _ _ _ _
  iexists _; isplitr; swap; · iexact H13
  ipureintro; frame_out; exact View.read_writes_full _ _ _ _ _

end Cert.FfnDx

end
-- ==== Proof.FfnDxFrame.lean ====
module

public import proofs.«01_k».proof.Proof.FfnDxRunB
public import proofs.«01_k».proof.Proof.FfnDxRunC
public import proofs.«01_k».proof.Proof.FfnDxRunD
public import proofs.«01_k».proof.Proof.Gen.Kernel4Ideal.Launch
public import proofs.«01_k».proof.Proof.Gen.Kernel4Ideal.Points
public import Idealize.ShloMosaic.Lib.Pipeline.FrameBody
public import Idealize.ShloMosaic.Lib.Pipeline.TableIdle

@[expose] public section

set_option maxRecDepth 16384

noncomputable section

namespace Cert.FfnDx

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

/-- Each window's current staging memref at point `t`, spelled as the pipeline passes it (`bodyAt0`), and its wholeness. -/
abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x704 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x704 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x704x2048 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x704x2048 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x704x2048 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x2048 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512x704 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x512x704 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x2048 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S8x2048 .f32 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S512x2048 .f32 := Memref.whole cc0_scratch0
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d)) ∗ (∃ r, prngReg c r)) := by
  unfold Pipeline.ΦA; rw [scopedRest0_eq]; simp only [scM0_0, owns_whole]; try rfl

variable (m : (ℓ : Loc nD τ sig) → Buf (Elt F) ℓ) (ρ : Dev nD → PrngReg)

/-- The halved cotangent block, the accumulator and the gain gradient's block after a point: at the first point of a
    row block the cotangent is halved and the accumulator starts from zero. -/
def first (c : Dev nD) (t : Fin cfg0.N) (p : Vec F S512x2048 .bf16 × Vec F S512x2048 .f32 × Vec F S8x2048 .f32) : Vec F S512x2048 .bf16 × Vec F S512x2048 .f32 × Vec F S8x2048 .f32 :=
  (k0_pay8 (iblk m c 0 t), k0_pay2 (k0_pay12 (k0_pay8 (iblk m c 0 t)) (iblk m c 7 t) (iblk m c 4 t)) (k0_pay1 (k0_pay15 (k0_pay8 (iblk m c 0 t)) (iblk m c 7 t) (iblk m c 3 t) (k0_pay9 (F := F)) (iblk m c 5 t))) (iblk m c 6 t), p.2.2)

/-- A later point, from what the point before left. -/
def next (c : Dev nD) (t : Fin cfg0.N) (p : Vec F S512x2048 .bf16 × Vec F S512x2048 .f32 × Vec F S8x2048 .f32) : Vec F S512x2048 .bf16 × Vec F S512x2048 .f32 × Vec F S8x2048 .f32 :=
  (p.1, k0_pay2 (k0_pay12 p.1 (iblk m c 7 t) (iblk m c 4 t)) (k0_pay1 (k0_pay15 p.1 (iblk m c 7 t) (iblk m c 3 t) p.2.1 (iblk m c 5 t))) (iblk m c 6 t), p.2.2)

/-- The last point of the first row block: the gain gradient starts. -/
def lastC (c : Dev nD) (t : Fin cfg0.N) (p : Vec F S512x2048 .bf16 × Vec F S512x2048 .f32 × Vec F S8x2048 .f32) : Vec F S512x2048 .bf16 × Vec F S512x2048 .f32 × Vec F S8x2048 .f32 :=
  (p.1, k0_pay2 (k0_pay12 p.1 (iblk m c 7 t) (iblk m c 4 t)) (k0_pay1 (k0_pay15 p.1 (iblk m c 7 t) (iblk m c 3 t) p.2.1 (iblk m c 5 t))) (iblk m c 6 t), k0_pay7 (k0_pay2 (k0_pay12 p.1 (iblk m c 7 t) (iblk m c 4 t)) (k0_pay1 (k0_pay15 p.1 (iblk m c 7 t) (iblk m c 3 t) p.2.1 (iblk m c 5 t))) (iblk m c 6 t)) (iblk m c 1 t))

/-- The last point of a later row block: the gain gradient is added to. -/
def lastD (c : Dev nD) (t : Fin cfg0.N) (p : Vec F S512x2048 .bf16 × Vec F S512x2048 .f32 × Vec F S8x2048 .f32) : Vec F S512x2048 .bf16 × Vec F S512x2048 .f32 × Vec F S8x2048 .f32 :=
  (p.1, k0_pay2 (k0_pay12 p.1 (iblk m c 7 t) (iblk m c 4 t)) (k0_pay1 (k0_pay15 p.1 (iblk m c 7 t) (iblk m c 3 t) p.2.1 (iblk m c 5 t))) (iblk m c 6 t), k0_pay3 (k0_pay7 (k0_pay2 (k0_pay12 p.1 (iblk m c 7 t) (iblk m c 4 t)) (k0_pay1 (k0_pay15 p.1 (iblk m c 7 t) (iblk m c 3 t) p.2.1 (iblk m c 5 t))) (iblk m c 6 t)) (iblk m c 1 t)) p.2.2)

/-- What the first point is handed, of which nothing is read. -/
def st₀ (c : Dev nD) (t : Fin cfg0.N) : Vec F S512x2048 .bf16 × Vec F S512x2048 .f32 × Vec F S8x2048 .f32 := (k0_pay8 (iblk m c 0 t), k0_pay9, k0_pay7 (k0_pay9 (F := F)) (iblk m c 1 t))

def st (c : Dev nD) : (n : ℕ) → n < cfg0.N → Vec F S512x2048 .bf16 × Vec F S512x2048 .f32 × Vec F S8x2048 .f32
  | 0, h => first m c ⟨0, h⟩ (st₀ m c ⟨0, h⟩)
  | n + 1, h =>
    if (n + 1) % 8 = 0 then first m c ⟨n + 1, h⟩ (st c n (Nat.lt_of_succ_lt h))
    else if (n + 1) % 8 = 7 then
      if n + 1 < 8 then lastC m c ⟨n + 1, h⟩ (st c n (Nat.lt_of_succ_lt h)) else lastD m c ⟨n + 1, h⟩ (st c n (Nat.lt_of_succ_lt h))
    else next m c ⟨n + 1, h⟩ (st c n (Nat.lt_of_succ_lt h))

/-- What the point before left. -/
def prev (c : Dev nD) (t : Fin cfg0.N) : Vec F S512x2048 .bf16 × Vec F S512x2048 .f32 × Vec F S8x2048 .f32 :=
  if t.val = 0 then st₀ m c t else st m c (t.val - 1) (Nat.lt_of_le_of_lt (Nat.sub_le _ _) t.isLt)

theorem prev_pos (c : Dev nD) (t : Fin cfg0.N) (h : t.val ≠ 0) :
    prev m c t = st m c (t.val - 1) (Nat.lt_of_le_of_lt (Nat.sub_le _ _) t.isLt) := if_neg h

theorem st_first (c : Dev nD) (t : Fin cfg0.N) (h0 : t.val % 8 = 0) :
    st m c t.val t.isLt = first m c t (prev m c t) := by
  obtain ⟨n, h⟩ := t
  cases n with
  | zero => rfl
  | succ n => exact if_pos h0

theorem st_next (c : Dev nD) (t : Fin cfg0.N) (h0 : ¬t.val % 8 = 0) (h1 : ¬t.val % 8 = 7) :
    st m c t.val t.isLt = next m c t (st m c (t.val - 1) (Nat.lt_of_le_of_lt (Nat.sub_le _ _) t.isLt)) := by
  obtain ⟨n, h⟩ := t
  cases n with
  | zero => exact absurd rfl h0
  | succ n => exact (if_neg h0).trans (if_neg h1)

theorem st_lastC (c : Dev nD) (t : Fin cfg0.N) (h1 : t.val % 8 = 7) (h2 : t.val < 8) :
    st m c t.val t.isLt = lastC m c t (st m c (t.val - 1) (Nat.lt_of_le_of_lt (Nat.sub_le _ _) t.isLt)) := by
  obtain ⟨n, h⟩ := t
  cases n with
  | zero => exact absurd h1 (show ¬(0 : ℕ) % 8 = 7 by decide)
  | succ n => exact (if_neg (show ¬(n + 1) % 8 = 0 by dsimp only at h1; omega)).trans ((if_pos h1).trans (if_pos h2))

theorem st_lastD (c : Dev nD) (t : Fin cfg0.N) (h1 : t.val % 8 = 7) (h2 : ¬t.val < 8) :
    st m c t.val t.isLt = lastD m c t (st m c (t.val - 1) (Nat.lt_of_le_of_lt (Nat.sub_le _ _) t.isLt)) := by
  obtain ⟨n, h⟩ := t
  cases n with
  | zero => exact absurd h1 (show ¬(0 : ℕ) % 8 = 7 by decide)
  | succ n => exact (if_neg (show ¬(n + 1) % 8 = 0 by dsimp only at h1; omega)).trans ((if_pos h1).trans (if_neg h2))

/-- Away from the first point of a row block the halved cotangent is kept. -/
theorem st_dyh (c : Dev nD) (t : Fin cfg0.N) (h0 : ¬t.val % 8 = 0) :
    (st m c t.val t.isLt).1 = (st m c (t.val - 1) (Nat.lt_of_le_of_lt (Nat.sub_le _ _) t.isLt)).1 := by
  by_cases h1 : t.val % 8 = 7
  · by_cases h2 : t.val < 8
    · rw [st_lastC m c t h1 h2]; rfl
    · rw [st_lastD m c t h1 h2]; rfl
  · rw [st_next m c t h0 h1]; rfl

/-- Away from the last point of a row block the gain gradient is kept. -/
theorem st_dg (c : Dev nD) (t : Fin cfg0.N) (hz : t.val ≠ 0) (h1 : ¬t.val % 8 = 7) :
    (st m c t.val t.isLt).2.2 = (st m c (t.val - 1) (Nat.lt_of_le_of_lt (Nat.sub_le _ _) t.isLt)).2.2 := by
  by_cases h0 : t.val % 8 = 0
  · rw [st_first m c t h0, prev_pos m c t hz]; rfl
  · rw [st_next m c t h0 h1]; rfl

/-- The region invariant before position `n`: the scratch at what the point before left. -/
def PhiS (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scM0_0 fullShare ((st m c n hn).2.1)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((st m c n hn).2.1)) ∗ (∃ r, prngReg c r)) := rfl

theorem PhiS_pos (c : Dev nD) (n : ℕ) (h : n ≤ cfg0.N) (hz : n ≠ 0) :
    PhiS m c n h = iprop(iprop(owns (c : Thread nD τ) scM0_0 fullShare ((st m c (n - 1) (by omega)).2.1)) ∗ (∃ r, prngReg c r)) := by
  cases n with
  | zero => exact absurd rfl hz
  | succ n => rfl

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => k0_pay6 (st m c t.val t.isLt).2.1 (iblk m c 1 t) (iblk m c 2 t) (iblk m c 0 t)
    | ⟨9, _⟩ => k0_pay13 (st m c t.val t.isLt).1 (iblk m c 7 t) (iblk m c 3 t)
    | ⟨10, _⟩ => k0_pay14 (st m c t.val t.isLt).1 (iblk m c 7 t) (iblk m c 4 t)
    | ⟨11, _⟩ => (st m c t.val t.isLt).1
    | ⟨12, _⟩ => (st m c t.val t.isLt).2.2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = k0_pay6 (st m c t.val t.isLt).2.1 (iblk m c 1 t) (iblk m c 2 t) (iblk m c 0 t) := by dsimp only [dats]
theorem after0_9 (c : Dev nD) (t : Fin cfg0.N) : (dats m 0 c).after 9 t = k0_pay13 (st m c t.val t.isLt).1 (iblk m c 7 t) (iblk m c 3 t) := by dsimp only [dats]
theorem after0_10 (c : Dev nD) (t : Fin cfg0.N) : (dats m 0 c).after 10 t = k0_pay14 (st m c t.val t.isLt).1 (iblk m c 7 t) (iblk m c 4 t) := by dsimp only [dats]
theorem after0_11 (c : Dev nD) (t : Fin cfg0.N) : (dats m 0 c).after 11 t = (st m c t.val t.isLt).1 := by dsimp only [dats]
theorem after0_12 (c : Dev nD) (t : Fin cfg0.N) : (dats m 0 c).after 12 t = (st m c t.val t.isLt).2.2 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

theorem idle11 : ∀ t : Fin cfg0.N, ¬t.val % 8 = 0 → cfg0.idle 11 (grid0.coords t) = true := by decide +kernel
theorem live11 : ∀ t : Fin cfg0.N, t.val % 8 = 0 → cfg0.idle 11 (grid0.coords t) = false := by decide +kernel
theorem idle8 : ∀ t : Fin cfg0.N, ¬t.val % 8 = 7 → cfg0.idle 8 (grid0.coords t) = true := by decide +kernel
theorem live8 : ∀ t : Fin cfg0.N, t.val % 8 = 7 → cfg0.idle 8 (grid0.coords t) = false := by decide +kernel
theorem idle12 : ∀ t : Fin cfg0.N, ¬t.val % 8 = 7 → cfg0.idle 12 (grid0.coords t) = true := by decide +kernel
theorem live12 : ∀ t : Fin cfg0.N, t.val % 8 = 7 → cfg0.idle 12 (grid0.coords t) = false := by decide +kernel

theorem nofresh11 : ∀ (n : ℕ), n ≤ cfg0.N → ¬n % 8 = 0 → cfg0.fresh 11 n = false
  | 0, _, h => absurd rfl h
  | n + 1, hn, h => by
    have hlt : n < cfg0.N := hn
    rw [Pipeline.Cfg.fresh_succ cfg0 11 n hlt, Bool.or_eq_false_iff, Bool.and_eq_false_iff]
    refine ⟨Bool.eq_false_iff.mpr fun hf => by have := (flush0_11 ⟨n, hlt⟩).mp hf; dsimp only at this; omega, ?_⟩
    by_cases h0 : n % 8 = 0
    · exact Or.inl (live11 ⟨n, hlt⟩ h0)
    · exact Or.inr (nofresh11 n (Nat.le_of_lt hlt) h0)

theorem nofresh12 : ∀ (n : ℕ), n ≤ cfg0.N → 8 ≤ n → n < 64 → cfg0.fresh 12 n = false
  | 0, _, h, _ => absurd h (by decide)
  | n + 1, hn, h, h' => by
    have hlt : n < cfg0.N := hn
    rw [Pipeline.Cfg.fresh_succ cfg0 12 n hlt, Bool.or_eq_false_iff, Bool.and_eq_false_iff]
    refine ⟨Bool.eq_false_iff.mpr fun hf => by have := (flush0_12 ⟨n, hlt⟩).mp hf; dsimp only at this; omega, ?_⟩
    by_cases h0 : n = 7
    · exact Or.inl (live12 ⟨n, hlt⟩ (by subst h0; rfl))
    · exact Or.inr (nofresh12 n (Nat.le_of_lt hlt) (by omega) (by omega))

/-- At every point but the first of a row block the buffer of the halved cotangent holds what the point before left. -/
theorem before0_11 (c : Dev nD) (t : Fin cfg0.N) (h0 : ¬t.val % 8 = 0) (d) :
    (dats m 0 c).before 11 t d = (st m c (t.val - 1) (Nat.lt_of_le_of_lt (Nat.sub_le _ _) t.isLt)).1 := by
  rw [Dat.before_out_traj (dats m 0 c) 11 rfl (fun _ _ => rfl) (fun t' hz hi _ => by
      have h0' : ¬t'.val % 8 = 0 := fun h => by rw [live11 t' h] at hi; exact Bool.false_ne_true hi
      rw [after0_11, after0_11, st_dyh m c t' h0']) t.val t rfl d,
    nofresh11 t.val (Nat.le_of_lt t.isLt) h0, if_neg Bool.false_ne_true, after0_11]

/-- From the second row block on the buffer of the gain gradient holds what the point before left. -/
theorem before0_12 (c : Dev nD) (t : Fin cfg0.N) (h0 : ¬t.val < 8) (d) :
    (dats m 0 c).before 12 t d = (st m c (t.val - 1) (Nat.lt_of_le_of_lt (Nat.sub_le _ _) t.isLt)).2.2 := by
  rw [Dat.before_out_traj (dats m 0 c) 12 rfl (fun _ _ => rfl) (fun t' hz hi _ => by
      have h1' : ¬t'.val % 8 = 7 := fun h => by rw [live12 t' h] at hi; exact Bool.false_ne_true hi
      rw [after0_12, after0_12, st_dg m c t' hz h1']) t.val t rfl d,
    nofresh12 t.val (Nat.le_of_lt t.isLt) (by omega) (lt_of_lt_of_eq t.isLt (show cfg0.N = 64 from N_0)), if_neg Bool.false_ne_true, after0_12]

/-- What the body is called with at point `t`, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 4000000 in
/-- The body at a point of case A. -/
theorem sound_A (c : Dev nD) (t : Fin cfg0.N) (h0 : t.val % 8 = 0) :
    bodyPre m c t ⊢ wp frame (wpE (defs₀ (F := F)) Variants.none c none) Set.univ (bodyAt0 t) (fun _ => bodyPost m c t) := by
  unfold bodyPre bodyPost bodyAt0
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [show cfg0.idle 0 (grid0.coords t) = false from rfl], after0_0]
  rw [show (dats m 0 c).leavesExact 1 t = owns (c : Thread nD τ) (ms0_1 t) fullShare ((dats m 0 c).after 1 t) from by
    unfold Dat.leavesExact; rw [show cfg0.idle 1 (grid0.coords t) = false from rfl], after0_1]
  rw [show (dats m 0 c).leavesExact 2 t = owns (c : Thread nD τ) (ms0_2 t) fullShare ((dats m 0 c).after 2 t) from by
    unfold Dat.leavesExact; rw [show cfg0.idle 2 (grid0.coords t) = false from rfl], after0_2]
  rw [show (dats m 0 c).leavesExact 3 t = owns (c : Thread nD τ) (ms0_3 t) fullShare ((dats m 0 c).after 3 t) from by
    unfold Dat.leavesExact; rw [show cfg0.idle 3 (grid0.coords t) = false from rfl], after0_3]
  rw [show (dats m 0 c).leavesExact 4 t = owns (c : Thread nD τ) (ms0_4 t) fullShare ((dats m 0 c).after 4 t) from by
    unfold Dat.leavesExact; rw [show cfg0.idle 4 (grid0.coords t) = false from rfl], after0_4]
  rw [show (dats m 0 c).leavesExact 5 t = owns (c : Thread nD τ) (ms0_5 t) fullShare ((dats m 0 c).after 5 t) from by
    unfold Dat.leavesExact; rw [show cfg0.idle 5 (grid0.coords t) = false from rfl], after0_5]
  rw [show (dats m 0 c).leavesExact 6 t = owns (c : Thread nD τ) (ms0_6 t) fullShare ((dats m 0 c).after 6 t) from by
    unfold Dat.leavesExact; rw [show cfg0.idle 6 (grid0.coords t) = false from rfl], after0_6]
  rw [show (dats m 0 c).leavesExact 7 t = owns (c : Thread nD τ) (ms0_7 t) fullShare ((dats m 0 c).after 7 t) from by
    unfold Dat.leavesExact; rw [show cfg0.idle 7 (grid0.coords t) = false from rfl], after0_7]
  rw [Dat.leavesExact_idle (dats m 0 c) 8 t (idle8 t (by omega)) (Bool.eq_false_iff.mpr fun h => by have := (flush0_8 t).mp h; omega)]
  rw [show (dats m 0 c).leavesExact 9 t = owns (c : Thread nD τ) (ms0_9 t) fullShare ((dats m 0 c).after 9 t) from by
    unfold Dat.leavesExact; rw [show cfg0.idle 9 (grid0.coords t) = false from rfl], after0_9]
  rw [show (dats m 0 c).leavesExact 10 t = owns (c : Thread nD τ) (ms0_10 t) fullShare ((dats m 0 c).after 10 t) from by
    unfold Dat.leavesExact; rw [show cfg0.idle 10 (grid0.coords t) = false from rfl], after0_10]
  rw [show (dats m 0 c).leavesExact 11 t = owns (c : Thread nD τ) (ms0_11 t) fullShare ((dats m 0 c).after 11 t) from by
    unfold Dat.leavesExact; rw [live11 t (by omega)], after0_11]
  rw [Dat.leavesExact_idle (dats m 0 c) 12 t (idle12 t (by omega)) (Bool.eq_false_iff.mpr fun h => by have := (flush0_12 t).mp h; omega)]
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  rw [st_first m c t h0, first]; (try dsimp only)
  by_cases hz : t.val = 0
  · rw [PhiS_castSucc m c t, PhiS_zero m c _ _ hz, PhiA0_eq]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (runA c (grid0.coords t) _ _ _ _ _ _ _ _ _ _ _ _ _ _ _ _ _ _ _ _ _ _ _ _ _ _ _ _ ((hcond0_0 t).mpr h0) (fun h => by have := (hcond0_1 t).mp h; omega) (iblk m c 0 t) (iblk m c 1 t) (iblk m c 2 t) (iblk m c 3 t) (iblk m c 4 t) (iblk m c 5 t) (iblk m c 6 t) (iblk m c 7 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexact H12
    isplitl [HS]; · iexact HS
    iintro ⟨H0, H1, H2, H3, H4, H5, H6, H7, H8, H9, H10, H11, H12, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists d8; iexact H8
    isplitl [H9]; · iexact H9
    isplitl [H10]; · iexact H10
    isplitl [H11]; · iexact H11
    iexists d12; iexact H12
  · rw [PhiS_castSucc m c t, PhiS_pos m c _ _ hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (runA c (grid0.coords t) _ _ _ _ _ _ _ _ _ _ _ _ _ _ _ _ _ _ _ _ _ _ _ _ _ _ _ _ ((hcond0_0 t).mpr h0) (fun h => by have := (hcond0_1 t).mp h; omega) (iblk m c 0 t) (iblk m c 1 t) (iblk m c 2 t) (iblk m c 3 t) (iblk m c 4 t) (iblk m c 5 t) (iblk m c 6 t) (iblk m c 7 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexact H12
    isplitl [HS]; · iexists _; iexact HS
    iintro ⟨H0, H1, H2, H3, H4, H5, H6, H7, H8, H9, H10, H11, H12, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists d8; iexact H8
    isplitl [H9]; · iexact H9
    isplitl [H10]; · iexact H10
    isplitl [H11]; · iexact H11
    iexists d12; iexact H12

set_option maxHeartbeats 4000000 in
/-- The body at a point of case B. -/
theorem sound_B (c : Dev nD) (t : Fin cfg0.N) (h0 : ¬t.val % 8 = 0) (h1 : ¬t.val % 8 = 7) :
    bodyPre m c t ⊢ wp frame (wpE (defs₀ (F := F)) Variants.none c none) Set.univ (bodyAt0 t) (fun _ => bodyPost m c t) := by
  unfold bodyPre bodyPost bodyAt0
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [show cfg0.idle 0 (grid0.coords t) = false from rfl], after0_0]
  rw [show (dats m 0 c).leavesExact 1 t = owns (c : Thread nD τ) (ms0_1 t) fullShare ((dats m 0 c).after 1 t) from by
    unfold Dat.leavesExact; rw [show cfg0.idle 1 (grid0.coords t) = false from rfl], after0_1]
  rw [show (dats m 0 c).leavesExact 2 t = owns (c : Thread nD τ) (ms0_2 t) fullShare ((dats m 0 c).after 2 t) from by
    unfold Dat.leavesExact; rw [show cfg0.idle 2 (grid0.coords t) = false from rfl], after0_2]
  rw [show (dats m 0 c).leavesExact 3 t = owns (c : Thread nD τ) (ms0_3 t) fullShare ((dats m 0 c).after 3 t) from by
    unfold Dat.leavesExact; rw [show cfg0.idle 3 (grid0.coords t) = false from rfl], after0_3]
  rw [show (dats m 0 c).leavesExact 4 t = owns (c : Thread nD τ) (ms0_4 t) fullShare ((dats m 0 c).after 4 t) from by
    unfold Dat.leavesExact; rw [show cfg0.idle 4 (grid0.coords t) = false from rfl], after0_4]
  rw [show (dats m 0 c).leavesExact 5 t = owns (c : Thread nD τ) (ms0_5 t) fullShare ((dats m 0 c).after 5 t) from by
    unfold Dat.leavesExact; rw [show cfg0.idle 5 (grid0.coords t) = false from rfl], after0_5]
  rw [show (dats m 0 c).leavesExact 6 t = owns (c : Thread nD τ) (ms0_6 t) fullShare ((dats m 0 c).after 6 t) from by
    unfold Dat.leavesExact; rw [show cfg0.idle 6 (grid0.coords t) = false from rfl], after0_6]
  rw [show (dats m 0 c).leavesExact 7 t = owns (c : Thread nD τ) (ms0_7 t) fullShare ((dats m 0 c).after 7 t) from by
    unfold Dat.leavesExact; rw [show cfg0.idle 7 (grid0.coords t) = false from rfl], after0_7]
  rw [Dat.leavesExact_idle (dats m 0 c) 8 t (idle8 t (by omega)) (Bool.eq_false_iff.mpr fun h => by have := (flush0_8 t).mp h; omega)]
  rw [show (dats m 0 c).leavesExact 9 t = owns (c : Thread nD τ) (ms0_9 t) fullShare ((dats m 0 c).after 9 t) from by
    unfold Dat.leavesExact; rw [show cfg0.idle 9 (grid0.coords t) = false from rfl], after0_9]
  rw [show (dats m 0 c).leavesExact 10 t = owns (c : Thread nD τ) (ms0_10 t) fullShare ((dats m 0 c).after 10 t) from by
    unfold Dat.leavesExact; rw [show cfg0.idle 10 (grid0.coords t) = false from rfl], after0_10]
  rw [Dat.leavesExact_idle (dats m 0 c) 11 t (idle11 t (by omega)) (Bool.eq_false_iff.mpr fun h => by have := (flush0_11 t).mp h; omega)]
  rw [Dat.leavesExact_idle (dats m 0 c) 12 t (idle12 t (by omega)) (Bool.eq_false_iff.mpr fun h => by have := (flush0_12 t).mp h; omega)]
  simp only [before0_0, before0_1, before0_2, before0_3, before0_4, before0_5, before0_6, before0_7, before0_11 m c t h0]
  rw [show (dats m 0 c).owesAt () t.succ = (dats m 0 c).owesAt () t.castSucc from rfl]
  rw [show (dats m 0 c).Φ t.succ = PhiS m c (t.val + 1) t.isLt from rfl, PhiS_succ]
  rw [st_next m c t h0 h1, next]; (try dsimp only)
  have hz : t.val ≠ 0 := by omega
  rw [PhiS_castSucc m c t, PhiS_pos m c _ _ hz]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (runB c (grid0.coords t) _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) _ (st m c (t.val - 1) (Nat.lt_of_le_of_lt (Nat.sub_le _ _) t.isLt)).1 _ (st m c (t.val - 1) (Nat.lt_of_le_of_lt (Nat.sub_le _ _) t.isLt)).2.1 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexact H11
  isplitl [H12]; · iexact H12
  isplitl [HS]; · iexact HS
  iintro ⟨H0, H1, H2, H3, H4, H5, H6, H7, H8, H9, H10, H11, H12, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists d8; iexact H8
  isplitl [H9]; · iexact H9
  isplitl [H10]; · iexact H10
  isplitl [H11]; · iexists d11; iexact H11
  iexists d12; iexact H12

set_option maxHeartbeats 4000000 in
/-- The body at a point of case C. -/
theorem sound_C (c : Dev nD) (t : Fin cfg0.N) (h1 : t.val % 8 = 7) (h2 : t.val < 8) :
    bodyPre m c t ⊢ wp frame (wpE (defs₀ (F := F)) Variants.none c none) Set.univ (bodyAt0 t) (fun _ => bodyPost m c t) := by
  unfold bodyPre bodyPost bodyAt0
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [show cfg0.idle 0 (grid0.coords t) = false from rfl], after0_0]
  rw [show (dats m 0 c).leavesExact 1 t = owns (c : Thread nD τ) (ms0_1 t) fullShare ((dats m 0 c).after 1 t) from by
    unfold Dat.leavesExact; rw [show cfg0.idle 1 (grid0.coords t) = false from rfl], after0_1]
  rw [show (dats m 0 c).leavesExact 2 t = owns (c : Thread nD τ) (ms0_2 t) fullShare ((dats m 0 c).after 2 t) from by
    unfold Dat.leavesExact; rw [show cfg0.idle 2 (grid0.coords t) = false from rfl], after0_2]
  rw [show (dats m 0 c).leavesExact 3 t = owns (c : Thread nD τ) (ms0_3 t) fullShare ((dats m 0 c).after 3 t) from by
    unfold Dat.leavesExact; rw [show cfg0.idle 3 (grid0.coords t) = false from rfl], after0_3]
  rw [show (dats m 0 c).leavesExact 4 t = owns (c : Thread nD τ) (ms0_4 t) fullShare ((dats m 0 c).after 4 t) from by
    unfold Dat.leavesExact; rw [show cfg0.idle 4 (grid0.coords t) = false from rfl], after0_4]
  rw [show (dats m 0 c).leavesExact 5 t = owns (c : Thread nD τ) (ms0_5 t) fullShare ((dats m 0 c).after 5 t) from by
    unfold Dat.leavesExact; rw [show cfg0.idle 5 (grid0.coords t) = false from rfl], after0_5]
  rw [show (dats m 0 c).leavesExact 6 t = owns (c : Thread nD τ) (ms0_6 t) fullShare ((dats m 0 c).after 6 t) from by
    unfold Dat.leavesExact; rw [show cfg0.idle 6 (grid0.coords t) = false from rfl], after0_6]
  rw [show (dats m 0 c).leavesExact 7 t = owns (c : Thread nD τ) (ms0_7 t) fullShare ((dats m 0 c).after 7 t) from by
    unfold Dat.leavesExact; rw [show cfg0.idle 7 (grid0.coords t) = false from rfl], after0_7]
  rw [show (dats m 0 c).leavesExact 8 t = owns (c : Thread nD τ) (ms0_8 t) fullShare ((dats m 0 c).after 8 t) from by
    unfold Dat.leavesExact; rw [live8 t (by omega)], after0_8]
  rw [show (dats m 0 c).leavesExact 9 t = owns (c : Thread nD τ) (ms0_9 t) fullShare ((dats m 0 c).after 9 t) from by
    unfold Dat.leavesExact; rw [show cfg0.idle 9 (grid0.coords t) = false from rfl], after0_9]
  rw [show (dats m 0 c).leavesExact 10 t = owns (c : Thread nD τ) (ms0_10 t) fullShare ((dats m 0 c).after 10 t) from by
    unfold Dat.leavesExact; rw [show cfg0.idle 10 (grid0.coords t) = false from rfl], after0_10]
  rw [show (dats m 0 c).leavesExact 11 t = owns (c : Thread nD τ) (ms0_11 t) fullShare ((dats m 0 c).after 11 t) from by
    unfold Dat.leavesExact; rw [idle11 t (by omega), (flush0_11 t).mpr (by omega)], after0_11]
  rw [show (dats m 0 c).leavesExact 12 t = owns (c : Thread nD τ) (ms0_12 t) fullShare ((dats m 0 c).after 12 t) from by
    unfold Dat.leavesExact; rw [live12 t (by omega)], after0_12]
  simp only [before0_0, before0_1, before0_2, before0_3, before0_4, before0_5, before0_6, before0_7, before0_11 m c t (by omega : ¬t.val % 8 = 0)]
  rw [show (dats m 0 c).owesAt () t.succ = (dats m 0 c).owesAt () t.castSucc from rfl]
  rw [show (dats m 0 c).Φ t.succ = PhiS m c (t.val + 1) t.isLt from rfl, PhiS_succ]
  rw [st_lastC m c t h1 h2, lastC]; (try dsimp only)
  have hz : t.val ≠ 0 := by omega
  rw [PhiS_castSucc m c t, PhiS_pos m c _ _ hz]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (runC c (grid0.coords t) _ _ _ _ _ _ _ _ _ _ _ _ _ _ _ _ _ _ _ _ _ _ _ _ _ _ _ _ (fun h => by have := (hcond0_0 t).mp h; omega) ((hcond0_1 t).mpr h1) ((hcond0_2 t).mpr h2) (fun h => by have := (hcond0_3 t).mp h; omega) (iblk m c 0 t) (iblk m c 1 t) (iblk m c 2 t) (iblk m c 3 t) (iblk m c 4 t) (iblk m c 5 t) (iblk m c 6 t) (iblk m c 7 t) (st m c (t.val - 1) (Nat.lt_of_le_of_lt (Nat.sub_le _ _) t.isLt)).1 (st m c (t.val - 1) (Nat.lt_of_le_of_lt (Nat.sub_le _ _) t.isLt)).2.1 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexact H11
  isplitl [H12]; · iexists _; iexact H12
  isplitl [HS]; · iexact HS
  iintro ⟨H0, H1, H2, H3, H4, H5, H6, H7, H8, H9, H10, H11, H12, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

set_option maxHeartbeats 4000000 in
/-- The body at a point of case D. -/
theorem sound_D (c : Dev nD) (t : Fin cfg0.N) (h1 : t.val % 8 = 7) (h2 : ¬t.val < 8) :
    bodyPre m c t ⊢ wp frame (wpE (defs₀ (F := F)) Variants.none c none) Set.univ (bodyAt0 t) (fun _ => bodyPost m c t) := by
  unfold bodyPre bodyPost bodyAt0
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [show cfg0.idle 0 (grid0.coords t) = false from rfl], after0_0]
  rw [show (dats m 0 c).leavesExact 1 t = owns (c : Thread nD τ) (ms0_1 t) fullShare ((dats m 0 c).after 1 t) from by
    unfold Dat.leavesExact; rw [show cfg0.idle 1 (grid0.coords t) = false from rfl], after0_1]
  rw [show (dats m 0 c).leavesExact 2 t = owns (c : Thread nD τ) (ms0_2 t) fullShare ((dats m 0 c).after 2 t) from by
    unfold Dat.leavesExact; rw [show cfg0.idle 2 (grid0.coords t) = false from rfl], after0_2]
  rw [show (dats m 0 c).leavesExact 3 t = owns (c : Thread nD τ) (ms0_3 t) fullShare ((dats m 0 c).after 3 t) from by
    unfold Dat.leavesExact; rw [show cfg0.idle 3 (grid0.coords t) = false from rfl], after0_3]
  rw [show (dats m 0 c).leavesExact 4 t = owns (c : Thread nD τ) (ms0_4 t) fullShare ((dats m 0 c).after 4 t) from by
    unfold Dat.leavesExact; rw [show cfg0.idle 4 (grid0.coords t) = false from rfl], after0_4]
  rw [show (dats m 0 c).leavesExact 5 t = owns (c : Thread nD τ) (ms0_5 t) fullShare ((dats m 0 c).after 5 t) from by
    unfold Dat.leavesExact; rw [show cfg0.idle 5 (grid0.coords t) = false from rfl], after0_5]
  rw [show (dats m 0 c).leavesExact 6 t = owns (c : Thread nD τ) (ms0_6 t) fullShare ((dats m 0 c).after 6 t) from by
    unfold Dat.leavesExact; rw [show cfg0.idle 6 (grid0.coords t) = false from rfl], after0_6]
  rw [show (dats m 0 c).leavesExact 7 t = owns (c : Thread nD τ) (ms0_7 t) fullShare ((dats m 0 c).after 7 t) from by
    unfold Dat.leavesExact; rw [show cfg0.idle 7 (grid0.coords t) = false from rfl], after0_7]
  rw [show (dats m 0 c).leavesExact 8 t = owns (c : Thread nD τ) (ms0_8 t) fullShare ((dats m 0 c).after 8 t) from by
    unfold Dat.leavesExact; rw [live8 t (by omega)], after0_8]
  rw [show (dats m 0 c).leavesExact 9 t = owns (c : Thread nD τ) (ms0_9 t) fullShare ((dats m 0 c).after 9 t) from by
    unfold Dat.leavesExact; rw [show cfg0.idle 9 (grid0.coords t) = false from rfl], after0_9]
  rw [show (dats m 0 c).leavesExact 10 t = owns (c : Thread nD τ) (ms0_10 t) fullShare ((dats m 0 c).after 10 t) from by
    unfold Dat.leavesExact; rw [show cfg0.idle 10 (grid0.coords t) = false from rfl], after0_10]
  rw [show (dats m 0 c).leavesExact 11 t = owns (c : Thread nD τ) (ms0_11 t) fullShare ((dats m 0 c).after 11 t) from by
    unfold Dat.leavesExact; rw [idle11 t (by omega), (flush0_11 t).mpr (by omega)], after0_11]
  rw [show (dats m 0 c).leavesExact 12 t = owns (c : Thread nD τ) (ms0_12 t) fullShare ((dats m 0 c).after 12 t) from by
    unfold Dat.leavesExact; rw [live12 t (by omega)], after0_12]
  simp only [before0_0, before0_1, before0_2, before0_3, before0_4, before0_5, before0_6, before0_7, before0_11 m c t (by omega : ¬t.val % 8 = 0), before0_12 m c t h2]
  rw [show (dats m 0 c).owesAt () t.succ = (dats m 0 c).owesAt () t.castSucc from rfl]
  rw [show (dats m 0 c).Φ t.succ = PhiS m c (t.val + 1) t.isLt from rfl, PhiS_succ]
  rw [st_lastD m c t h1 h2, lastD]; (try dsimp only)
  have hz : t.val ≠ 0 := by omega
  rw [PhiS_castSucc m c t, PhiS_pos m c _ _ hz]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (runD c (grid0.coords t) _ _ _ _ _ _ _ _ _ _ _ _ _ _ _ _ _ _ _ _ _ _ _ _ _ _ _ _ (fun h => by have := (hcond0_0 t).mp h; omega) ((hcond0_1 t).mpr h1) (fun h => h2 ((hcond0_2 t).mp h)) ((hcond0_3 t).mpr (by omega)) (iblk m c 0 t) (iblk m c 1 t) (iblk m c 2 t) (iblk m c 3 t) (iblk m c 4 t) (iblk m c 5 t) (iblk m c 6 t) (iblk m c 7 t) (st m c (t.val - 1) (Nat.lt_of_le_of_lt (Nat.sub_le _ _) t.isLt)).1 (st m c (t.val - 1) (Nat.lt_of_le_of_lt (Nat.sub_le _ _) t.isLt)).2.2 (st m c (t.val - 1) (Nat.lt_of_le_of_lt (Nat.sub_le _ _) t.isLt)).2.1 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexact H11
  isplitl [H12]; · iexact H12
  isplitl [HS]; · iexact HS
  iintro ⟨H0, H1, H2, H3, H4, H5, H6, H7, H8, H9, H10, H11, H12, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem sound_body (c : Dev nD) (t : Fin cfg0.N) :
    bodyPre m c t ⊢ wp frame (wpE (defs₀ (F := F)) Variants.none c none) Set.univ (bodyAt0 t) (fun _ => bodyPost m c t) := by
  by_cases h0 : t.val % 8 = 0
  · exact sound_A m c t h0
  · by_cases h1 : t.val % 8 = 7
    · by_cases h2 : t.val < 8
      · exact sound_C m c t h1 h2
      · exact sound_D m c t h1 h2
    · exact sound_B m c t h0 h1
/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: every run ends with the arguments unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.FfnDx

end
-- ==== Proof.Spec.lean ====
/- The gradient of the gated mixer over the reals: the numbers that both programs compute from real arguments, the value of
   each literal, and how the extended-real operations act on real numbers. -/
module

public import Idealize.ShloMosaic.PureOps.Ideal.Laws
public import Idealize.ShloMosaic.Lib.IdealHost
public import Mathlib.Tactic.Ring
public import Mathlib.Tactic.FieldSimp
public import Mathlib.Tactic.Positivity

@[expose] public section

noncomputable section

namespace Cert.Spec

open Idealize.ShloMosaic

/-! ## Literals -/

/-- The real value of the literal for the square root of two over pi. -/
def C0 : ℝ := 13386282 * (2 : ℝ) ^ (-24 : ℤ)

/-- The real value of the literal added under the root. -/
def EP : ℝ := 8796093 * (2 : ℝ) ^ (-43 : ℤ)

theorem EP_pos : 0 < EP := by unfold EP; positivity

theorem lit_C0 : Ideal.ofBits .f32 0x3F4C422A#32 = ((C0 : ℝ) : EReal) := by
  unfold C0
  simp [Ideal.ofBits, Ideal.ieee, -EReal.coe_mul]

theorem lit_EP : Ideal.ofBits .f32 0x358637BD#32 = ((EP : ℝ) : EReal) := by
  unfold EP
  simp [Ideal.ofBits, Ideal.ieee, -EReal.coe_mul]

theorem lit_half : Ideal.ofBits .f32 0x3F000000#32 = ((1 / 2 : ℝ) : EReal) := by
  simp [Ideal.ofBits, Ideal.ieee, -EReal.coe_mul]; norm_num

theorem lit_neg_half : Ideal.ofBits .f32 0xBF000000#32 = ((-(1 / 2) : ℝ) : EReal) := by
  simp [Ideal.ofBits, Ideal.ieee, -EReal.coe_mul, -EReal.coe_neg]; norm_num

theorem lit_three : Ideal.ofBits .f32 0x40400000#32 = ((3 : ℝ) : EReal) := by
  simp [Ideal.ofBits, Ideal.ieee, -EReal.coe_mul]; norm_num

theorem lit_2048 : Ideal.ofBits .f32 0x45000000#32 = ((2048 : ℝ) : EReal) := by
  simp [Ideal.ofBits, Ideal.ieee, -EReal.coe_mul]; norm_num

theorem lit_inf : Ideal.ofBits .f32 0x7F800000#32 = ⊤ := by
  simp [Ideal.ofBits, Ideal.ieee]

theorem one_coe : (1 : EReal) = ((1 : ℝ) : EReal) := by norm_cast

theorem zero_coe : (0 : EReal) = ((0 : ℝ) : EReal) := by norm_cast

/-- A finite sum of real numbers is the same in the extended reals. -/
theorem sum_coe {ι : Type*} (s : Finset ι) (f : ι → ℝ) : (∑ i ∈ s, ((f i : ℝ) : EReal)) = ((∑ i ∈ s, f i : ℝ) : EReal) := by
  classical
  induction s using Finset.induction_on with
  | empty => simp
  | insert a s h ih => rw [Finset.sum_insert h, Finset.sum_insert h, ih, EReal.coe_add]

theorem div_2048 (x : ℝ) : Ideal.div (x : EReal) ((2048 : ℝ) : EReal) = ((x / 2048 : ℝ) : EReal) := by
  rw [Ideal.div_coe (by norm_num), ← EReal.coe_mul]
  congr 1; ring

theorem div_pos_coe (x y : ℝ) (h : 0 < y) : Ideal.div (x : EReal) (y : EReal) = ((x / y : ℝ) : EReal) := by
  rw [Ideal.div_coe h.ne', ← EReal.coe_mul]
  congr 1; ring

theorem rsqrt_pos (x : ℝ) (h : 0 < x) : Ideal.rsqrt (x : EReal) = (((Real.sqrt x)⁻¹ : ℝ) : EReal) := by
  rw [Ideal.rsqrt_coe, if_neg (not_lt.2 h.le), if_neg h.ne']

/-- A finite extended real is a real number. -/
theorem coe_of_abs_lt_top {x : EReal} (h : max x (-x) < ⊤) : ((x.toReal : ℝ) : EReal) = x := by
  refine EReal.coe_toReal ?_ ?_
  · rintro rfl; simp at h
  · rintro rfl; simp at h

/-! ## The gelu and its derivative -/

/-- The argument of the hyperbolic tangent. -/
def arg (x : ℝ) : ℝ := C0 * (x + 8943 / 200000 * x * x * x)

/-- The tanh approximation of the gelu. -/
def gel (x : ℝ) : ℝ := 1 / 2 * x * (1 + Real.tanh (arg x))

/-- Its derivative. -/
def gelD (x : ℝ) : ℝ :=
  1 / 2 * (1 + Real.tanh (arg x))
    + 1 / 2 * x * (1 - Real.tanh (arg x) * Real.tanh (arg x)) * C0 * (1 + 26829 / 200000 * x * x)

end Cert.Spec

end
-- ==== Proof.FfnDxSpec.lean ====
/- The gradient of a SwiGLU layer's input: the extended-real numbers that the kernel computes, and the same numbers at real
   arguments. -/
module

public import proofs.«01_k».proof.Proof.FfnSpec
public import proofs.«01_k».proof.Proof.Spec

@[expose] public section

set_option maxRecDepth 16384

noncomputable section

namespace Cert.Dx

open Cert.Reference3Ideal Idealize.ShloMosaic Idealize.ShloMosaic.TcCoe
open Cert.Ffn (hn lin sil dsil gat)
open Cert.Spec (EP EP_pos lit_EP lit_half lit_2048 sum_coe div_2048 rsqrt_pos)

section Defs

variable (x : Vec Ideal S4096x2048 .f32) (g : Vec Ideal S2048 .f32) (wg wu : Vec Ideal S2048x5632 .f32) (wd : Vec Ideal S5632x2048 .f32)
  (dy : Vec Ideal S4096x2048 .f32)

/-- The reciprocal root mean square of a row. -/
def rs (i : Fin 4096) : EReal :=
  Ideal.rsqrt (Ideal.div (∑ q : Fin 2048, x (ix2 i q) * x (ix2 i q)) (Ideal.ofBits .f32 0x45000000#32) + Ideal.ofBits .f32 0x358637BD#32)

/-- The normalised input before the gain. -/
def xh (i : Fin 4096) (k : Fin 2048) : EReal := x (ix2 i k) * rs x i

/-- Half the cotangent. -/
def hy (i : Fin 4096) (b : Fin 2048) : EReal := Ideal.ofBits .f32 0x3F000000#32 * dy (ix2 i b)

/-- The gradient of the product that enters the last weights. -/
def dact (i : Fin 4096) (l : Fin 5632) : EReal := ∑ b : Fin 2048, hy dy i b * wd (ix2 l b)

def da (i : Fin 4096) (l : Fin 5632) : EReal := dact wd dy i l * gat x g wg wu i l

def db (i : Fin 4096) (l : Fin 5632) : EReal := dact wd dy i l * sil x g wg i l

/-- The gradient of the normalised input. -/
def acc (i : Fin 4096) (k : Fin 2048) : EReal :=
  (∑ l : Fin 5632, da x g wg wu wd dy i l * wg (ix2 k l)) + ∑ l : Fin 5632, db x g wg wd dy i l * wu (ix2 k l)

def dx (i : Fin 4096) (k : Fin 2048) : EReal :=
  dy (ix2 i k) + rs x i * (acc x g wg wu wd dy i k * g (ix1 k)
    - xh x i k * Ideal.div (∑ q : Fin 2048, acc x g wg wu wd dy i q * g (ix1 q) * xh x i q) (Ideal.ofBits .f32 0x45000000#32))

/-- The gradient of the gain. -/
def dg (k : Fin 2048) : EReal := ∑ i : Fin 4096, acc x g wg wu wd dy i k * xh x i k

end Defs

section Reals

variable (X : Fin 4096 → Fin 2048 → ℝ) (G : Fin 2048 → ℝ) (P Q : Fin 2048 → Fin 5632 → ℝ) (W : Fin 5632 → Fin 2048 → ℝ)
  (Y : Fin 4096 → Fin 2048 → ℝ)

def msR (i : Fin 4096) : ℝ := (∑ k : Fin 2048, X i k * X i k) / 2048 + EP

def rR (i : Fin 4096) : ℝ := (Real.sqrt (msR X i))⁻¹

def xhR (i : Fin 4096) (k : Fin 2048) : ℝ := X i k * rR X i

def hR (i : Fin 4096) (k : Fin 2048) : ℝ := xhR X i k * G k

def lR (i : Fin 4096) (l : Fin 5632) : ℝ := ∑ k : Fin 2048, hR X G i k * P k l

def sgR (a : ℝ) : ℝ := (1 + Real.exp (-a))⁻¹

def silR (i : Fin 4096) (l : Fin 5632) : ℝ := lR X G P i l * sgR (lR X G P i l)

def gatR (i : Fin 4096) (l : Fin 5632) : ℝ :=
  lR X G Q i l * (sgR (lR X G P i l) * (1 + lR X G P i l * (1 - sgR (lR X G P i l))))

def dactR (i : Fin 4096) (l : Fin 5632) : ℝ := ∑ b : Fin 2048, 1 / 2 * Y i b * W l b

def daR (i : Fin 4096) (l : Fin 5632) : ℝ := dactR W Y i l * gatR X G P Q i l

def dbR (i : Fin 4096) (l : Fin 5632) : ℝ := dactR W Y i l * silR X G P i l

def accR (i : Fin 4096) (k : Fin 2048) : ℝ :=
  (∑ l : Fin 5632, daR X G P Q W Y i l * P k l) + ∑ l : Fin 5632, dbR X G P W Y i l * Q k l

def dxR (i : Fin 4096) (k : Fin 2048) : ℝ :=
  Y i k + rR X i * (accR X G P Q W Y i k * G k
    - xhR X i k * ((∑ q : Fin 2048, accR X G P Q W Y i q * G q * xhR X i q) / 2048))

def dgR (k : Fin 2048) : ℝ := ∑ i : Fin 4096, accR X G P Q W Y i k * xhR X i k

theorem msR_pos (i : Fin 4096) : 0 < msR X i :=
  add_pos_of_nonneg_of_pos (div_nonneg (Finset.sum_nonneg fun _ _ => mul_self_nonneg _) (by norm_num)) EP_pos

theorem rR_sq (i : Fin 4096) : rR X i * rR X i * msR X i = 1 := by
  unfold rR
  rw [← mul_inv, Real.mul_self_sqrt (msR_pos X i).le]
  exact inv_mul_cancel₀ (msR_pos X i).ne'

end Reals

section Coe

variable {x : Vec Ideal S4096x2048 .f32} {g : Vec Ideal S2048 .f32} {wg wu : Vec Ideal S2048x5632 .f32} {wd : Vec Ideal S5632x2048 .f32}
  {dy : Vec Ideal S4096x2048 .f32}
  {X : Fin 4096 → Fin 2048 → ℝ} {G : Fin 2048 → ℝ} {P Q : Fin 2048 → Fin 5632 → ℝ} {W : Fin 5632 → Fin 2048 → ℝ}
  {Y : Fin 4096 → Fin 2048 → ℝ}
  (h0 : ∀ i k, x (ix2 i k) = ((X i k : ℝ) : EReal)) (h1 : ∀ k, g (ix1 k) = ((G k : ℝ) : EReal))
  (h2 : ∀ k l, wg (ix2 k l) = ((P k l : ℝ) : EReal)) (h3 : ∀ k l, wu (ix2 k l) = ((Q k l : ℝ) : EReal))
  (h4 : ∀ l b, wd (ix2 l b) = ((W l b : ℝ) : EReal)) (h5 : ∀ i k, dy (ix2 i k) = ((Y i k : ℝ) : EReal))

include h0 in
theorem rs_coe (i : Fin 4096) : rs x i = ((rR X i : ℝ) : EReal) := by
  unfold rs
  simp only [h0, ← EReal.coe_mul, lit_2048, lit_EP]
  rw [sum_coe, div_2048, ← EReal.coe_add]
  exact rsqrt_pos _ (msR_pos X i)

include h0 in
theorem xh_coe (i : Fin 4096) (k : Fin 2048) : xh x i k = ((xhR X i k : ℝ) : EReal) := by
  unfold xh xhR; rw [rs_coe h0, h0, EReal.coe_mul]

include h0 h1 in
theorem hn_coe (i : Fin 4096) (k : Fin 2048) : hn x g i k = ((hR X G i k : ℝ) : EReal) := by
  have e : hn x g i k = xh x i k * g (ix1 k) := rfl
  unfold hR
  rw [e, xh_coe h0, h1, EReal.coe_mul]

include h0 h1 in
theorem lin_coe {w : Vec Ideal S2048x5632 .f32} {R : Fin 2048 → Fin 5632 → ℝ} (h : ∀ k l, w (ix2 k l) = ((R k l : ℝ) : EReal))
    (i : Fin 4096) (l : Fin 5632) : lin x g w i l = ((lR X G R i l : ℝ) : EReal) := by
  unfold lin lR
  simp only [hn_coe h0 h1, h, ← EReal.coe_mul]
  rw [sum_coe]

theorem logistic_coe (a : ℝ) : Ideal.logistic (a : EReal) = ((sgR a : ℝ) : EReal) := Cert.Ffn.logistic_coe a

include h0 h1 h2 in
theorem sil_coe (i : Fin 4096) (l : Fin 5632) : sil x g wg i l = ((silR X G P i l : ℝ) : EReal) := by
  unfold sil silR
  rw [lin_coe h0 h1 h2, logistic_coe, EReal.coe_mul]

include h0 h1 h2 h3 in
theorem gat_coe (i : Fin 4096) (l : Fin 5632) : gat x g wg wu i l = ((gatR X G P Q i l : ℝ) : EReal) := by
  unfold gat gatR dsil
  rw [lin_coe h0 h1 h2, lin_coe h0 h1 h3, logistic_coe, Cert.Ffn.one_coe]
  norm_cast

include h5 in
theorem hy_coe (i : Fin 4096) (b : Fin 2048) : hy dy i b = ((1 / 2 * Y i b : ℝ) : EReal) := by
  unfold hy
  rw [lit_half, h5, ← EReal.coe_mul]

include h4 h5 in
theorem dact_coe (i : Fin 4096) (l : Fin 5632) : dact wd dy i l = ((dactR W Y i l : ℝ) : EReal) := by
  unfold dact dactR
  simp only [hy_coe h5, h4, ← EReal.coe_mul]
  rw [sum_coe]

include h0 h1 h2 h3 h4 h5 in
theorem da_coe (i : Fin 4096) (l : Fin 5632) : da x g wg wu wd dy i l = ((daR X G P Q W Y i l : ℝ) : EReal) := by
  unfold da daR
  rw [dact_coe h4 h5, gat_coe h0 h1 h2 h3, EReal.coe_mul]

include h0 h1 h2 h4 h5 in
theorem db_coe (i : Fin 4096) (l : Fin 5632) : db x g wg wd dy i l = ((dbR X G P W Y i l : ℝ) : EReal) := by
  unfold db dbR
  rw [dact_coe h4 h5, sil_coe h0 h1 h2, EReal.coe_mul]

include h0 h1 h2 h3 h4 h5 in
theorem acc_coe (i : Fin 4096) (k : Fin 2048) : acc x g wg wu wd dy i k = ((accR X G P Q W Y i k : ℝ) : EReal) := by
  unfold acc accR
  simp only [da_coe h0 h1 h2 h3 h4 h5, db_coe h0 h1 h2 h4 h5, h2, h3, ← EReal.coe_mul]
  rw [sum_coe, sum_coe, ← EReal.coe_add]

include h0 h1 h2 h3 h4 h5 in
theorem dx_coe (i : Fin 4096) (k : Fin 2048) : dx x g wg wu wd dy i k = ((dxR X G P Q W Y i k : ℝ) : EReal) := by
  unfold dx dxR
  simp only [acc_coe h0 h1 h2 h3 h4 h5, xh_coe h0, rs_coe h0, h1, h5, lit_2048, ← EReal.coe_mul]
  rw [sum_coe, div_2048]
  norm_cast

include h0 h1 h2 h3 h4 h5 in
theorem dg_coe (k : Fin 2048) : dg x g wg wu wd dy k = ((dgR X G P Q W Y k : ℝ) : EReal) := by
  unfold dg dgR
  simp only [acc_coe h0 h1 h2 h3 h4 h5, xh_coe h0, ← EReal.coe_mul]
  rw [sum_coe]

end Coe

end Cert.Dx

end
-- ==== Proof.FfnDxBlocks.lean ====
/- What the blocks of a SwiGLU layer's input-gradient call hold, and what its body computes from them. -/
module

public import proofs.«01_k».proof.Proof.FfnDxFrame
public import proofs.«01_k».proof.Proof.FfnDxSpec
public import proofs.«01_k».proof.Proof.Gen.Kernel4Ideal.Skeleton
public import Idealize.ShloMosaic.Lib.Pipeline.Value
public import Idealize.ShloMosaic.Lib.Pipeline.ReadBack
public import Idealize.ShloMosaic.Lib.Pointwise
public import Idealize.ShloMosaic.Lib.Pipeline.ValueKit.Geometry
public import Idealize.ShloMosaic.Lib.Pipeline.ValueKit.Point
public import Idealize.ShloMosaic.Lib.Claim

@[expose] public section

set_option maxRecDepth 16384

noncomputable section

namespace Cert.FfnDx

open Cert.Kernel4Ideal Cert.Kernel4Ideal.Gen Idealize.ShloMosaic Idealize.ShloMosaic.TcCoe Idealize.SL.Sem
open Cert.Ffn (row col sil gat)
open Cert.Dx (rs xh hy dact)

theorem pay1_apply (v : FVec Ideal S512x2048 .f32) (p : Fin 512) (k : Fin 2048) : k0_pay1 v (ix2 p k) = v (ix2 p k) := by
  unfold k0_pay1
  pointwise

theorem pay2_apply (s : FVec Ideal S512x704 .bf16) (v : Vec Ideal S512x2048 .f32) (w : Vec Ideal S1x704x2048 .bf16) (p : Fin 512) (b : Fin 2048) :
    k0_pay2 s v w (ix2 p b) = v (ix2 p b) + ∑ a : Fin 704, s (ix2 p a) * w (ix3 0 a b) := by
  unfold k0_pay2
  pointwise

theorem pay3_apply (v w : Vec Ideal S8x2048 .f32) (e : Fin 8) (k : Fin 2048) : k0_pay3 v w (ix2 e k) = w (ix2 e k) + v (ix2 e k) := by
  unfold k0_pay3
  pointwise

theorem pay4_apply (x : Vec Ideal S512x2048 .f32) (p : Fin 512) (e : Fin 1) :
    k0_pay4 x (ix2 p e) = Ideal.rsqrt (Ideal.div (∑ q : Fin 2048, x (ix2 p q) * x (ix2 p q)) (Ideal.ofBits .f32 0x45000000#32)
      + Ideal.ofBits .f32 0x358637BD#32) := by
  unfold k0_pay4
  pointwise

theorem pay5_apply (x : Vec Ideal S512x2048 .f32) (p : Fin 512) (k : Fin 2048) : k0_pay5 x (ix2 p k) = x (ix2 p k) * k0_pay4 x (ix2 p 0) := by
  unfold k0_pay5
  pointwise

theorem pay6_apply (v x : Vec Ideal S512x2048 .f32) (g : Vec Ideal S1x2048 .f32) (y : Vec Ideal S512x2048 .f32) (p : Fin 512) (k : Fin 2048) :
    k0_pay6 v x g y (ix2 p k) = y (ix2 p k) + k0_pay4 x (ix2 p 0) * (v (ix2 p k) * g (ix2 0 k)
      - k0_pay5 x (ix2 p k) * Ideal.div (∑ q : Fin 2048, v (ix2 p q) * g (ix2 0 q) * k0_pay5 x (ix2 p q)) (Ideal.ofBits .f32 0x45000000#32)) := by
  unfold k0_pay6
  pointwise

theorem pay7_apply (v x : Vec Ideal S512x2048 .f32) (e : Fin 8) (k : Fin 2048) :
    k0_pay7 v x (ix2 e k) = ∑ p : Fin 512, v (ix2 p k) * k0_pay5 x (ix2 p k) := by
  unfold k0_pay7
  pointwise

theorem pay8_apply (y : Vec Ideal S512x2048 .f32) (p : Fin 512) (b : Fin 2048) :
    k0_pay8 y (ix2 p b) = Ideal.ofBits .f32 0x3F000000#32 * y (ix2 p b) := by
  unfold k0_pay8
  pointwise

theorem pay9_apply (p : Fin 512) (b : Fin 2048) : k0_pay9 (F := Ideal) (ix2 p b) = 0 := by
  unfold k0_pay9
  pointwise

theorem pay10_apply (y : Vec Ideal S512x2048 .bf16) (w : Vec Ideal S1x704x2048 .bf16) (p : Fin 512) (a : Fin 704) :
    k0_pay10 y w (ix2 p a) = ∑ b : Fin 2048, y (ix2 p b) * w (ix3 0 a b) := by
  unfold k0_pay10
  pointwise

theorem pay11_apply (y : Vec Ideal S512x2048 .bf16) (w : Vec Ideal S1x704x2048 .bf16) (u : Vec Ideal S1x512x704 .bf16) (p : Fin 512) (a : Fin 704) :
    k0_pay11 y w u (ix2 p a) = k0_pay10 y w (ix2 p a) * u (ix3 0 p a) := by
  unfold k0_pay11
  pointwise

theorem pay12_apply (y : Vec Ideal S512x2048 .bf16) (w : Vec Ideal S1x704x2048 .bf16) (u : Vec Ideal S1x512x704 .bf16) (p : Fin 512) (a : Fin 704) :
    k0_pay12 y w u (ix2 p a) = k0_pay10 y w (ix2 p a) * u (ix3 0 p a) := by
  unfold k0_pay12
  pointwise

theorem pay13_apply (y : Vec Ideal S512x2048 .bf16) (w : Vec Ideal S1x704x2048 .bf16) (u : Vec Ideal S1x512x704 .bf16) (p : Fin 512) (a : Fin 704) :
    k0_pay13 y w u (ix3 0 p a) = k0_pay11 y w u (ix2 p a) := by
  unfold k0_pay13
  pointwise

theorem pay14_apply (y : Vec Ideal S512x2048 .bf16) (w : Vec Ideal S1x704x2048 .bf16) (u : Vec Ideal S1x512x704 .bf16) (p : Fin 512) (a : Fin 704) :
    k0_pay14 y w u (ix3 0 p a) = k0_pay12 y w u (ix2 p a) := by
  unfold k0_pay14
  pointwise

theorem pay15_apply (y : Vec Ideal S512x2048 .bf16) (w : Vec Ideal S1x704x2048 .bf16) (u : Vec Ideal S1x512x704 .bf16)
    (v : Vec Ideal S512x2048 .f32) (z : Vec Ideal S1x704x2048 .bf16) (p : Fin 512) (k : Fin 2048) :
    k0_pay15 y w u v z (ix2 p k) = v (ix2 p k) + ∑ a : Fin 704, k0_pay11 y w u (ix2 p a) * z (ix3 0 a k) := by
  unfold k0_pay15
  pointwise

variable (m : (ℓ : Loc nD τ sig) → Buf (Elt Ideal) ℓ)

/-- The grid point of a row block and a block of the hidden width. -/
abbrev tp (r j : Fin 8) : Fin cfg0.N := Fin.cast N_0.symm ⟨8 * r.val + j.val, by omega⟩

theorem tp_of (t : Fin cfg0.N) : ∃ r j : Fin 8, t = tp r j := by
  have ht : t.val < 64 := lt_of_lt_of_eq t.isLt N_0
  exact ⟨⟨t.val / 8, by omega⟩, ⟨t.val % 8, by omega⟩, Fin.ext (by show t.val = 8 * (t.val / 8) + t.val % 8; omega)⟩

theorem idx_in : ∀ r j : Fin 8, win0_0.index (tp r j) = ![r.val, 0] ∧ win0_1.index (tp r j) = ![r.val, 0] ∧ win0_2.index (tp r j) = ![0, 0]
    ∧ win0_3.index (tp r j) = ![j.val, r.val, 0] ∧ win0_4.index (tp r j) = ![j.val, r.val, 0]
    ∧ win0_5.index (tp r j) = ![j.val, 0, 0] ∧ win0_6.index (tp r j) = ![j.val, 0, 0] ∧ win0_7.index (tp r j) = ![j.val, 0, 0] := by
  decide +kernel

theorem idx_out : ∀ r j : Fin 8, win0_8.index (tp r j) = ![r.val, 0] ∧ win0_9.index (tp r j) = ![j.val, r.val, 0]
    ∧ win0_10.index (tp r j) = ![j.val, r.val, 0] ∧ win0_11.index (tp r j) = ![r.val, 0] ∧ win0_12.index (tp r j) = ![0, 0] := by
  decide +kernel

section Args

variable (c : Dev nD)

abbrev ax : Vec Ideal S4096x2048 .f32 := m ((c : Thread nD τ).loc main_arg0)
abbrev ag : Vec Ideal S2048 .f32 := m ((c : Thread nD τ).loc main_arg1)
abbrev awg : Vec Ideal S2048x5632 .f32 := m ((c : Thread nD τ).loc main_arg2)
abbrev awu : Vec Ideal S2048x5632 .f32 := m ((c : Thread nD τ).loc main_arg3)
abbrev awd : Vec Ideal S5632x2048 .f32 := m ((c : Thread nD τ).loc main_arg4)
abbrev ady : Vec Ideal S4096x2048 .f32 := m ((c : Thread nD τ).loc main_arg5)

end Args

theorem blk0 (c : Dev nD) (r j : Fin 8) (p : Fin 512) (k : Fin 2048) : iblk m c 0 (tp r j) (ix2 p k) = ady m c (ix2 (row r p) k) := by
  blk_ext [iblk, V, idx_in r j]

theorem blk1 (c : Dev nD) (r j : Fin 8) (p : Fin 512) (k : Fin 2048) : iblk m c 1 (tp r j) (ix2 p k) = ax m c (ix2 (row r p) k) := by
  blk_ext [iblk, V, idx_in r j]

theorem blk2 (c : Dev nD) (r j : Fin 8) (k : Fin 2048) : iblk m c 2 (tp r j) (ix2 0 k) = ag m c (ix1 k) := by
  have h : iblk m c 2 (tp r j) (ix2 0 k) = V m c main_v25 (ix2 0 k) := by blk_ext [iblk, idx_in r j]
  have e : V m c main_v25 = shapeCast S1x2048 (ag m c) shapeCasts_S2048_S1x2048 := rfl
  rw [h, e]
  pointwise

theorem blk3 (c : Dev nD) (r j : Fin 8) (p : Fin 512) (a : Fin 704) :
    iblk m c 3 (tp r j) (ix3 0 p a) = gat (ax m c) (ag m c) (awg m c) (awu m c) (row r p) (col j a) := by
  have h : iblk m c 3 (tp r j) (ix3 0 p a) = V m c main_v21 (ix3 j (row r p) a) := by blk_ext [iblk, idx_in r j]
  rw [h, ← Cert.Ffn.ref30]
  rfl

theorem blk4 (c : Dev nD) (r j : Fin 8) (p : Fin 512) (a : Fin 704) :
    iblk m c 4 (tp r j) (ix3 0 p a) = sil (ax m c) (ag m c) (awg m c) (row r p) (col j a) := by
  have h : iblk m c 4 (tp r j) (ix3 0 p a) = V m c main_v24 (ix3 j (row r p) a) := by blk_ext [iblk, idx_in r j]
  rw [h, ← Cert.Ffn.ref33]
  rfl

theorem blk5 (c : Dev nD) (r j : Fin 8) (a : Fin 704) (k : Fin 2048) :
    iblk m c 5 (tp r j) (ix3 0 a k) = awg m c (ix2 k (col j a)) := by
  have h : iblk m c 5 (tp r j) (ix3 0 a k) = V m c main_v28 (ix3 j a k) := by blk_ext [iblk, idx_in r j]
  have e : V m c main_v28 = truncf (F := Ideal) .bf16 (shapeCast S8x704x2048 (transpose S5632x2048 [1, 0] (awg m c)
    transposes_S2048x5632_S5632x2048_1_0) shapeCasts_S5632x2048_S8x704x2048) bitsLt_bf16_f32 := rfl
  rw [h, e]
  pointwise

theorem blk6 (c : Dev nD) (r j : Fin 8) (a : Fin 704) (k : Fin 2048) :
    iblk m c 6 (tp r j) (ix3 0 a k) = awu m c (ix2 k (col j a)) := by
  have h : iblk m c 6 (tp r j) (ix3 0 a k) = V m c main_v31 (ix3 j a k) := by blk_ext [iblk, idx_in r j]
  have e : V m c main_v31 = truncf (F := Ideal) .bf16 (shapeCast S8x704x2048 (transpose S5632x2048 [1, 0] (awu m c)
    transposes_S2048x5632_S5632x2048_1_0) shapeCasts_S5632x2048_S8x704x2048) bitsLt_bf16_f32 := rfl
  rw [h, e]
  pointwise

theorem blk7 (c : Dev nD) (r j : Fin 8) (a : Fin 704) (k : Fin 2048) :
    iblk m c 7 (tp r j) (ix3 0 a k) = awd m c (ix2 (col j a) k) := by
  have h : iblk m c 7 (tp r j) (ix3 0 a k) = V m c main_v33 (ix3 j a k) := by blk_ext [iblk, idx_in r j]
  have e : V m c main_v33 = truncf (F := Ideal) .bf16 (shapeCast S8x704x2048 (awd m c) shapeCasts_S5632x2048_S8x704x2048) bitsLt_bf16_f32 := rfl
  rw [h, e]
  pointwise

end Cert.FfnDx

end
-- ==== Proof.FfnDxValue.lean ====
/- What a SwiGLU layer's input-gradient call leaves in its five result arrays. -/
module

public import proofs.«01_k».proof.Proof.FfnDxBlocks

@[expose] public section

set_option maxRecDepth 16384

noncomputable section

namespace Cert.FfnDx

open Cert.Kernel4Ideal Cert.Kernel4Ideal.Gen Idealize.ShloMosaic Idealize.ShloMosaic.TcCoe Idealize.SL.Sem
open Cert.Ffn (row col sil gat)
open Cert.Dx (rs xh hy dact da db acc dx dg)

variable (m : (ℓ : Loc nD τ sig) → Buf (Elt Ideal) ℓ)

section Point

variable (c : Dev nD) (r j : Fin 8)

theorem rs_blk (p : Fin 512) : k0_pay4 (iblk m c 1 (tp r j)) (ix2 p 0) = rs (ax m c) (row r p) := by
  rw [pay4_apply]
  unfold rs
  refine congrArg (fun s : EReal => Ideal.rsqrt (Ideal.div s _ + _)) ?_
  exact Finset.sum_congr (M := EReal) rfl fun q _ => congrArg₂ (α := EReal) (β := EReal) (· * ·) (blk1 m c r j p q) (blk1 m c r j p q)

theorem xh_blk (p : Fin 512) (k : Fin 2048) : k0_pay5 (iblk m c 1 (tp r j)) (ix2 p k) = xh (ax m c) (row r p) k := by
  rw [pay5_apply, rs_blk, blk1]
  rfl

theorem half_blk (p : Fin 512) (b : Fin 2048) : k0_pay8 (iblk m c 0 (tp r j)) (ix2 p b) = hy (ady m c) (row r p) b := by
  rw [pay8_apply, blk0]
  rfl

variable (d : Vec Ideal S512x2048 .bf16) (p : Fin 512) (hd : ∀ b : Fin 2048, d (ix2 p b) = hy (ady m c) (row r p) b)

include hd

theorem dact10 (a : Fin 704) : k0_pay10 d (iblk m c 7 (tp r j)) (ix2 p a) = dact (awd m c) (ady m c) (row r p) (col j a) := by
  rw [pay10_apply]
  unfold dact
  exact Finset.sum_congr (M := EReal) rfl fun b _ => congrArg₂ (α := EReal) (β := EReal) (· * ·) (hd b) (blk7 m c r j a b)

theorem da11 (a : Fin 704) : k0_pay11 d (iblk m c 7 (tp r j)) (iblk m c 3 (tp r j)) (ix2 p a)
    = da (ax m c) (ag m c) (awg m c) (awu m c) (awd m c) (ady m c) (row r p) (col j a) := by
  rw [pay11_apply, dact10 m c r j d p hd, blk3]
  rfl

theorem db12 (a : Fin 704) : k0_pay12 d (iblk m c 7 (tp r j)) (iblk m c 4 (tp r j)) (ix2 p a)
    = db (ax m c) (ag m c) (awg m c) (awd m c) (ady m c) (row r p) (col j a) := by
  rw [pay12_apply, dact10 m c r j d p hd, blk4]
  rfl

end Point

/-- One block of the hidden width's share of the gradient of the normalised input. -/
def part (c : Dev nD) (i : Fin 4096) (k : Fin 2048) (j : Fin 8) : EReal :=
  (∑ a : Fin 704, da (ax m c) (ag m c) (awg m c) (awu m c) (awd m c) (ady m c) i (col j a) * awg m c (ix2 k (col j a)))
    + ∑ a : Fin 704, db (ax m c) (ag m c) (awg m c) (awd m c) (ady m c) i (col j a) * awu m c (ix2 k (col j a))

theorem acc_step (c : Dev nD) (r j : Fin 8) (d : Vec Ideal S512x2048 .bf16) (v : Vec Ideal S512x2048 .f32) (p : Fin 512)
    (hd : ∀ b : Fin 2048, d (ix2 p b) = hy (ady m c) (row r p) b) (k : Fin 2048) :
    k0_pay2 (k0_pay12 d (iblk m c 7 (tp r j)) (iblk m c 4 (tp r j)))
        (k0_pay1 (k0_pay15 d (iblk m c 7 (tp r j)) (iblk m c 3 (tp r j)) v (iblk m c 5 (tp r j)))) (iblk m c 6 (tp r j)) (ix2 p k)
      = v (ix2 p k) + part m c (row r p) k j := by
  rw [pay2_apply, pay1_apply, pay15_apply]
  unfold part
  rw [← add_assoc]
  refine congrArg₂ (α := EReal) (β := EReal) (fun s t => v (ix2 p k) + s + t) ?_ ?_
  · exact Finset.sum_congr (M := EReal) rfl fun a _ => congrArg₂ (α := EReal) (β := EReal) (· * ·) (da11 m c r j d p hd a) (blk5 m c r j a k)
  · exact Finset.sum_congr (M := EReal) rfl fun a _ => congrArg₂ (α := EReal) (β := EReal) (· * ·) (db12 m c r j d p hd a) (blk6 m c r j a k)

/-- Away from the first point of a row block the cotangent is kept and the accumulator is added to. -/
theorem st_succ (c : Dev nD) (t : Fin cfg0.N) (h0 : ¬t.val % 8 = 0) :
    (st m c t.val t.isLt).1 = (st m c (t.val - 1) (Nat.lt_of_le_of_lt (Nat.sub_le _ _) t.isLt)).1
      ∧ (st m c t.val t.isLt).2.1 = (next m c t (st m c (t.val - 1) (Nat.lt_of_le_of_lt (Nat.sub_le _ _) t.isLt))).2.1 := by
  by_cases h1 : t.val % 8 = 7
  · by_cases h2 : t.val < 8
    · rw [st_lastC m c t h1 h2]; exact ⟨rfl, rfl⟩
    · rw [st_lastD m c t h1 h2]; exact ⟨rfl, rfl⟩
  · rw [st_next m c t h0 h1]; exact ⟨rfl, rfl⟩

/-- What the points of a row block hold: half the cotangent, and the sum over the blocks so far. -/
theorem st_eq (c : Dev nD) (r : Fin 8) (p : Fin 512) (n : ℕ) (hn' : n < 8) (h : 8 * r.val + n < cfg0.N) :
    (∀ b : Fin 2048, (st m c (8 * r.val + n) h).1 (ix2 p b) = hy (ady m c) (row r p) b)
      ∧ ∀ k : Fin 2048, (st m c (8 * r.val + n) h).2.1 (ix2 p k) = ∑ q : Fin (n + 1), part m c (row r p) k ⟨q.val, by omega⟩ := by
  induction n with
  | zero =>
    have e : st m c (8 * r.val + 0) h = first m c (tp r 0) (prev m c (tp r 0)) :=
      st_first m c (tp r 0) (by show (8 * r.val + 0) % 8 = 0; omega)
    rw [e]
    refine ⟨fun b => half_blk m c r 0 p b, fun k => ?_⟩
    rw [Fin.sum_univ_one]
    refine (acc_step m c r 0 _ _ p (fun b => half_blk m c r 0 p b) k).trans ?_
    rw [pay9_apply, zero_add]
    rfl
  | succ n ih =>
    obtain ⟨i1, i2⟩ := ih (by omega) (by omega)
    obtain ⟨e1, e2⟩ := st_succ m c (tp r ⟨n + 1, hn'⟩) (by show ¬(8 * r.val + (n + 1)) % 8 = 0; omega)
    have f1 : (st m c (8 * r.val + (n + 1)) h).1 = (st m c (8 * r.val + n) (by omega)).1 := e1
    have f2 : (st m c (8 * r.val + (n + 1)) h).2.1 = (next m c (tp r ⟨n + 1, hn'⟩) (st m c (8 * r.val + n) (by omega))).2.1 := e2
    rw [f1, f2]
    refine ⟨i1, fun k => ?_⟩
    rw [Fin.sum_univ_castSucc]
    exact (acc_step m c r ⟨n + 1, hn'⟩ _ _ p i1 k).trans (congrArg₂ (α := EReal) (β := EReal) (· + ·) (i2 k) rfl)

theorem st_half (c : Dev nD) (r j : Fin 8) (p : Fin 512) (b : Fin 2048) :
    (st m c (tp r j).val (tp r j).isLt).1 (ix2 p b) = hy (ady m c) (row r p) b :=
  (st_eq m c r p j.val j.isLt (tp r j).isLt).1 b

theorem st_acc (c : Dev nD) (r : Fin 8) (p : Fin 512) (k : Fin 2048) :
    (st m c (tp r 7).val (tp r 7).isLt).2.1 (ix2 p k) = acc (ax m c) (ag m c) (awg m c) (awu m c) (awd m c) (ady m c) (row r p) k := by
  have e : (st m c (tp r 7).val (tp r 7).isLt).2.1 (ix2 p k) = ∑ q : Fin 8, part m c (row r p) k q :=
    (st_eq m c r p 7 (by omega) (tp r 7).isLt).2 k
  rw [e]
  unfold part acc
  rw [Finset.sum_add_distrib]
  refine congrArg₂ (α := EReal) (β := EReal) (· + ·) ?_ ?_
  · refine Eq.trans ?_ (Fin.sum_univ_tiles (M := EReal) (N := 5632) 8 704 (by norm_num) _).symm
    refine Finset.sum_congr (M := EReal) rfl fun q _ => ?_
    exact Finset.sum_congr (M := EReal) rfl fun a _ => rfl
  · refine Eq.trans ?_ (Fin.sum_univ_tiles (M := EReal) (N := 5632) 8 704 (by norm_num) _).symm
    refine Finset.sum_congr (M := EReal) rfl fun q _ => ?_
    exact Finset.sum_congr (M := EReal) rfl fun a _ => rfl

theorem dx_eq (c : Dev nD) (r : Fin 8) (p : Fin 512) (k : Fin 2048) :
    k0_pay6 (st m c (tp r 7).val (tp r 7).isLt).2.1 (iblk m c 1 (tp r 7)) (iblk m c 2 (tp r 7)) (iblk m c 0 (tp r 7)) (ix2 p k)
      = dx (ax m c) (ag m c) (awg m c) (awu m c) (awd m c) (ady m c) (row r p) k := by
  rw [pay6_apply, rs_blk, xh_blk, st_acc, blk2, blk0]
  unfold dx
  refine congrArg (fun s : EReal => ady m c (ix2 (row r p) k) + rs (ax m c) (row r p)
    * (acc (ax m c) (ag m c) (awg m c) (awu m c) (awd m c) (ady m c) (row r p) k * ag m c (ix1 k) - xh (ax m c) (row r p) k * Ideal.div s _)) ?_
  exact Finset.sum_congr (M := EReal) rfl fun q _ => congrArg₂ (α := EReal) (β := EReal) (· * ·)
    (congrArg₂ (α := EReal) (β := EReal) (· * ·) (st_acc m c r p q) (blk2 m c r 7 q)) (xh_blk m c r 7 p q)

/-- One row block's share of the gradient of the gain. -/
def gp (c : Dev nD) (k : Fin 2048) (r : Fin 8) : EReal :=
  ∑ p : Fin 512, acc (ax m c) (ag m c) (awg m c) (awu m c) (awd m c) (ady m c) (row r p) k * xh (ax m c) (row r p) k

theorem gp_blk (c : Dev nD) (r : Fin 8) (e : Fin 8) (k : Fin 2048) :
    k0_pay7 (st m c (tp r 7).val (tp r 7).isLt).2.1 (iblk m c 1 (tp r 7)) (ix2 e k) = gp m c k r := by
  rw [pay7_apply]
  unfold gp
  exact Finset.sum_congr (M := EReal) rfl fun p _ => congrArg₂ (α := EReal) (β := EReal) (· * ·) (st_acc m c r p k) (xh_blk m c r 7 p k)

/-- Within a row block the gradient of the gain is kept until the last point. -/
theorem st_keep (c : Dev nD) (r : ℕ) (n : ℕ) (hn : n < 7) (h : 8 * (r + 1) + n < cfg0.N) :
    (st m c (8 * (r + 1) + n) h).2.2 = (st m c (8 * r + 7) (by omega)).2.2 := by
  induction n with
  | zero => exact st_dg m c ⟨8 * (r + 1) + 0, h⟩ (by show ¬8 * (r + 1) + 0 = 0; omega) (by show ¬(8 * (r + 1) + 0) % 8 = 7; omega)
  | succ n ih =>
    exact (st_dg m c ⟨8 * (r + 1) + (n + 1), h⟩ (by show ¬8 * (r + 1) + (n + 1) = 0; omega)
      (by show ¬(8 * (r + 1) + (n + 1)) % 8 = 7; omega)).trans (ih (by omega) (by omega))

theorem st_gain (c : Dev nD) (e : Fin 8) (k : Fin 2048) (r : ℕ) (hr : r < 8) (h : 8 * r + 7 < cfg0.N) :
    (st m c (8 * r + 7) h).2.2 (ix2 e k) = ∑ q : Fin (r + 1), gp m c k ⟨q.val, by omega⟩ := by
  induction r with
  | zero =>
    have e0 : (st m c (8 * 0 + 7) h).2.2 = k0_pay7 (st m c (8 * 0 + 7) h).2.1 (iblk m c 1 (tp 0 7)) := by
      have s : st m c (8 * 0 + 7) h = _ := st_lastC m c (tp 0 7) (by show (8 * 0 + 7) % 8 = 7; omega) (by show 8 * 0 + 7 < 8; omega)
      rw [s]; rfl
    rw [e0, Fin.sum_univ_one]
    exact gp_blk m c 0 e k
  | succ r ih =>
    have e0 : (st m c (8 * (r + 1) + 7) h).2.2
        = k0_pay3 (k0_pay7 (st m c (8 * (r + 1) + 7) h).2.1 (iblk m c 1 (tp ⟨r + 1, hr⟩ 7))) (st m c (8 * (r + 1) + 6) (by omega)).2.2 := by
      have s : st m c (8 * (r + 1) + 7) h = lastD m c (tp ⟨r + 1, hr⟩ 7) (st m c (8 * (r + 1) + 6) (by omega)) :=
        st_lastD m c (tp ⟨r + 1, hr⟩ 7) (by show (8 * (r + 1) + 7) % 8 = 7; omega) (by show ¬8 * (r + 1) + 7 < 8; omega)
      rw [s]; rfl
    rw [e0, pay3_apply, st_keep m c r 6 (by omega), Fin.sum_univ_castSucc]
    exact congrArg₂ (α := EReal) (β := EReal) (· + ·) (ih (by omega) (by omega)) (gp_blk m c ⟨r + 1, hr⟩ e k)

theorem dg_eq (c : Dev nD) (e : Fin 8) (k : Fin 2048) :
    (st m c (tp 7 7).val (tp 7 7).isLt).2.2 (ix2 e k) = dg (ax m c) (ag m c) (awg m c) (awu m c) (awd m c) (ady m c) k := by
  have f : (st m c (tp 7 7).val (tp 7 7).isLt).2.2 (ix2 e k) = ∑ q : Fin 8, gp m c k q := st_gain m c e k 7 (by omega) (tp 7 7).isLt
  rw [f]
  unfold gp dg
  refine Eq.trans ?_ (Fin.sum_univ_tiles (M := EReal) (N := 4096) 8 512 (by norm_num) _).symm
  refine Finset.sum_congr (M := EReal) rfl fun q _ => ?_
  exact Finset.sum_congr (M := EReal) rfl fun a _ => rfl

/-! ## The result arrays -/

/-- The five result arrays over the arguments. -/
def G8 (c : Dev nD) : Buf (Elt Ideal) ((c : Thread nD τ).loc main_v34_0) := fun i : S4096x2048.Idx =>
  dx (ax m c) (ag m c) (awg m c) (awu m c) (awd m c) (ady m c) (i 0) (i 1)

/-- A place of the hidden width from a block index and a place in it. -/
abbrev hc (j : Fin 8) (a : Fin 704) : Fin 5632 := col j a

def G9 (c : Dev nD) : Buf (Elt Ideal) ((c : Thread nD τ).loc main_v34_1) := fun i : S8x4096x704.Idx =>
  da (ax m c) (ag m c) (awg m c) (awu m c) (awd m c) (ady m c) (i 1) (hc (i 0) (i 2))

def G10 (c : Dev nD) : Buf (Elt Ideal) ((c : Thread nD τ).loc main_v34_2) := fun i : S8x4096x704.Idx =>
  db (ax m c) (ag m c) (awg m c) (awd m c) (ady m c) (i 1) (hc (i 0) (i 2))

def G11 (c : Dev nD) : Buf (Elt Ideal) ((c : Thread nD τ).loc main_v34_3) := fun i : S4096x2048.Idx => hy (ady m c) (i 0) (i 1)

def G12 (c : Dev nD) : Buf (Elt Ideal) ((c : Thread nD τ).loc main_v34_4) := fun i : S8x2048.Idx =>
  dg (ax m c) (ag m c) (awg m c) (awu m c) (awd m c) (ady m c) (i 1)

theorem flushed8 (c : Dev nD) (t : Fin cfg0.N) (hf : (cfg0.win 8).flush t = true) :
    (dats m 0 c).flushed 8 t = ((cfg0.win 8).blk t).view.read (Elt Ideal) (G8 m c) := by
  have hm : t.val % 8 = 7 := (flush0_8 t).mp hf
  obtain ⟨r, j, rfl⟩ := tp_of t
  have hj : j = 7 := Fin.ext (by have : (8 * r.val + j.val) % 8 = 7 := hm; show j.val = 7; omega)
  subst hj
  show (cfg0.win 8).cut (grid0.coords _) ((dats m 0 c).after 8 _) = _
  rw [after0_8]
  funext y
  have hx0 : (((cfg0.win 8).blk (tp r 7)).view.emb y 0).val = win0_8.index (tp r 7) (0 : Fin 2) * 512 + 1 * (y 0).val := rfl
  have hx1 : (((cfg0.win 8).blk (tp r 7)).view.emb y 1).val = win0_8.index (tp r 7) (1 : Fin 2) * 2048 + 1 * (y 1).val := rfl
  have hi := (idx_out r 7).1
  rw [hi] at hx0 hx1
  have e : ((cfg0.win 8).blk (tp r 7)).view.emb y = ix2 (row r ⟨(y 0).val, (y 0).isLt⟩) (⟨(y 1).val, (y 1).isLt⟩ : Fin 2048) := by
    funext q
    refine Fin.ext ?_
    match q with
    | ⟨0, _⟩ => refine hx0.trans ?_; show r.val * 512 + 1 * (y 0).val = r.val * 512 + (y 0).val; omega
    | ⟨1, _⟩ => refine hx1.trans ?_; show 0 * 2048 + 1 * (y 1).val = (y 1).val; omega
  have e' : (cfg0.win 8).xinj (grid0.coords (tp r 7)) y = ix2 (⟨(y 0).val, (y 0).isLt⟩ : Fin 512) (⟨(y 1).val, (y 1).isLt⟩ : Fin 2048) := by
    funext q
    match q with
    | ⟨0, _⟩ => rfl
    | ⟨1, _⟩ => rfl
  show (k0_pay6 (st m c (tp r 7).val (tp r 7).isLt).2.1 (iblk m c 1 (tp r 7)) (iblk m c 2 (tp r 7)) (iblk m c 0 (tp r 7))) ((cfg0.win 8).xinj (grid0.coords (tp r 7)) y) = G8 m c (((cfg0.win 8).blk (tp r 7)).view.emb y)
  rw [e, e']
  exact dx_eq m c r _ _

theorem mem_blk8 (t : Fin cfg0.N) (i : S4096x2048.Idx) :
    i ∈ ((cfg0.win 8).blk t).view.set ↔ ∀ a : Fin 2, win0_8.index t a * S512x2048.size a ≤ (i a).val ∧ (i a).val < win0_8.index t a * S512x2048.size a + S512x2048.size a := by
  show i ∈ ((View.whole main_v34_0).slice (win0_8.rect t)).set ↔ _
  rw [View.set_slice_whole, Rect.mem_set_unit]
  exact Iff.rfl

theorem cover8 (i : S4096x2048.Idx) : ∃ t : Fin cfg0.N, (cfg0.win 8).flush t = true ∧ i ∈ ((cfg0.win 8).blk t).view.set := by
  have h0 : (i 0).val < 4096 := (i 0).isLt
  have h1 : (i 1).val < 2048 := (i 1).isLt
  have hi := (idx_out ⟨(i 0).val / 512, by omega⟩ 7).1
  refine ⟨tp ⟨(i 0).val / 512, by omega⟩ 7, (flush0_8 _).mpr (by show (8 * ((i 0).val / 512) + 7) % 8 = 7; omega), ?_⟩
  rw [mem_blk8, hi]
  intro a
  match a with
  | ⟨0, _⟩ => show (i 0).val / 512 * 512 ≤ (i 0).val ∧ (i 0).val < (i 0).val / 512 * 512 + 512; omega
  | ⟨1, _⟩ => show 0 * 2048 ≤ (i 1).val ∧ (i 1).val < 0 * 2048 + 2048; omega

theorem final8 (c : Dev nD) : (dats m 0 c).arrAt 8 cfg0.N = G8 m c :=
  (dats m 0 c).arrAt_eq_of_cover 8 _ (fun t hf => flushed8 m c t hf) (cover8)

theorem flushed9 (c : Dev nD) (t : Fin cfg0.N) :
    (dats m 0 c).flushed 9 t = ((cfg0.win 9).blk t).view.read (Elt Ideal) (G9 m c) := by
  obtain ⟨r, j, rfl⟩ := tp_of t
  show (cfg0.win 9).cut (grid0.coords _) ((dats m 0 c).after 9 _) = _
  rw [after0_9]
  funext y
  have hy0 : (y 0).val < 1 := (y 0).isLt
  have hx0 : (((cfg0.win 9).blk (tp r j)).view.emb y 0).val = win0_9.index (tp r j) (0 : Fin 3) * 1 + 1 * (y 0).val := rfl
  have hx1 : (((cfg0.win 9).blk (tp r j)).view.emb y 1).val = win0_9.index (tp r j) (1 : Fin 3) * 512 + 1 * (y 1).val := rfl
  have hx2 : (((cfg0.win 9).blk (tp r j)).view.emb y 2).val = win0_9.index (tp r j) (2 : Fin 3) * 704 + 1 * (y 2).val := rfl
  have hi := (idx_out r j).2.1
  rw [hi] at hx0 hx1 hx2
  have e : ((cfg0.win 9).blk (tp r j)).view.emb y = ix3 j (row r ⟨(y 1).val, (y 1).isLt⟩) (⟨(y 2).val, (y 2).isLt⟩ : Fin 704) := by
    funext q
    refine Fin.ext ?_
    match q with
    | ⟨0, _⟩ => refine hx0.trans ?_; show j.val * 1 + 1 * (y 0).val = j.val; omega
    | ⟨1, _⟩ => refine hx1.trans ?_; show r.val * 512 + 1 * (y 1).val = r.val * 512 + (y 1).val; omega
    | ⟨2, _⟩ => refine hx2.trans ?_; show 0 * 704 + 1 * (y 2).val = (y 2).val; omega
  have e' : (cfg0.win 9).xinj (grid0.coords (tp r j)) y = ix3 (0 : Fin 1) (⟨(y 1).val, (y 1).isLt⟩ : Fin 512) (⟨(y 2).val, (y 2).isLt⟩ : Fin 704) := by
    funext q
    refine Fin.ext ?_
    match q with
    | ⟨0, _⟩ => show (y 0).val = 0; omega
    | ⟨1, _⟩ => rfl
    | ⟨2, _⟩ => rfl
  show (k0_pay13 (st m c (tp r j).val (tp r j).isLt).1 (iblk m c 7 (tp r j)) (iblk m c 3 (tp r j))) ((cfg0.win 9).xinj (grid0.coords (tp r j)) y) = G9 m c (((cfg0.win 9).blk (tp r j)).view.emb y)
  rw [e, e']
  exact (pay13_apply _ _ _ _ _).trans (da11 m c r j _ _ (st_half m c r j _) _)

theorem mem_blk9 (t : Fin cfg0.N) (i : S8x4096x704.Idx) :
    i ∈ ((cfg0.win 9).blk t).view.set ↔ ∀ a : Fin 3, win0_9.index t a * S1x512x704.size a ≤ (i a).val ∧ (i a).val < win0_9.index t a * S1x512x704.size a + S1x512x704.size a := by
  show i ∈ ((View.whole main_v34_1).slice (win0_9.rect t)).set ↔ _
  rw [View.set_slice_whole, Rect.mem_set_unit]
  exact Iff.rfl

theorem cover9 (i : S8x4096x704.Idx) : ∃ t : Fin cfg0.N, (cfg0.win 9).flush t = true ∧ i ∈ ((cfg0.win 9).blk t).view.set := by
  have h0 : (i 0).val < 8 := (i 0).isLt
  have h1 : (i 1).val < 4096 := (i 1).isLt
  have h2 : (i 2).val < 704 := (i 2).isLt
  have hi := (idx_out ⟨(i 1).val / 512, by omega⟩ ⟨(i 0).val, h0⟩).2.1
  refine ⟨tp ⟨(i 1).val / 512, by omega⟩ ⟨(i 0).val, h0⟩, flush0_9 _, ?_⟩
  rw [mem_blk9, hi]
  intro a
  match a with
  | ⟨0, _⟩ => show (i 0).val * 1 ≤ (i 0).val ∧ (i 0).val < (i 0).val * 1 + 1; omega
  | ⟨1, _⟩ => show (i 1).val / 512 * 512 ≤ (i 1).val ∧ (i 1).val < (i 1).val / 512 * 512 + 512; omega
  | ⟨2, _⟩ => show 0 * 704 ≤ (i 2).val ∧ (i 2).val < 0 * 704 + 704; omega

theorem final9 (c : Dev nD) : (dats m 0 c).arrAt 9 cfg0.N = G9 m c :=
  (dats m 0 c).arrAt_eq_of_cover 9 _ (fun t _ => flushed9 m c t) (cover9)

theorem flushed10 (c : Dev nD) (t : Fin cfg0.N) :
    (dats m 0 c).flushed 10 t = ((cfg0.win 10).blk t).view.read (Elt Ideal) (G10 m c) := by
  obtain ⟨r, j, rfl⟩ := tp_of t
  show (cfg0.win 10).cut (grid0.coords _) ((dats m 0 c).after 10 _) = _
  rw [after0_10]
  funext y
  have hy0 : (y 0).val < 1 := (y 0).isLt
  have hx0 : (((cfg0.win 10).blk (tp r j)).view.emb y 0).val = win0_10.index (tp r j) (0 : Fin 3) * 1 + 1 * (y 0).val := rfl
  have hx1 : (((cfg0.win 10).blk (tp r j)).view.emb y 1).val = win0_10.index (tp r j) (1 : Fin 3) * 512 + 1 * (y 1).val := rfl
  have hx2 : (((cfg0.win 10).blk (tp r j)).view.emb y 2).val = win0_10.index (tp r j) (2 : Fin 3) * 704 + 1 * (y 2).val := rfl
  have hi := (idx_out r j).2.2.1
  rw [hi] at hx0 hx1 hx2
  have e : ((cfg0.win 10).blk (tp r j)).view.emb y = ix3 j (row r ⟨(y 1).val, (y 1).isLt⟩) (⟨(y 2).val, (y 2).isLt⟩ : Fin 704) := by
    funext q
    refine Fin.ext ?_
    match q with
    | ⟨0, _⟩ => refine hx0.trans ?_; show j.val * 1 + 1 * (y 0).val = j.val; omega
    | ⟨1, _⟩ => refine hx1.trans ?_; show r.val * 512 + 1 * (y 1).val = r.val * 512 + (y 1).val; omega
    | ⟨2, _⟩ => refine hx2.trans ?_; show 0 * 704 + 1 * (y 2).val = (y 2).val; omega
  have e' : (cfg0.win 10).xinj (grid0.coords (tp r j)) y = ix3 (0 : Fin 1) (⟨(y 1).val, (y 1).isLt⟩ : Fin 512) (⟨(y 2).val, (y 2).isLt⟩ : Fin 704) := by
    funext q
    refine Fin.ext ?_
    match q with
    | ⟨0, _⟩ => show (y 0).val = 0; omega
    | ⟨1, _⟩ => rfl
    | ⟨2, _⟩ => rfl
  show (k0_pay14 (st m c (tp r j).val (tp r j).isLt).1 (iblk m c 7 (tp r j)) (iblk m c 4 (tp r j))) ((cfg0.win 10).xinj (grid0.coords (tp r j)) y) = G10 m c (((cfg0.win 10).blk (tp r j)).view.emb y)
  rw [e, e']
  exact (pay14_apply _ _ _ _ _).trans (db12 m c r j _ _ (st_half m c r j _) _)

theorem mem_blk10 (t : Fin cfg0.N) (i : S8x4096x704.Idx) :
    i ∈ ((cfg0.win 10).blk t).view.set ↔ ∀ a : Fin 3, win0_10.index t a * S1x512x704.size a ≤ (i a).val ∧ (i a).val < win0_10.index t a * S1x512x704.size a + S1x512x704.size a := by
  show i ∈ ((View.whole main_v34_2).slice (win0_10.rect t)).set ↔ _
  rw [View.set_slice_whole, Rect.mem_set_unit]
  exact Iff.rfl

theorem cover10 (i : S8x4096x704.Idx) : ∃ t : Fin cfg0.N, (cfg0.win 10).flush t = true ∧ i ∈ ((cfg0.win 10).blk t).view.set := by
  have h0 : (i 0).val < 8 := (i 0).isLt
  have h1 : (i 1).val < 4096 := (i 1).isLt
  have h2 : (i 2).val < 704 := (i 2).isLt
  have hi := (idx_out ⟨(i 1).val / 512, by omega⟩ ⟨(i 0).val, h0⟩).2.2.1
  refine ⟨tp ⟨(i 1).val / 512, by omega⟩ ⟨(i 0).val, h0⟩, flush0_10 _, ?_⟩
  rw [mem_blk10, hi]
  intro a
  match a with
  | ⟨0, _⟩ => show (i 0).val * 1 ≤ (i 0).val ∧ (i 0).val < (i 0).val * 1 + 1; omega
  | ⟨1, _⟩ => show (i 1).val / 512 * 512 ≤ (i 1).val ∧ (i 1).val < (i 1).val / 512 * 512 + 512; omega
  | ⟨2, _⟩ => show 0 * 704 ≤ (i 2).val ∧ (i 2).val < 0 * 704 + 704; omega

theorem final10 (c : Dev nD) : (dats m 0 c).arrAt 10 cfg0.N = G10 m c :=
  (dats m 0 c).arrAt_eq_of_cover 10 _ (fun t _ => flushed10 m c t) (cover10)

theorem flushed11 (c : Dev nD) (t : Fin cfg0.N) (hf : (cfg0.win 11).flush t = true) :
    (dats m 0 c).flushed 11 t = ((cfg0.win 11).blk t).view.read (Elt Ideal) (G11 m c) := by
  have hm : t.val % 8 = 7 := (flush0_11 t).mp hf
  obtain ⟨r, j, rfl⟩ := tp_of t
  have hj : j = 7 := Fin.ext (by have : (8 * r.val + j.val) % 8 = 7 := hm; show j.val = 7; omega)
  subst hj
  show (cfg0.win 11).cut (grid0.coords _) ((dats m 0 c).after 11 _) = _
  rw [after0_11]
  funext y
  have hx0 : (((cfg0.win 11).blk (tp r 7)).view.emb y 0).val = win0_11.index (tp r 7) (0 : Fin 2) * 512 + 1 * (y 0).val := rfl
  have hx1 : (((cfg0.win 11).blk (tp r 7)).view.emb y 1).val = win0_11.index (tp r 7) (1 : Fin 2) * 2048 + 1 * (y 1).val := rfl
  have hi := (idx_out r 7).2.2.2.1
  rw [hi] at hx0 hx1
  have e : ((cfg0.win 11).blk (tp r 7)).view.emb y = ix2 (row r ⟨(y 0).val, (y 0).isLt⟩) (⟨(y 1).val, (y 1).isLt⟩ : Fin 2048) := by
    funext q
    refine Fin.ext ?_
    match q with
    | ⟨0, _⟩ => refine hx0.trans ?_; show r.val * 512 + 1 * (y 0).val = r.val * 512 + (y 0).val; omega
    | ⟨1, _⟩ => refine hx1.trans ?_; show 0 * 2048 + 1 * (y 1).val = (y 1).val; omega
  have e' : (cfg0.win 11).xinj (grid0.coords (tp r 7)) y = ix2 (⟨(y 0).val, (y 0).isLt⟩ : Fin 512) (⟨(y 1).val, (y 1).isLt⟩ : Fin 2048) := by
    funext q
    match q with
    | ⟨0, _⟩ => rfl
    | ⟨1, _⟩ => rfl
  show ((st m c (tp r 7).val (tp r 7).isLt).1) ((cfg0.win 11).xinj (grid0.coords (tp r 7)) y) = G11 m c (((cfg0.win 11).blk (tp r 7)).view.emb y)
  rw [e, e']
  exact st_half m c r 7 _ _

theorem mem_blk11 (t : Fin cfg0.N) (i : S4096x2048.Idx) :
    i ∈ ((cfg0.win 11).blk t).view.set ↔ ∀ a : Fin 2, win0_11.index t a * S512x2048.size a ≤ (i a).val ∧ (i a).val < win0_11.index t a * S512x2048.size a + S512x2048.size a := by
  show i ∈ ((View.whole main_v34_3).slice (win0_11.rect t)).set ↔ _
  rw [View.set_slice_whole, Rect.mem_set_unit]
  exact Iff.rfl

theorem cover11 (i : S4096x2048.Idx) : ∃ t : Fin cfg0.N, (cfg0.win 11).flush t = true ∧ i ∈ ((cfg0.win 11).blk t).view.set := by
  have h0 : (i 0).val < 4096 := (i 0).isLt
  have h1 : (i 1).val < 2048 := (i 1).isLt
  have hi := (idx_out ⟨(i 0).val / 512, by omega⟩ 7).2.2.2.1
  refine ⟨tp ⟨(i 0).val / 512, by omega⟩ 7, (flush0_11 _).mpr (by show (8 * ((i 0).val / 512) + 7) % 8 = 7; omega), ?_⟩
  rw [mem_blk11, hi]
  intro a
  match a with
  | ⟨0, _⟩ => show (i 0).val / 512 * 512 ≤ (i 0).val ∧ (i 0).val < (i 0).val / 512 * 512 + 512; omega
  | ⟨1, _⟩ => show 0 * 2048 ≤ (i 1).val ∧ (i 1).val < 0 * 2048 + 2048; omega

theorem final11 (c : Dev nD) : (dats m 0 c).arrAt 11 cfg0.N = G11 m c :=
  (dats m 0 c).arrAt_eq_of_cover 11 _ (fun t hf => flushed11 m c t hf) (cover11)

theorem flushed12 (c : Dev nD) (t : Fin cfg0.N) (hf : (cfg0.win 12).flush t = true) :
    (dats m 0 c).flushed 12 t = ((cfg0.win 12).blk t).view.read (Elt Ideal) (G12 m c) := by
  have hm : t.val % 64 = 63 := (flush0_12 t).mp hf
  have ht : t = tp 7 7 := Fin.ext (by have := lt_of_lt_of_eq t.isLt N_0; show t.val = 8 * 7 + 7; omega)
  subst ht
  show (cfg0.win 12).cut (grid0.coords _) ((dats m 0 c).after 12 _) = _
  rw [after0_12]
  funext y
  have hx0 : (((cfg0.win 12).blk (tp 7 7)).view.emb y 0).val = win0_12.index (tp 7 7) (0 : Fin 2) * 8 + 1 * (y 0).val := rfl
  have hx1 : (((cfg0.win 12).blk (tp 7 7)).view.emb y 1).val = win0_12.index (tp 7 7) (1 : Fin 2) * 2048 + 1 * (y 1).val := rfl
  have hi := (idx_out 7 7).2.2.2.2
  rw [hi] at hx0 hx1
  have e : ((cfg0.win 12).blk (tp 7 7)).view.emb y = ix2 (⟨(y 0).val, (y 0).isLt⟩ : Fin 8) (⟨(y 1).val, (y 1).isLt⟩ : Fin 2048) := by
    funext q
    refine Fin.ext ?_
    match q with
    | ⟨0, _⟩ => refine hx0.trans ?_; show 0 * 8 + 1 * (y 0).val = (y 0).val; omega
    | ⟨1, _⟩ => refine hx1.trans ?_; show 0 * 2048 + 1 * (y 1).val = (y 1).val; omega
  have e' : (cfg0.win 12).xinj (grid0.coords (tp 7 7)) y = ix2 (⟨(y 0).val, (y 0).isLt⟩ : Fin 8) (⟨(y 1).val, (y 1).isLt⟩ : Fin 2048) := by
    funext q
    match q with
    | ⟨0, _⟩ => rfl
    | ⟨1, _⟩ => rfl
  show ((st m c (tp 7 7).val (tp 7 7).isLt).2.2) ((cfg0.win 12).xinj (grid0.coords (tp 7 7)) y) = G12 m c (((cfg0.win 12).blk (tp 7 7)).view.emb y)
  rw [e, e']
  exact dg_eq m c _ _

theorem mem_blk12 (t : Fin cfg0.N) (i : S8x2048.Idx) :
    i ∈ ((cfg0.win 12).blk t).view.set ↔ ∀ a : Fin 2, win0_12.index t a * S8x2048.size a ≤ (i a).val ∧ (i a).val < win0_12.index t a * S8x2048.size a + S8x2048.size a := by
  show i ∈ ((View.whole main_v34_4).slice (win0_12.rect t)).set ↔ _
  rw [View.set_slice_whole, Rect.mem_set_unit]
  exact Iff.rfl

theorem cover12 (i : S8x2048.Idx) : ∃ t : Fin cfg0.N, (cfg0.win 12).flush t = true ∧ i ∈ ((cfg0.win 12).blk t).view.set := by
  have h0 : (i 0).val < 8 := (i 0).isLt
  have h1 : (i 1).val < 2048 := (i 1).isLt
  have hi := (idx_out 7 7).2.2.2.2
  refine ⟨tp 7 7, (flush0_12 _).mpr (by show (8 * 7 + 7) % 64 = 63; omega), ?_⟩
  rw [mem_blk12, hi]
  intro a
  match a with
  | ⟨0, _⟩ => show 0 * 8 ≤ (i 0).val ∧ (i 0).val < 0 * 8 + 8; omega
  | ⟨1, _⟩ => show 0 * 2048 ≤ (i 1).val ∧ (i 1).val < 0 * 2048 + 2048; omega

theorem final12 (c : Dev nD) : (dats m 0 c).arrAt 12 cfg0.N = G12 m c :=
  (dats m 0 c).arrAt_eq_of_cover 12 _ (fun t hf => flushed12 m c t hf) (cover12)

/-- The run with each result array named, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v34_0) = G8 m c
      ∧ r.2.mem ((c : Thread nD τ).loc main_v34_1) = G9 m c
      ∧ r.2.mem ((c : Thread nD τ).loc main_v34_2) = G10 m c
      ∧ r.2.mem ((c : Thread nD τ).loc main_v34_3) = G11 m c
      ∧ r.2.mem ((c : Thread nD τ).loc main_v34_4) = G12 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 8).trans (final8 m c), ((h c).1 9).trans (final9 m c), ((h c).1 10).trans (final10 m c),
      ((h c).1 11).trans (final11 m c), ((h c).1 12).trans (final12 m c),
      ((h c).1 1).trans (((dats m 0 c).arrAt_in 1 rfl _).trans ((A_eq m c 1).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 0).trans (((dats m 0 c).arrAt_in 0 rfl _).trans ((A_eq m c 0).trans (V_main_arg5 m c)))⟩)
    (run_main m ρ)

end Cert.FfnDx

end
-- ==== Proof.FfnDxRef.lean ====
/- What the reference of a SwiGLU layer's input gradient computes at real arguments, coordinate by coordinate. -/
module

public import proofs.«01_k».proof.Proof.FfnDxSpec
public import proofs.«01_k».proof.Proof.Gen.Reference4Ideal.Read

@[expose] public section

set_option maxRecDepth 16384

noncomputable section

namespace Cert.Dx.Ref

open Cert.Reference4Ideal Cert.Reference4Ideal.Gen Cert.Reference4Ideal.Read Idealize.ShloMosaic Idealize.ShloMosaic.TcCoe
open Cert.Ffn (col)
open Cert.Spec (EP EP_pos lit_EP lit_half lit_neg_half lit_2048 one_coe sum_coe div_2048 div_pos_coe rsqrt_pos)

variable {x : Vec Ideal S4096x2048 .f32} {g : Vec Ideal S2048 .f32} {wg wu : Vec Ideal S2048x5632 .f32} {wd : Vec Ideal S5632x2048 .f32}
  {dy : Vec Ideal S4096x2048 .f32}
  {X : Fin 4096 → Fin 2048 → ℝ} {G : Fin 2048 → ℝ} {P Q : Fin 2048 → Fin 5632 → ℝ} {W : Fin 5632 → Fin 2048 → ℝ}
  {Y : Fin 4096 → Fin 2048 → ℝ}
  (h0 : ∀ i k, x (ix2 i k) = ((X i k : ℝ) : EReal)) (h1 : ∀ k, g (ix1 k) = ((G k : ℝ) : EReal))
  (h2 : ∀ k l, wg (ix2 k l) = ((P k l : ℝ) : EReal)) (h3 : ∀ k l, wu (ix2 k l) = ((Q k l : ℝ) : EReal))
  (h4 : ∀ l b, wd (ix2 l b) = ((W l b : ℝ) : EReal)) (h5 : ∀ i k, dy (ix2 i k) = ((Y i k : ℝ) : EReal))

include h0 in
theorem v7 (i : Fin 4096) (e : Fin 1) : val_main_v7 (F := Ideal) x (ix2 i e) = ((msR X i : ℝ) : EReal) := by
  unfold val_main_v7 val_main_v6 val_main_cst_2 val_main_v5 val_main_v4 val_main_cst_1 val_main_v3 val_main_v2 val_main_cst_0 val_main_v1
  pointwise [h0, lit_EP, lit_2048, Ideal.ofBits_zero_f32]
  simp only [← EReal.coe_mul, sum_coe, zero_add]
  rw [div_2048, ← EReal.coe_add]
  rfl

include h0 in
theorem v8 (i : Fin 4096) (e : Fin 1) : val_main_v8 (F := Ideal) x (ix2 i e) = ((rR X i : ℝ) : EReal) := by
  unfold val_main_v8
  pointwise [v7 h0]
  exact rsqrt_pos _ (msR_pos X i)

include h0 in
theorem v11 (i : Fin 4096) (e : Fin 1) : val_main_v11 (F := Ideal) x (ix2 i e) = ((-(1 / 2) * (rR X i / msR X i) : ℝ) : EReal) := by
  unfold val_main_v11 val_main_v10 val_main_cst_3 val_main_v9
  pointwise [v7 h0, v8 h0, lit_neg_half]
  rw [div_pos_coe _ _ (msR_pos X i), ← EReal.coe_mul]

include h0 in
theorem v13 (i : Fin 4096) (k : Fin 2048) : val_main_v13 (F := Ideal) x (ix2 i k) = ((xhR X i k : ℝ) : EReal) := by
  unfold val_main_v13 val_main_v12
  pointwise [h0, v8 h0]
  rw [← EReal.coe_mul]; rfl

include h0 h1 in
theorem v16 (i : Fin 4096) (k : Fin 2048) : val_main_v16 (F := Ideal) x g (ix2 i k) = ((hR X G i k : ℝ) : EReal) := by
  unfold val_main_v16 val_main_v15 val_main_v14
  pointwise [v13 h0, h1]
  rw [← EReal.coe_mul]; rfl

include h0 h1 h2 in
theorem v18 (i : Fin 4096) (l : Fin 5632) : val_main_v18 (F := Ideal) x g wg (ix2 i l) = ((lR X G P i l : ℝ) : EReal) := by
  unfold val_main_v18 val_main_v17 val_main_v0 val_main_cst
  pointwise [v16 h0 h1, h2, Ideal.ofBits_zero_f32]
  simp only [← EReal.coe_mul, sum_coe, add_zero]
  rfl

include h0 h1 h3 in
theorem v21 (i : Fin 4096) (l : Fin 5632) : val_main_v21 (F := Ideal) x g wu (ix2 i l) = ((lR X G Q i l : ℝ) : EReal) := by
  unfold val_main_v21 val_main_v20 val_main_v0 val_main_cst
  pointwise [v16 h0 h1, h3, Ideal.ofBits_zero_f32]
  simp only [← EReal.coe_mul, sum_coe, add_zero]
  rfl

include h0 h1 h2 in
theorem v19_2 (i : Fin 4096) (l : Fin 5632) : val_main_v19_2 (F := Ideal) x g wg (ix2 i l) = ((sgR (lR X G P i l) : ℝ) : EReal) := by
  unfold val_main_v19_2 val_main_call0_v4 val_main_call0_cst_0 val_main_call0_v3 val_main_call0_v2 val_main_call0_cst val_main_call0_v1
    val_main_call0_v0
  pointwise [v18 h0 h1 h2, Ideal.ofBits_one_f32]
  exact logistic_coe _

include h0 h1 h2 in
theorem v19_1 (i : Fin 4096) (l : Fin 5632) : val_main_v19_1 (F := Ideal) x g wg (ix2 i l)
    = ((sgR (lR X G P i l) * (1 - sgR (lR X G P i l)) : ℝ) : EReal) := by
  unfold val_main_v19_1 val_main_call0_v7 val_main_call0_v6 val_main_call0_cst_1
  pointwise [v19_2 h0 h1 h2, Ideal.ofBits_one_f32]
  rw [one_coe]
  norm_cast

include h0 h1 h2 in
theorem v19_0 (i : Fin 4096) (l : Fin 5632) : val_main_v19_0 (F := Ideal) x g wg (ix2 i l) = ((silR X G P i l : ℝ) : EReal) := by
  unfold val_main_v19_0
  pointwise [v18 h0 h1 h2, v19_2 h0 h1 h2]
  rw [← EReal.coe_mul]; rfl

include h4 h5 in
theorem v30 (i : Fin 4096) (l : Fin 5632) : val_main_v30 (F := Ideal) wd dy (ix2 i l) = ((dactR W Y i l : ℝ) : EReal) := by
  have e : ∀ b : Fin 2048, val_main_v29 (F := Ideal) dy (ix2 i b) = ((1 / 2 * Y i b : ℝ) : EReal) := by
    intro b
    unfold val_main_v29 val_main_v28 val_main_cst_5 val_main_v27
    pointwise [h5, lit_half]
    rw [← EReal.coe_mul]
  unfold val_main_v30
  pointwise [e, h4]
  simp only [← EReal.coe_mul, sum_coe]
  rfl

include h0 h1 h2 h4 h5 in
theorem v31 (i : Fin 4096) (l : Fin 5632) : val_main_v31 (F := Ideal) x g wg wd dy (ix2 i l) = ((dbR X G P W Y i l : ℝ) : EReal) := by
  unfold val_main_v31
  pointwise [v19_0 h0 h1 h2, v30 h4 h5]
  rw [← EReal.coe_mul, mul_comm]; rfl

include h0 h1 h2 h3 h4 h5 in
theorem v34 (i : Fin 4096) (l : Fin 5632) : val_main_v34 (F := Ideal) x g wg wu wd dy (ix2 i l) = ((daR X G P Q W Y i l : ℝ) : EReal) := by
  unfold val_main_v34 val_main_call1_v1 val_main_call1_v2 val_main_call1_v0 val_main_v32
  pointwise [v18 h0 h1 h2, v19_1 h0 h1 h2, v19_2 h0 h1 h2, v21 h0 h1 h3, v30 h4 h5]
  simp only [← EReal.coe_mul, ← EReal.coe_add]
  congr 1
  unfold daR gatR
  ring

include h0 h1 h2 h3 h4 h5 in
theorem v36 (i : Fin 4096) (k : Fin 2048) : val_main_v36 (F := Ideal) x g wg wu wd dy (ix2 i k) = ((accR X G P Q W Y i k : ℝ) : EReal) := by
  unfold val_main_v36 val_main_v33 val_main_v35
  pointwise [v31 h0 h1 h2 h4 h5, v34 h0 h1 h2 h3 h4 h5, h2, h3]
  simp only [← EReal.coe_mul, sum_coe, ← EReal.coe_add]
  rw [add_comm]; rfl

include h0 h1 h2 h3 h4 h5 in
theorem v41 (i : Fin 4096) (k : Fin 2048) :
    val_main_v41 (F := Ideal) x g wg wu wd dy (ix2 i k) = ((accR X G P Q W Y i k * G k : ℝ) : EReal) := by
  unfold val_main_v41 val_main_v40 val_main_v14
  pointwise [v36 h0 h1 h2 h3 h4 h5, h1]
  rw [← EReal.coe_mul]

include h0 h1 h2 h3 h4 h5 in
theorem v67 (e : Fin 8) (k : Fin 2048) : val_main_v67 (F := Ideal) x g wg wu wd dy (ix2 e k) = ((dgR X G P Q W Y k : ℝ) : EReal) := by
  unfold val_main_v67 val_main_v42 val_main_cst_7 val_main_v39 val_main_v38 val_main_cst_6 val_main_v37
  pointwise [v13 h0, v36 h0 h1 h2 h3 h4 h5, Ideal.ofBits_zero_f32]
  simp only [Finset.univ_unique, Finset.sum_singleton, ← EReal.coe_mul, sum_coe, zero_add]
  simp only [dgR, mul_comm]

include h0 h1 h2 h3 h4 h5 in
theorem v53 (i : Fin 4096) (k : Fin 2048) :
    val_main_v53 (F := Ideal) x g wg wu wd dy (ix2 i k)
      = (((∑ q : Fin 2048, X i q * (accR X G P Q W Y i q * G q)) * (-(1 / 2) * (rR X i / msR X i)) / 2048 : ℝ) : EReal) := by
  unfold val_main_v53 val_main_v52 val_main_cst_10 val_main_v51 val_main_v50 val_main_cst_9 val_main_v49 val_main_v45 val_main_v44 val_main_cst_8
    val_main_v43
  pointwise [h0, v41 h0 h1 h2 h3 h4 h5, v11 h0, lit_2048, Ideal.ofBits_zero_f32]
  simp only [← EReal.coe_mul, sum_coe, zero_add]
  rw [div_2048]
  simp only [Finset.univ_unique, Finset.sum_singleton]

include h0 h1 h2 h3 h4 h5 in
theorem v57 (i : Fin 4096) (k : Fin 2048) : val_main_v57 (F := Ideal) x g wg wu wd dy (ix2 i k) = ((dxR X G P Q W Y i k : ℝ) : EReal) := by
  unfold val_main_v57 val_main_v56 val_main_v55 val_main_v54 val_main_v48 val_main_v47 val_main_v46
  pointwise [h0, h5, v41 h0 h1 h2 h3 h4 h5, v8 h0, v53 h0 h1 h2 h3 h4 h5]
  simp only [← EReal.coe_mul, ← EReal.coe_add]
  congr 1
  have hr := rR_sq X i
  have hm := (msR_pos X i).ne'
  have hs : ∑ q : Fin 2048, accR X G P Q W Y i q * G q * xhR X i q
      = rR X i * ∑ q : Fin 2048, X i q * (accR X G P Q W Y i q * G q) := by
    rw [Finset.mul_sum]
    refine Finset.sum_congr rfl fun q _ => ?_
    unfold xhR; ring
  unfold dxR
  rw [hs]
  unfold xhR
  generalize (∑ q : Fin 2048, X i q * (accR X G P Q W Y i q * G q)) = S
  generalize rR X i = r at *
  generalize msR X i = t at *
  have hq : r / t = r * r * r := by
    rw [div_eq_iff hm]; linear_combination (-r) * hr
  rw [hq]; ring

theorem split_eq (j : Fin 8) (i : Fin 4096) (a : Fin 704) : idx_main_v59 (idx_main_v60 (ix3 j i a)) = ix2 i (col j a) := by
  funext q
  refine Fin.ext ?_
  match q with
  | ⟨0, _⟩ => show ((i.val * 8 + j.val) * 704 + a.val) / 5632 = i.val; omega
  | ⟨1, _⟩ => show ((i.val * 8 + j.val) * 704 + a.val) % 5632 = j.val * 704 + a.val; omega

include h0 h1 h2 h3 h4 h5 in
theorem v60 (j : Fin 8) (i : Fin 4096) (a : Fin 704) :
    val_main_v60 (F := Ideal) x g wg wu wd dy (ix3 j i a) = ((daR X G P Q W Y i (col j a) : ℝ) : EReal) := by
  rw [val_main_v60_apply, val_main_v59_apply, split_eq, val_main_v58_apply, v34 h0 h1 h2 h3 h4 h5]
  rfl

include h0 h1 h2 h4 h5 in
theorem v63 (j : Fin 8) (i : Fin 4096) (a : Fin 704) :
    val_main_v63 (F := Ideal) x g wg wd dy (ix3 j i a) = ((dbR X G P W Y i (col j a) : ℝ) : EReal) := by
  have e : idx_main_v62 (idx_main_v63 (ix3 j i a)) = ix2 i (col j a) := split_eq j i a
  rw [val_main_v63_apply, val_main_v62_apply, e, val_main_v61_apply, v31 h0 h1 h2 h4 h5]
  rfl

theorem v66 (i : Fin 4096) (b : Fin 2048) : val_main_v66 (F := Ideal) dy (ix2 i b) = hy dy i b := by
  unfold val_main_v66 val_main_v65 val_main_v64 val_main_cst_11
  pointwise
  rfl

end Cert.Dx.Ref

end
-- ==== Proof.BlockSpec.lean ====
/- What one grid point of the kernel computes from its input blocks, over the extended reals, coordinate by coordinate, in the order of the body's operations. -/
module

public import proofs.«01_k».proof.Proof.Gen.KernelIdeal.Value
public import proofs.«01_k».proof.Proof.Spec
public import Idealize.ShloMosaic.Lib.Pipeline.ReadBack
public import Idealize.ShloMosaic.Lib.Pointwise

@[expose] public section

set_option maxRecDepth 16384

noncomputable section

namespace Cert.KernelIdeal.Block

open Cert.KernelIdeal Cert.KernelIdeal.Gen Idealize.ShloMosaic Idealize.ShloMosaic.TcCoe Idealize.SL.Sem

theorem c1_val : Named.named (F := Ideal) κ "c1" (φ := .f32) 0x3D372713#32 = ((8943 / 200000 : ℝ) : EReal) :=
  IdealRules.named_const.ideal_named_scalar _ _ _ _ rfl

theorem c3_val : Named.named (F := Ideal) κ "c3" (φ := .f32) 0x3E095D4F#32 = ((26829 / 200000 : ℝ) : EReal) :=
  IdealRules.named_const.ideal_named_scalar _ _ _ _ rfl

/-- A rectangle's placement of an index, as the reading of loads spells it. -/
theorem emb_idx {s : Shape} (r : Rect s) (x : r.shape.Idx) : r.emb x = r.toLoadRect.idx x := rfl

/-- The comparison of two short counters. -/
theorem mask_eq {α : Type} (a b : Fin 128) (x y : α) :
    Scalar.select (IntOp.cmpi CmpIPredicate.sge (BitVec.ofNat 32 a.val) (BitVec.ofNat 32 b.val)) x y = if b ≤ a then x else y := by
  have h : (IntOp.cmpi CmpIPredicate.sge (BitVec.ofNat 32 a.val) (BitVec.ofNat 32 b.val) = 1) ↔ b ≤ a := by
    revert a b; decide +kernel
  unfold Scalar.select
  by_cases hh : b ≤ a
  · rw [if_pos hh]; exact if_pos (h.2 hh)
  · rw [if_neg hh]; exact if_neg (mt h.1 hh)

/-- A load of a whole buffer through pieces that are blocks of one function reads that function. -/
theorem readCov_of_pieces {sig : RefSig} {κ : Kind} {sp : Space} {s : Shape} {e : EltTy} {Val : EltTy → Type} [∀ e, Nonempty (Val e)]
    (v : View sig κ sp s e) (L : List (View.Piece Val s e)) (r : LoadRect s) (G : s.Idx → Val e) (hL : View.PiecesOf G L)
    (hc : ∀ y, ∃ p ∈ L, y ∈ p.1.set) : v.readCov L r = fun j => G (r.idx j) := by
  rw [View.readCov_eq_canon']
  funext j
  exact View.canon_apply_of_pieces G L hL.mem _ (hc _)

/-- The hyperbolic tangent inside the gelu. -/
def thE (x : EReal) : EReal :=
  Ideal.tanh (((Spec.C0 : ℝ) : EReal) * (x + ((8943 / 200000 : ℝ) : EReal) * x * x * x))

/-- The gelu. -/
def geE (x : EReal) : EReal := ((1 / 2 : ℝ) : EReal) * x * (1 + thE x)

/-- Its derivative. -/
def gdE (x : EReal) : EReal :=
  ((1 / 2 : ℝ) : EReal) * (1 + thE x)
    + ((1 / 2 : ℝ) : EReal) * x * (1 - thE x * thE x) * ((Spec.C0 : ℝ) : EReal) * (1 + ((26829 / 200000 : ℝ) : EReal) * x * x)

/-- The left half's column of a feature. -/
abbrev lo (k : Fin 2048) : Fin 4096 := ⟨k.val, by omega⟩

/-- The right half's column of a feature. -/
abbrev hi (k : Fin 2048) : Fin 4096 := ⟨2048 + k.val, by omega⟩

/-- The group of a feature. -/
def grp (k : Fin 2048) : Fin 16 := ⟨k.val / 128, by omega⟩

/-- The feature of a group at a place in it. -/
def fea (g : Fin 16) (c : Fin 128) : Fin 2048 := ⟨128 * g.val + c.val, by omega⟩

variable (x0 : Vec Ideal S128x4096 .f32) (x1 : Vec Ideal S128x2048 .bf16) (x2 : Vec Ideal S1x2048 .f32) (x3 : Vec Ideal S16x128x128 .f32)
  (x4 : Vec Ideal S128x2048 .f32)

/-- The gated half before its norm. -/
def vE (p : Fin 128) (k : Fin 2048) : EReal := geE (x0 (ix2 p (hi k)))

/-- The reciprocal root mean square of a row. -/
def rE (p : Fin 128) : EReal :=
  Ideal.rsqrt (Ideal.div (∑ k : Fin 2048, vE x0 p k * vE x0 p k) ((2048 : ℝ) : EReal) + ((Spec.EP : ℝ) : EReal))

/-- The normed half without its gain. -/
def vhE (p : Fin 128) (k : Fin 2048) : EReal := vE x0 p k * rE x0 p

/-- The normed half. -/
def vnE (p : Fin 128) (k : Fin 2048) : EReal := vhE x0 p k * x2 (ix2 0 k)

/-- The mixing weights, lower triangle only. -/
def wE (g : Fin 16) (p q : Fin 128) : EReal := if q ≤ p then x3 (ix3 g p q) else 0

/-- The mixed rows. -/
def svE (p : Fin 128) (k : Fin 2048) : EReal := (∑ q : Fin 128, wE x3 (grp k) p q * vnE x0 x2 q k) + x4 (ix2 p k)

/-- The cotangent of the mixed rows. -/
def dsE (p : Fin 128) (k : Fin 2048) : EReal := x1 (ix2 p k) * geE (x0 (ix2 p (lo k)))

/-- The cotangent of the normed half. -/
def dnE (q : Fin 128) (k : Fin 2048) : EReal := ∑ p : Fin 128, wE x3 (grp k) p q * dsE x0 x1 p k

/-- The cotangent of the normed half times the gain. -/
def dxE (q : Fin 128) (k : Fin 2048) : EReal := dnE x0 x1 x3 q k * x2 (ix2 0 k)

/-- The left half of the result. -/
def dzuE (p : Fin 128) (k : Fin 2048) : EReal := x1 (ix2 p k) * svE x0 x2 x3 x4 p k * gdE (x0 (ix2 p (lo k)))

/-- The right half of the result. -/
def dzvE (p : Fin 128) (k : Fin 2048) : EReal :=
  rE x0 p * (dxE x0 x1 x2 x3 p k
      - vhE x0 p k * Ideal.div (∑ k' : Fin 2048, dxE x0 x1 x2 x3 p k' * vhE x0 p k') ((2048 : ℝ) : EReal))
    * gdE (x0 (ix2 p (hi k)))

/-- The point's block of the first result. -/
def dzE (p : Fin 128) (j : Fin 4096) : EReal :=
  if h : j.val < 2048 then dzuE x0 x1 x2 x3 x4 p ⟨j.val, h⟩ else dzvE x0 x1 x2 x3 p ⟨j.val - 2048, by omega⟩

/-- The point's share of the gradient of the mixing weights. -/
def dwE (g : Fin 16) (p q : Fin 128) : EReal := if q ≤ p then ∑ c : Fin 128, dsE x0 x1 p (fea g c) * vnE x0 x2 q (fea g c) else 0

/-- The point's share of the gradient of the bias. -/
def dbE (p : Fin 128) (k : Fin 2048) : EReal := ∑ c : Fin 128, dsE x0 x1 p (fea (grp k) c)

/-- The point's share of the gradient of the gain. -/
def dgE (k : Fin 2048) : EReal := ∑ p : Fin 128, dnE x0 x1 x3 p k * vhE x0 p k

theorem grp_add (o : ℕ) (j : Fin 128) (h : o + j.val < 2048) (ho : o % 128 = 0) : grp ⟨o + j.val, h⟩ = ⟨o / 128, by omega⟩ :=
  Fin.ext (by show (o + j.val) / 128 = o / 128; omega)

theorem grp_zero (j : Fin 128) (h : j.val < 2048) : grp ⟨j.val, h⟩ = 0 :=
  Fin.ext (by show j.val / 128 = 0; omega)

theorem dzE_lo (p : Fin 128) (o : ℕ) (j : Fin 128) (h : o + j.val < 4096) (ho : o + 128 ≤ 2048) :
    dzE x0 x1 x2 x3 x4 p ⟨o + j.val, h⟩ = dzuE x0 x1 x2 x3 x4 p ⟨o + j.val, by omega⟩ := by
  unfold dzE; rw [dif_pos (show o + j.val < 2048 by omega)]

theorem dzE_zero (p : Fin 128) (j : Fin 128) (h : j.val < 4096) :
    dzE x0 x1 x2 x3 x4 p ⟨j.val, h⟩ = dzuE x0 x1 x2 x3 x4 p ⟨j.val, by omega⟩ := by
  unfold dzE; rw [dif_pos (show j.val < 2048 by omega)]

theorem dzE_hi (p : Fin 128) (k : Fin 2048) (h : 2048 + k.val < 4096) :
    dzE x0 x1 x2 x3 x4 p ⟨2048 + k.val, h⟩ = dzvE x0 x1 x2 x3 p k := by
  unfold dzE; rw [dif_neg (show ¬ 2048 + k.val < 2048 by omega)]; congr 1; exact Fin.ext (by show 2048 + k.val - 2048 = k.val; omega)

/-! ## The row quantities of the body -/

theorem pay2_eq (v : Vec Ideal S128x2048 .f32) : k0_pay2 v = fun j => thE (v j) := by
  funext j; unfold k0_pay2; pointwise [c1_val, Spec.lit_C0]; rfl

theorem pay3_eq (v : Vec Ideal S128x2048 .f32) : k0_pay3 v = fun j => geE (v j) := by
  funext j; unfold k0_pay3; pointwise [pay2_eq, Spec.lit_half]; rfl

theorem pay4_eq (v : Vec Ideal S128x2048 .f32) : k0_pay4 v = fun j => thE (v j) := by
  funext j; unfold k0_pay4; pointwise [c1_val, Spec.lit_C0]; rfl

theorem pay5_eq (v : Vec Ideal S128x2048 .f32) : k0_pay5 v = fun j => geE (v j) := by
  funext j; unfold k0_pay5; pointwise [pay4_eq, Spec.lit_half]; rfl

theorem pay6_eq (inb) : k0_pay6 (View.ld x0 (Rect.unit ![0, 2048] ![128, 2048] inb)) = fun j : S128x1.Idx => rE x0 (j 0) := by
  funext j; unfold k0_pay6; idx_vars j; pointwise [pay5_eq, Spec.lit_2048, Spec.lit_EP]; rfl

theorem pay7_eq (inb) : k0_pay7 (View.ld x0 (Rect.unit ![0, 2048] ![128, 2048] inb)) = fun j : S128x2048.Idx => vhE x0 (j 0) (j 1) := by
  funext j; unfold k0_pay7; idx_vars j; pointwise [pay5_eq, pay6_eq]; rfl

theorem pay8_eq (inb inb') :
    k0_pay8 (View.ld x0 (Rect.unit ![0, 2048] ![128, 2048] inb)) (View.ld x2 (Rect.unit ![0, 0] ![1, 2048] inb'))
      = fun j : S128x2048.Idx => vnE x0 x2 (j 0) (j 1) := by
  funext j; unfold k0_pay8; idx_vars j; pointwise [pay7_eq]; rfl

theorem pay9_eq (v : FVec Ideal S128x2048 .f32) : k0_pay9 v = fun j : S128x2048.Idx => v j := by
  funext j; unfold k0_pay9; pointwise

end Cert.KernelIdeal.Block

end
-- ==== Proof.RealSpec.lean ====
/- The gradient of the gated mixer on one block row of 128 rows, over the real numbers; the kernel's point functions take
   these values at real blocks. -/
module

public import proofs.«01_k».proof.Proof.BlockSpec

@[expose] public section

set_option maxRecDepth 16384

noncomputable section

namespace Cert.Spec

open Idealize.ShloMosaic Cert.KernelIdeal Cert.KernelIdeal.Block

/-- A row of a block row. -/
abbrev row (n : Fin 32) (p : Fin 128) : Fin 4096 := ⟨128 * n.val + p.val, by omega⟩

section Defs

variable (z : Fin 128 → Fin 4096 → ℝ) (d : Fin 128 → Fin 2048 → ℝ) (g : Fin 2048 → ℝ) (w : Fin 16 → Fin 128 → Fin 128 → ℝ)
  (b : Fin 16 → Fin 128 → ℝ)

/-- The gated half before its norm. -/
def vR (p : Fin 128) (k : Fin 2048) : ℝ := gel (z p (hi k))

/-- The mean square of a row, with the small constant added. -/
def msR (p : Fin 128) : ℝ := (∑ k : Fin 2048, vR z p k * vR z p k) / 2048 + EP

/-- The reciprocal root mean square of a row. -/
def rR (p : Fin 128) : ℝ := (Real.sqrt (msR z p))⁻¹

def vhR (p : Fin 128) (k : Fin 2048) : ℝ := vR z p k * rR z p

def vnR (p : Fin 128) (k : Fin 2048) : ℝ := vhR z p k * g k

def wR (a : Fin 16) (p q : Fin 128) : ℝ := if q ≤ p then w a p q else 0

def svR (p : Fin 128) (k : Fin 2048) : ℝ := (∑ q : Fin 128, wR w (grp k) p q * vnR z g q k) + b (grp k) p

def dsR (p : Fin 128) (k : Fin 2048) : ℝ := d p k * gel (z p (lo k))

def dnR (q : Fin 128) (k : Fin 2048) : ℝ := ∑ p : Fin 128, wR w (grp k) p q * dsR z d p k

def dxR (q : Fin 128) (k : Fin 2048) : ℝ := dnR z d w q k * g k

def dzuR (p : Fin 128) (k : Fin 2048) : ℝ := d p k * svR z g w b p k * gelD (z p (lo k))

def dzvR (p : Fin 128) (k : Fin 2048) : ℝ :=
  rR z p * (dxR z d g w p k - vhR z p k * ((∑ k' : Fin 2048, dxR z d g w p k' * vhR z p k') / 2048)) * gelD (z p (hi k))

def dwR (a : Fin 16) (p q : Fin 128) : ℝ := if q ≤ p then ∑ c : Fin 128, dsR z d p (fea a c) * vnR z g q (fea a c) else 0

def dbR (p : Fin 128) (k : Fin 2048) : ℝ := ∑ c : Fin 128, dsR z d p (fea (grp k) c)

def dgR (k : Fin 2048) : ℝ := ∑ p : Fin 128, dnR z d w p k * vhR z p k

theorem msR_pos (p : Fin 128) : 0 < msR z p :=
  add_pos_of_nonneg_of_pos (div_nonneg (Finset.sum_nonneg fun _ _ => mul_self_nonneg _) (by norm_num)) EP_pos

theorem rR_sq (p : Fin 128) : rR z p * rR z p * msR z p = 1 := by
  unfold rR
  rw [← mul_inv, Real.mul_self_sqrt (msR_pos z p).le]
  exact inv_mul_cancel₀ (msR_pos z p).ne'

end Defs

/-! ## The point functions at real blocks -/

theorem thE_coe (x : ℝ) : thE (x : EReal) = ((Real.tanh (arg x) : ℝ) : EReal) := by
  unfold thE arg
  rw [← Ideal.tanh_coe]
  norm_cast

theorem geE_coe (x : ℝ) : geE (x : EReal) = ((gel x : ℝ) : EReal) := by
  unfold geE gel
  rw [thE_coe, one_coe]
  norm_cast

theorem gdE_coe (x : ℝ) : gdE (x : EReal) = ((gelD x : ℝ) : EReal) := by
  unfold gdE gelD
  rw [thE_coe, one_coe]
  norm_cast

section Coe

variable {x0 : Vec Ideal S128x4096 .f32} {x1 : Vec Ideal S128x2048 .bf16} {x2 : Vec Ideal S1x2048 .f32} {x3 : Vec Ideal S16x128x128 .f32}
  {x4 : Vec Ideal S128x2048 .f32}
  {z : Fin 128 → Fin 4096 → ℝ} {d : Fin 128 → Fin 2048 → ℝ} {g : Fin 2048 → ℝ} {w : Fin 16 → Fin 128 → Fin 128 → ℝ}
  {b : Fin 16 → Fin 128 → ℝ}
  (h0 : ∀ p j, x0 (ix2 p j) = ((z p j : ℝ) : EReal)) (h1 : ∀ p k, x1 (ix2 p k) = ((d p k : ℝ) : EReal))
  (h2 : ∀ k, x2 (ix2 0 k) = ((g k : ℝ) : EReal)) (h3 : ∀ a p q, x3 (ix3 a p q) = ((w a p q : ℝ) : EReal))
  (h4 : ∀ p k, x4 (ix2 p k) = ((b (grp k) p : ℝ) : EReal))

include h0 in
theorem vE_coe (p : Fin 128) (k : Fin 2048) : vE x0 p k = ((vR z p k : ℝ) : EReal) := by
  unfold vE vR; rw [h0, geE_coe]

include h0 in
theorem rE_coe (p : Fin 128) : rE x0 p = ((rR z p : ℝ) : EReal) := by
  unfold rE
  simp only [vE_coe h0, ← EReal.coe_mul]
  rw [sum_coe, div_2048, ← EReal.coe_add]
  exact rsqrt_pos _ (msR_pos z p)

include h0 in
theorem vhE_coe (p : Fin 128) (k : Fin 2048) : vhE x0 p k = ((vhR z p k : ℝ) : EReal) := by
  unfold vhE vhR; rw [vE_coe h0, rE_coe h0, EReal.coe_mul]

include h0 h2 in
theorem vnE_coe (p : Fin 128) (k : Fin 2048) : vnE x0 x2 p k = ((vnR z g p k : ℝ) : EReal) := by
  unfold vnE vnR; rw [vhE_coe h0, h2, EReal.coe_mul]

include h3 in
theorem wE_coe (a : Fin 16) (p q : Fin 128) : wE x3 a p q = ((wR w a p q : ℝ) : EReal) := by
  unfold wE wR; split_ifs
  · exact h3 a p q
  · exact zero_coe

include h0 h2 h3 h4 in
theorem svE_coe (p : Fin 128) (k : Fin 2048) : svE x0 x2 x3 x4 p k = ((svR z g w b p k : ℝ) : EReal) := by
  unfold svE svR
  simp only [wE_coe h3, vnE_coe h0 h2, h4, ← EReal.coe_mul]
  rw [sum_coe, ← EReal.coe_add]

include h0 h1 in
theorem dsE_coe (p : Fin 128) (k : Fin 2048) : dsE x0 x1 p k = ((dsR z d p k : ℝ) : EReal) := by
  unfold dsE dsR; rw [h1, h0, geE_coe, EReal.coe_mul]

include h0 h1 h3 in
theorem dnE_coe (q : Fin 128) (k : Fin 2048) : dnE x0 x1 x3 q k = ((dnR z d w q k : ℝ) : EReal) := by
  unfold dnE dnR
  simp only [wE_coe h3, dsE_coe h0 h1, ← EReal.coe_mul]
  rw [sum_coe]

include h0 h1 h2 h3 in
theorem dxE_coe (q : Fin 128) (k : Fin 2048) : dxE x0 x1 x2 x3 q k = ((dxR z d g w q k : ℝ) : EReal) := by
  unfold dxE dxR; rw [dnE_coe h0 h1 h3, h2, EReal.coe_mul]

include h0 h1 h2 h3 h4 in
theorem dzuE_coe (p : Fin 128) (k : Fin 2048) : dzuE x0 x1 x2 x3 x4 p k = ((dzuR z d g w b p k : ℝ) : EReal) := by
  unfold dzuE dzuR; rw [h1, svE_coe h0 h2 h3 h4, h0, gdE_coe, EReal.coe_mul, EReal.coe_mul]

include h0 h1 h2 h3 in
theorem dzvE_coe (p : Fin 128) (k : Fin 2048) : dzvE x0 x1 x2 x3 p k = ((dzvR z d g w p k : ℝ) : EReal) := by
  unfold dzvE dzvR
  simp only [dxE_coe h0 h1 h2 h3, vhE_coe h0, rE_coe h0, ← EReal.coe_mul]
  rw [sum_coe, div_2048, h0, gdE_coe]
  norm_cast

include h0 h1 h2 h3 h4 in
theorem dzE_coe_lo (p : Fin 128) (k : Fin 2048) : dzE x0 x1 x2 x3 x4 p (lo k) = ((dzuR z d g w b p k : ℝ) : EReal) := by
  unfold dzE; rw [dif_pos k.isLt]; exact dzuE_coe h0 h1 h2 h3 h4 p k

include h0 h1 h2 h3 in
theorem dzE_coe_hi (p : Fin 128) (k : Fin 2048) : dzE x0 x1 x2 x3 x4 p (hi k) = ((dzvR z d g w p k : ℝ) : EReal) := by
  rw [dzE_hi]; exact dzvE_coe h0 h1 h2 h3 p k

include h0 h1 h2 in
theorem dwE_coe (a : Fin 16) (p q : Fin 128) : dwE x0 x1 x2 a p q = ((dwR z d g a p q : ℝ) : EReal) := by
  unfold dwE dwR
  simp only [dsE_coe h0 h1, vnE_coe h0 h2, ← EReal.coe_mul]
  split_ifs
  · rw [sum_coe]
  · exact zero_coe

include h0 h1 in
theorem dbE_coe (p : Fin 128) (k : Fin 2048) : dbE x0 x1 p k = ((dbR z d p k : ℝ) : EReal) := by
  unfold dbE dbR; simp only [dsE_coe h0 h1]; rw [sum_coe]

include h0 h1 h3 in
theorem dgE_coe (k : Fin 2048) : dgE x0 x1 x3 k = ((dgR z d w k : ℝ) : EReal) := by
  unfold dgE dgR; simp only [dnE_coe h0 h1 h3, vhE_coe h0, ← EReal.coe_mul]; rw [sum_coe]

end Coe

end Cert.Spec

end
-- ==== Proof.A5.lean ====
module

public import proofs.«01_k».proof.Proof.BlockSpec

@[expose] public section

set_option maxRecDepth 16384

noncomputable section

namespace Cert.KernelIdeal.Block

open Cert.KernelIdeal Cert.KernelIdeal.Gen Idealize.ShloMosaic Idealize.ShloMosaic.TcCoe Idealize.SL.Sem

theorem out_A_5 (c : Dev nD) (i : grid0.Coords) (arg1 : Memref sig .tc .vmem S128x4096 .f32) (harg1 : arg1.IsWhole) (arg2 : Memref sig .tc .vmem S128x2048 .bf16) (harg2 : arg2.IsWhole) (arg3 : Memref sig .tc .vmem S1x2048 .f32) (harg3 : arg3.IsWhole) (arg4 : Memref sig .tc .vmem S16x128x128 .f32) (harg4 : arg4.IsWhole) (arg5 : Memref sig .tc .vmem S128x2048 .f32) (harg5 : arg5.IsWhole) (arg6 : Memref sig .tc .vmem S128x4096 .bf16) (harg6 : arg6.IsWhole) (arg7 : Memref sig .tc .vmem S16x128x128 .f32) (harg7 : arg7.IsWhole) (arg8 : Memref sig .tc .vmem S128x2048 .f32) (harg8 : arg8.IsWhole) (arg9 : Memref sig .tc .vmem S8x2048 .f32) (harg9 : arg9.IsWhole) (arg10 : Memref sig .tc .vmem S128x2048 .f32) (harg10 : arg10.IsWhole) (hc0 : cond0_0 i) (hc1 : cond0_1 i) (hc2 : ¬cond0_2 i)
    (x0 : Vec Ideal S128x4096 .f32) (x1 : Vec Ideal S128x2048 .bf16) (x2 : Vec Ideal S1x2048 .f32) (x3 : Vec Ideal S16x128x128 .f32) (x4 : Vec Ideal S128x2048 .f32) :
    out0_A_5 c i arg1 harg1 arg2 harg2 arg3 harg3 arg4 harg4 arg5 harg5 arg6 harg6 arg7 harg7 arg8 harg8 arg9 harg9 arg10 harg10 hc0 hc1 hc2 x0 x1 x2 x3 x4 = fun y : S128x4096.Idx => dzE x0 x1 x2 x3 x4 (y 0) (y 1) := by
  funext y
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 hc0 hc1 hc2 x0 x1 x2 x3 x4)]
  refine View.canon_apply_of_pieces (fun y : S128x4096.Idx => dzE x0 x1 x2 x3 x4 (y 0) (y 1)) _ (View.PiecesOf.mem (Val := Elt Ideal) (e := .bf16) (G := fun y : S128x4096.Idx => dzE x0 x1 x2 x3 x4 (y 0) (y 1)) ?_) y (cover0_A_5 c i arg1 harg1 arg2 harg2 arg3 harg3 arg4 harg4 arg5 harg5 arg6 harg6 arg7 harg7 arg8 harg8 arg9 harg9 arg10 harg10 hc0 hc1 hc2 x0 x1 x2 x3 x4 y)
  unfold kernelRun0_A
  dsimp only
  sl_unfold_words
  simp only [↓View.readCov_skip, ↓View.readCov_fill, View.readAt_eq_ld, harg1.read_unread, harg2.read_unread, harg3.read_unread, harg4.read_unread, harg5.read_unread, harg7.read_unread, harg8.read_unread, harg9.read_unread, pay2_eq, pay3_eq, pay8_eq, pay9_eq]
  rw [readCov_of_pieces arg10.view _ _ (fun y : S128x2048.Idx => dnE x0 x1 x3 (y 0) (y 1)) ?hp (fun y => View.cover_of_tiledBy _ ![128, 128] (by sl_kernel_rfl) y)]
  case hp =>
    refine ⟨?_, ?_, ?_, ?_, ?_, ?_, ?_, ?_, ?_, ?_, ?_, ?_, ?_, ?_, ?_, ?_, trivial⟩
    all_goals
      intro x
      change S128x128.Idx at x
      idx_vars x
      unfold_payloads
      pointwise [emb_idx, mask_eq, pay2_eq]
      simp only [dnE, grp_add, grp_zero, Nat.reduceMod, Nat.reduceDiv]
      rfl
  refine ⟨?_, ⟨?_, ?_, ?_, ?_, ?_, ?_, ?_, ?_, ?_, ?_, ?_, ?_, ?_, ?_, ?_, ?_, trivial⟩⟩
  · intro x
    change S128x2048.Idx at x
    idx_vars x
    unfold k0_pay185 k0_pay184 k0_pay183
    pointwise [emb_idx, pay2_eq, pay4_eq, pay6_eq, pay7_eq, Spec.lit_half, Spec.lit_C0, Spec.lit_2048, c3_val, dzE_hi]
    rfl
  all_goals
    intro x
    change S128x128.Idx at x
    idx_vars x
    unfold_payloads
    pointwise [emb_idx, mask_eq, pay2_eq, Spec.lit_half, Spec.lit_C0, c3_val]
    simp only [dzE_lo, dzE_zero, dzuE, svE, grp_add, grp_zero, Nat.reduceMod, Nat.reduceDiv, Nat.reduceAdd, Nat.reduceLeDiff]
    rfl

end Cert.KernelIdeal.Block

end
-- ==== Proof.A6.lean ====
module

public import proofs.«01_k».proof.Proof.BlockSpec

@[expose] public section

set_option maxRecDepth 16384

noncomputable section

namespace Cert.KernelIdeal.Block

open Cert.KernelIdeal Cert.KernelIdeal.Gen Idealize.ShloMosaic Idealize.ShloMosaic.TcCoe Idealize.SL.Sem

theorem out_A_6 (c : Dev nD) (i : grid0.Coords) (arg1 : Memref sig .tc .vmem S128x4096 .f32) (harg1 : arg1.IsWhole) (arg2 : Memref sig .tc .vmem S128x2048 .bf16) (harg2 : arg2.IsWhole) (arg3 : Memref sig .tc .vmem S1x2048 .f32) (harg3 : arg3.IsWhole) (arg4 : Memref sig .tc .vmem S16x128x128 .f32) (harg4 : arg4.IsWhole) (arg5 : Memref sig .tc .vmem S128x2048 .f32) (harg5 : arg5.IsWhole) (arg6 : Memref sig .tc .vmem S128x4096 .bf16) (harg6 : arg6.IsWhole) (arg7 : Memref sig .tc .vmem S16x128x128 .f32) (harg7 : arg7.IsWhole) (arg8 : Memref sig .tc .vmem S128x2048 .f32) (harg8 : arg8.IsWhole) (arg9 : Memref sig .tc .vmem S8x2048 .f32) (harg9 : arg9.IsWhole) (arg10 : Memref sig .tc .vmem S128x2048 .f32) (harg10 : arg10.IsWhole) (hc0 : cond0_0 i) (hc1 : cond0_1 i) (hc2 : ¬cond0_2 i)
    (x0 : Vec Ideal S128x4096 .f32) (x1 : Vec Ideal S128x2048 .bf16) (x2 : Vec Ideal S1x2048 .f32) (x3 : Vec Ideal S16x128x128 .f32) (x4 : Vec Ideal S128x2048 .f32) :
    out0_A_6 c i arg1 harg1 arg2 harg2 arg3 harg3 arg4 harg4 arg5 harg5 arg6 harg6 arg7 harg7 arg8 harg8 arg9 harg9 arg10 harg10 hc0 hc1 hc2 x0 x1 x2 x3 x4 = fun y : S16x128x128.Idx => dwE x0 x1 x2 (y 0) (y 1) (y 2) := by
  funext y
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 hc0 hc1 hc2 x0 x1 x2 x3 x4)]
  unfold kernelRun0_A
  dsimp only
  sl_unfold_words
  simp (disch := decide) only [↓View.readCov_skip, ↓View.readCov_fill]
  simp only [View.readAt_eq_ld, harg1.read_unread, harg2.read_unread, harg3.read_unread, harg4.read_unread, harg5.read_unread, harg7.read_unread, harg8.read_unread, harg9.read_unread, pay2_eq, pay3_eq, pay8_eq, pay9_eq]
  refine View.canon_append_of_piecesOf (Val := Elt Ideal) (e := .f32) (fun y : S16x128x128.Idx => dwE x0 x1 x2 (y 0) (y 1) (y 2)) [_] [_, _, _, _, _, _, _, _, _, _, _, _, _, _, _, _] ?_ y (View.cover_of_tiledBy _ ![1, 128, 128] (by sl_kernel_rfl) y)
  refine ⟨?_, ?_, ?_, ?_, ?_, ?_, ?_, ?_, ?_, ?_, ?_, ?_, ?_, ?_, ?_, ?_, trivial⟩
  all_goals
    intro x
    change S1x128x128.Idx at x
    idx_vars x
    unfold_payloads
    pointwise [emb_idx, mask_eq]
    rfl

end Cert.KernelIdeal.Block

end
-- ==== Proof.A7.lean ====
module

public import proofs.«01_k».proof.Proof.BlockSpec

@[expose] public section

set_option maxRecDepth 16384

noncomputable section

namespace Cert.KernelIdeal.Block

open Cert.KernelIdeal Cert.KernelIdeal.Gen Idealize.ShloMosaic Idealize.ShloMosaic.TcCoe Idealize.SL.Sem

theorem out_A_7 (c : Dev nD) (i : grid0.Coords) (arg1 : Memref sig .tc .vmem S128x4096 .f32) (harg1 : arg1.IsWhole) (arg2 : Memref sig .tc .vmem S128x2048 .bf16) (harg2 : arg2.IsWhole) (arg3 : Memref sig .tc .vmem S1x2048 .f32) (harg3 : arg3.IsWhole) (arg4 : Memref sig .tc .vmem S16x128x128 .f32) (harg4 : arg4.IsWhole) (arg5 : Memref sig .tc .vmem S128x2048 .f32) (harg5 : arg5.IsWhole) (arg6 : Memref sig .tc .vmem S128x4096 .bf16) (harg6 : arg6.IsWhole) (arg7 : Memref sig .tc .vmem S16x128x128 .f32) (harg7 : arg7.IsWhole) (arg8 : Memref sig .tc .vmem S128x2048 .f32) (harg8 : arg8.IsWhole) (arg9 : Memref sig .tc .vmem S8x2048 .f32) (harg9 : arg9.IsWhole) (arg10 : Memref sig .tc .vmem S128x2048 .f32) (harg10 : arg10.IsWhole) (hc0 : cond0_0 i) (hc1 : cond0_1 i) (hc2 : ¬cond0_2 i)
    (x0 : Vec Ideal S128x4096 .f32) (x1 : Vec Ideal S128x2048 .bf16) (x2 : Vec Ideal S1x2048 .f32) (x3 : Vec Ideal S16x128x128 .f32) (x4 : Vec Ideal S128x2048 .f32) :
    out0_A_7 c i arg1 harg1 arg2 harg2 arg3 harg3 arg4 harg4 arg5 harg5 arg6 harg6 arg7 harg7 arg8 harg8 arg9 harg9 arg10 harg10 hc0 hc1 hc2 x0 x1 x2 x3 x4 = fun y : S128x2048.Idx => dbE x0 x1 (y 0) (y 1) := by
  funext y
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 hc0 hc1 hc2 x0 x1 x2 x3 x4)]
  unfold kernelRun0_A
  dsimp only
  sl_unfold_words
  simp (disch := decide) only [↓View.readCov_skip, ↓View.readCov_fill]
  simp only [View.readAt_eq_ld, harg1.read_unread, harg2.read_unread, harg3.read_unread, harg4.read_unread, harg5.read_unread, harg7.read_unread, harg8.read_unread, harg9.read_unread, pay2_eq, pay3_eq, pay8_eq, pay9_eq]
  refine View.canon_append_of_piecesOf (Val := Elt Ideal) (e := .f32) (fun y : S128x2048.Idx => dbE x0 x1 (y 0) (y 1)) [_] [_, _, _, _, _, _, _, _, _, _, _, _, _, _, _, _] ?_ y (View.cover_of_tiledBy _ ![128, 128] (by sl_kernel_rfl) y)
  refine ⟨?_, ?_, ?_, ?_, ?_, ?_, ?_, ?_, ?_, ?_, ?_, ?_, ?_, ?_, ?_, ?_, trivial⟩
  all_goals
    intro x
    change S128x128.Idx at x
    idx_vars x
    unfold_payloads
    pointwise [emb_idx, mask_eq]
    simp only [dbE, grp_add, grp_zero, Nat.reduceMod, Nat.reduceDiv]
    rfl

end Cert.KernelIdeal.Block

end
-- ==== Proof.A8.lean ====
module

public import proofs.«01_k».proof.Proof.BlockSpec

@[expose] public section

set_option maxRecDepth 16384

noncomputable section

namespace Cert.KernelIdeal.Block

open Cert.KernelIdeal Cert.KernelIdeal.Gen Idealize.ShloMosaic Idealize.ShloMosaic.TcCoe Idealize.SL.Sem

theorem out_A_8 (c : Dev nD) (i : grid0.Coords) (arg1 : Memref sig .tc .vmem S128x4096 .f32) (harg1 : arg1.IsWhole) (arg2 : Memref sig .tc .vmem S128x2048 .bf16) (harg2 : arg2.IsWhole) (arg3 : Memref sig .tc .vmem S1x2048 .f32) (harg3 : arg3.IsWhole) (arg4 : Memref sig .tc .vmem S16x128x128 .f32) (harg4 : arg4.IsWhole) (arg5 : Memref sig .tc .vmem S128x2048 .f32) (harg5 : arg5.IsWhole) (arg6 : Memref sig .tc .vmem S128x4096 .bf16) (harg6 : arg6.IsWhole) (arg7 : Memref sig .tc .vmem S16x128x128 .f32) (harg7 : arg7.IsWhole) (arg8 : Memref sig .tc .vmem S128x2048 .f32) (harg8 : arg8.IsWhole) (arg9 : Memref sig .tc .vmem S8x2048 .f32) (harg9 : arg9.IsWhole) (arg10 : Memref sig .tc .vmem S128x2048 .f32) (harg10 : arg10.IsWhole) (hc0 : cond0_0 i) (hc1 : cond0_1 i) (hc2 : ¬cond0_2 i)
    (x0 : Vec Ideal S128x4096 .f32) (x1 : Vec Ideal S128x2048 .bf16) (x2 : Vec Ideal S1x2048 .f32) (x3 : Vec Ideal S16x128x128 .f32) (x4 : Vec Ideal S128x2048 .f32) :
    out0_A_8 c i arg1 harg1 arg2 harg2 arg3 harg3 arg4 harg4 arg5 harg5 arg6 harg6 arg7 harg7 arg8 harg8 arg9 harg9 arg10 harg10 hc0 hc1 hc2 x0 x1 x2 x3 x4 = fun y : S8x2048.Idx => dgE x0 x1 x3 (y 1) := by
  funext y
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 hc0 hc1 hc2 x0 x1 x2 x3 x4)]
  refine View.canon_apply_of_pieces (fun y : S8x2048.Idx => dgE x0 x1 x3 (y 1)) _ (View.PiecesOf.mem (Val := Elt Ideal) (e := .f32) (G := fun y : S8x2048.Idx => dgE x0 x1 x3 (y 1)) ?_) y (cover0_A_8 c i arg1 harg1 arg2 harg2 arg3 harg3 arg4 harg4 arg5 harg5 arg6 harg6 arg7 harg7 arg8 harg8 arg9 harg9 arg10 harg10 hc0 hc1 hc2 x0 x1 x2 x3 x4 y)
  unfold kernelRun0_A
  dsimp only
  sl_unfold_words
  simp only [↓View.readCov_skip, ↓View.readCov_fill, View.readAt_eq_ld, harg1.read_unread, harg2.read_unread, harg3.read_unread, harg4.read_unread, harg5.read_unread, harg7.read_unread, harg8.read_unread, harg9.read_unread, pay2_eq, pay3_eq, pay8_eq, pay9_eq]
  rw [readCov_of_pieces arg10.view _ _ (fun y : S128x2048.Idx => dnE x0 x1 x3 (y 0) (y 1)) ?hp (fun y => View.cover_of_tiledBy _ ![128, 128] (by sl_kernel_rfl) y)]
  case hp =>
    refine ⟨?_, ?_, ?_, ?_, ?_, ?_, ?_, ?_, ?_, ?_, ?_, ?_, ?_, ?_, ?_, ?_, trivial⟩
    all_goals
      intro x
      change S128x128.Idx at x
      idx_vars x
      unfold_payloads
      pointwise [emb_idx, mask_eq, pay2_eq]
      simp only [dnE, grp_add, grp_zero, Nat.reduceMod, Nat.reduceDiv]
      rfl
  refine ⟨?_, trivial⟩
  intro x
  change S8x2048.Idx at x
  idx_vars x
  unfold k0_pay186
  pointwise [emb_idx, pay7_eq]
  rfl

end Cert.KernelIdeal.Block

end
-- ==== Proof.B5.lean ====
module

public import proofs.«01_k».proof.Proof.BlockSpec

@[expose] public section

set_option maxRecDepth 16384

noncomputable section

namespace Cert.KernelIdeal.Block

open Cert.KernelIdeal Cert.KernelIdeal.Gen Idealize.ShloMosaic Idealize.ShloMosaic.TcCoe Idealize.SL.Sem

theorem out_B_5 (c : Dev nD) (i : grid0.Coords) (arg1 : Memref sig .tc .vmem S128x4096 .f32) (harg1 : arg1.IsWhole) (arg2 : Memref sig .tc .vmem S128x2048 .bf16) (harg2 : arg2.IsWhole) (arg3 : Memref sig .tc .vmem S1x2048 .f32) (harg3 : arg3.IsWhole) (arg4 : Memref sig .tc .vmem S16x128x128 .f32) (harg4 : arg4.IsWhole) (arg5 : Memref sig .tc .vmem S128x2048 .f32) (harg5 : arg5.IsWhole) (arg6 : Memref sig .tc .vmem S128x4096 .bf16) (harg6 : arg6.IsWhole) (arg7 : Memref sig .tc .vmem S16x128x128 .f32) (harg7 : arg7.IsWhole) (arg8 : Memref sig .tc .vmem S128x2048 .f32) (harg8 : arg8.IsWhole) (arg9 : Memref sig .tc .vmem S8x2048 .f32) (harg9 : arg9.IsWhole) (arg10 : Memref sig .tc .vmem S128x2048 .f32) (harg10 : arg10.IsWhole) (hc0 : ¬cond0_0 i) (hc1 : ¬cond0_1 i) (hc2 : cond0_2 i)
    (x0 : Vec Ideal S128x4096 .f32) (x1 : Vec Ideal S128x2048 .bf16) (x2 : Vec Ideal S1x2048 .f32) (x3 : Vec Ideal S16x128x128 .f32) (x4 : Vec Ideal S128x2048 .f32) (x5 : Vec Ideal S16x128x128 .f32) (x6 : Vec Ideal S128x2048 .f32) (x7 : Vec Ideal S8x2048 .f32) :
    out0_B_5 c i arg1 harg1 arg2 harg2 arg3 harg3 arg4 harg4 arg5 harg5 arg6 harg6 arg7 harg7 arg8 harg8 arg9 harg9 arg10 harg10 hc0 hc1 hc2 x0 x1 x2 x3 x4 x5 x6 x7 = fun y : S128x4096.Idx => dzE x0 x1 x2 x3 x4 (y 0) (y 1) := by
  funext y
  unfold out0_B_5
  rw [View.read_writes_eq_canon _ _ _ (cover0_B_5 c i arg1 harg1 arg2 harg2 arg3 harg3 arg4 harg4 arg5 harg5 arg6 harg6 arg7 harg7 arg8 harg8 arg9 harg9 arg10 harg10 hc0 hc1 hc2 x0 x1 x2 x3 x4 x5 x6 x7)]
  refine View.canon_apply_of_pieces (fun y : S128x4096.Idx => dzE x0 x1 x2 x3 x4 (y 0) (y 1)) _ (View.PiecesOf.mem (Val := Elt Ideal) (e := .bf16) (G := fun y : S128x4096.Idx => dzE x0 x1 x2 x3 x4 (y 0) (y 1)) ?_) y (cover0_B_5 c i arg1 harg1 arg2 harg2 arg3 harg3 arg4 harg4 arg5 harg5 arg6 harg6 arg7 harg7 arg8 harg8 arg9 harg9 arg10 harg10 hc0 hc1 hc2 x0 x1 x2 x3 x4 x5 x6 x7 y)
  unfold kernelRun0_B
  dsimp only
  sl_unfold_words
  simp only [↓View.readCov_skip, ↓View.readCov_fill, View.readAt_eq_ld, harg1.read_unread, harg2.read_unread, harg3.read_unread, harg4.read_unread, harg5.read_unread, harg7.read_unread, harg8.read_unread, harg9.read_unread, pay2_eq, pay3_eq, pay8_eq, pay9_eq]
  rw [readCov_of_pieces arg10.view _ _ (fun y : S128x2048.Idx => dnE x0 x1 x3 (y 0) (y 1)) ?hp (fun y => View.cover_of_tiledBy _ ![128, 128] (by sl_kernel_rfl) y)]
  case hp =>
    refine ⟨?_, ?_, ?_, ?_, ?_, ?_, ?_, ?_, ?_, ?_, ?_, ?_, ?_, ?_, ?_, ?_, trivial⟩
    all_goals
      intro x
      change S128x128.Idx at x
      idx_vars x
      unfold_payloads
      pointwise [emb_idx, mask_eq, pay2_eq]
      simp only [dnE, grp_add, grp_zero, Nat.reduceMod, Nat.reduceDiv]
      rfl
  refine ⟨?_, ⟨?_, ?_, ?_, ?_, ?_, ?_, ?_, ?_, ?_, ?_, ?_, ?_, ?_, ?_, ?_, ?_, trivial⟩⟩
  · intro x
    change S128x2048.Idx at x
    idx_vars x
    unfold k0_pay185 k0_pay184 k0_pay183
    pointwise [emb_idx, pay2_eq, pay4_eq, pay6_eq, pay7_eq, Spec.lit_half, Spec.lit_C0, Spec.lit_2048, c3_val, dzE_hi]
    rfl
  all_goals
    intro x
    change S128x128.Idx at x
    idx_vars x
    unfold_payloads
    pointwise [emb_idx, mask_eq, pay2_eq, Spec.lit_half, Spec.lit_C0, c3_val]
    simp only [dzE_lo, dzE_zero, dzuE, svE, grp_add, grp_zero, Nat.reduceMod, Nat.reduceDiv, Nat.reduceAdd, Nat.reduceLeDiff]
    rfl

end Cert.KernelIdeal.Block

end
-- ==== Proof.B6.lean ====
module

public import proofs.«01_k».proof.Proof.BlockSpec

@[expose] public section

set_option maxRecDepth 16384

noncomputable section

namespace Cert.KernelIdeal.Block

open Cert.KernelIdeal Cert.KernelIdeal.Gen Idealize.ShloMosaic Idealize.ShloMosaic.TcCoe Idealize.SL.Sem

theorem out_B_6 (c : Dev nD) (i : grid0.Coords) (arg1 : Memref sig .tc .vmem S128x4096 .f32) (harg1 : arg1.IsWhole) (arg2 : Memref sig .tc .vmem S128x2048 .bf16) (harg2 : arg2.IsWhole) (arg3 : Memref sig .tc .vmem S1x2048 .f32) (harg3 : arg3.IsWhole) (arg4 : Memref sig .tc .vmem S16x128x128 .f32) (harg4 : arg4.IsWhole) (arg5 : Memref sig .tc .vmem S128x2048 .f32) (harg5 : arg5.IsWhole) (arg6 : Memref sig .tc .vmem S128x4096 .bf16) (harg6 : arg6.IsWhole) (arg7 : Memref sig .tc .vmem S16x128x128 .f32) (harg7 : arg7.IsWhole) (arg8 : Memref sig .tc .vmem S128x2048 .f32) (harg8 : arg8.IsWhole) (arg9 : Memref sig .tc .vmem S8x2048 .f32) (harg9 : arg9.IsWhole) (arg10 : Memref sig .tc .vmem S128x2048 .f32) (harg10 : arg10.IsWhole) (hc0 : ¬cond0_0 i) (hc1 : ¬cond0_1 i) (hc2 : cond0_2 i)
    (x0 : Vec Ideal S128x4096 .f32) (x1 : Vec Ideal S128x2048 .bf16) (x2 : Vec Ideal S1x2048 .f32) (x3 : Vec Ideal S16x128x128 .f32) (x4 : Vec Ideal S128x2048 .f32) (x5 : Vec Ideal S16x128x128 .f32) (x6 : Vec Ideal S128x2048 .f32) (x7 : Vec Ideal S8x2048 .f32) :
    out0_B_6 c i arg1 harg1 arg2 harg2 arg3 harg3 arg4 harg4 arg5 harg5 arg6 harg6 arg7 harg7 arg8 harg8 arg9 harg9 arg10 harg10 hc0 hc1 hc2 x0 x1 x2 x3 x4 x5 x6 x7 = fun y : S16x128x128.Idx => x5 y + dwE x0 x1 x2 (y 0) (y 1) (y 2) := by
  funext y
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 hc0 hc1 hc2 x0 x1 x2 x3 x4 x5 x6 x7)]
  refine View.canon_apply_of_pieces (fun y : S16x128x128.Idx => x5 y + dwE x0 x1 x2 (y 0) (y 1) (y 2)) _ (View.PiecesOf.mem (Val := Elt Ideal) (e := .f32) (G := fun y : S16x128x128.Idx => x5 y + dwE x0 x1 x2 (y 0) (y 1) (y 2)) ?_) y (cover0_B_6 c i arg1 harg1 arg2 harg2 arg3 harg3 arg4 harg4 arg5 harg5 arg6 harg6 arg7 harg7 arg8 harg8 arg9 harg9 arg10 harg10 hc0 hc1 hc2 x0 x1 x2 x3 x4 x5 x6 x7 y)
  unfold kernelRun0_B
  dsimp only
  sl_unfold_words
  simp only [↓View.readCov_skip, ↓View.readCov_fill, View.readAt_eq_ld, harg1.read_unread, harg2.read_unread, harg3.read_unread, harg4.read_unread, harg5.read_unread, harg7.read_unread, harg8.read_unread, harg9.read_unread, pay2_eq, pay3_eq, pay8_eq, pay9_eq]
  refine ⟨?_, ?_, ?_, ?_, ?_, ?_, ?_, ?_, ?_, ?_, ?_, ?_, ?_, ?_, ?_, ?_, trivial⟩
  all_goals
    intro x
    change S1x128x128.Idx at x
    idx_vars x
    unfold_payloads
    pointwise [emb_idx, mask_eq]
    rfl

end Cert.KernelIdeal.Block

end
-- ==== Proof.B7.lean ====
module

public import proofs.«01_k».proof.Proof.BlockSpec

@[expose] public section

set_option maxRecDepth 16384

noncomputable section

namespace Cert.KernelIdeal.Block

open Cert.KernelIdeal Cert.KernelIdeal.Gen Idealize.ShloMosaic Idealize.ShloMosaic.TcCoe Idealize.SL.Sem

theorem out_B_7 (c : Dev nD) (i : grid0.Coords) (arg1 : Memref sig .tc .vmem S128x4096 .f32) (harg1 : arg1.IsWhole) (arg2 : Memref sig .tc .vmem S128x2048 .bf16) (harg2 : arg2.IsWhole) (arg3 : Memref sig .tc .vmem S1x2048 .f32) (harg3 : arg3.IsWhole) (arg4 : Memref sig .tc .vmem S16x128x128 .f32) (harg4 : arg4.IsWhole) (arg5 : Memref sig .tc .vmem S128x2048 .f32) (harg5 : arg5.IsWhole) (arg6 : Memref sig .tc .vmem S128x4096 .bf16) (harg6 : arg6.IsWhole) (arg7 : Memref sig .tc .vmem S16x128x128 .f32) (harg7 : arg7.IsWhole) (arg8 : Memref sig .tc .vmem S128x2048 .f32) (harg8 : arg8.IsWhole) (arg9 : Memref sig .tc .vmem S8x2048 .f32) (harg9 : arg9.IsWhole) (arg10 : Memref sig .tc .vmem S128x2048 .f32) (harg10 : arg10.IsWhole) (hc0 : ¬cond0_0 i) (hc1 : ¬cond0_1 i) (hc2 : cond0_2 i)
    (x0 : Vec Ideal S128x4096 .f32) (x1 : Vec Ideal S128x2048 .bf16) (x2 : Vec Ideal S1x2048 .f32) (x3 : Vec Ideal S16x128x128 .f32) (x4 : Vec Ideal S128x2048 .f32) (x5 : Vec Ideal S16x128x128 .f32) (x6 : Vec Ideal S128x2048 .f32) (x7 : Vec Ideal S8x2048 .f32) :
    out0_B_7 c i arg1 harg1 arg2 harg2 arg3 harg3 arg4 harg4 arg5 harg5 arg6 harg6 arg7 harg7 arg8 harg8 arg9 harg9 arg10 harg10 hc0 hc1 hc2 x0 x1 x2 x3 x4 x5 x6 x7 = fun y : S128x2048.Idx => x6 y + dbE x0 x1 (y 0) (y 1) := by
  funext y
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 hc0 hc1 hc2 x0 x1 x2 x3 x4 x5 x6 x7)]
  refine View.canon_apply_of_pieces (fun y : S128x2048.Idx => x6 y + dbE x0 x1 (y 0) (y 1)) _ (View.PiecesOf.mem (Val := Elt Ideal) (e := .f32) (G := fun y : S128x2048.Idx => x6 y + dbE x0 x1 (y 0) (y 1)) ?_) y (cover0_B_7 c i arg1 harg1 arg2 harg2 arg3 harg3 arg4 harg4 arg5 harg5 arg6 harg6 arg7 harg7 arg8 harg8 arg9 harg9 arg10 harg10 hc0 hc1 hc2 x0 x1 x2 x3 x4 x5 x6 x7 y)
  unfold kernelRun0_B
  dsimp only
  sl_unfold_words
  simp only [↓View.readCov_skip, ↓View.readCov_fill, View.readAt_eq_ld, harg1.read_unread, harg2.read_unread, harg3.read_unread, harg4.read_unread, harg5.read_unread, harg7.read_unread, harg8.read_unread, harg9.read_unread, pay2_eq, pay3_eq, pay8_eq, pay9_eq]
  refine ⟨?_, ?_, ?_, ?_, ?_, ?_, ?_, ?_, ?_, ?_, ?_, ?_, ?_, ?_, ?_, ?_, trivial⟩
  all_goals
    intro x
    change S128x128.Idx at x
    idx_vars x
    unfold_payloads
    pointwise [emb_idx, mask_eq]
    simp only [dbE, grp_add, grp_zero, Nat.reduceMod, Nat.reduceDiv]
    rfl

end Cert.KernelIdeal.Block

end
-- ==== Proof.B8.lean ====
module

public import proofs.«01_k».proof.Proof.BlockSpec

@[expose] public section

set_option maxRecDepth 16384

noncomputable section

namespace Cert.KernelIdeal.Block

open Cert.KernelIdeal Cert.KernelIdeal.Gen Idealize.ShloMosaic Idealize.ShloMosaic.TcCoe Idealize.SL.Sem

theorem out_B_8 (c : Dev nD) (i : grid0.Coords) (arg1 : Memref sig .tc .vmem S128x4096 .f32) (harg1 : arg1.IsWhole) (arg2 : Memref sig .tc .vmem S128x2048 .bf16) (harg2 : arg2.IsWhole) (arg3 : Memref sig .tc .vmem S1x2048 .f32) (harg3 : arg3.IsWhole) (arg4 : Memref sig .tc .vmem S16x128x128 .f32) (harg4 : arg4.IsWhole) (arg5 : Memref sig .tc .vmem S128x2048 .f32) (harg5 : arg5.IsWhole) (arg6 : Memref sig .tc .vmem S128x4096 .bf16) (harg6 : arg6.IsWhole) (arg7 : Memref sig .tc .vmem S16x128x128 .f32) (harg7 : arg7.IsWhole) (arg8 : Memref sig .tc .vmem S128x2048 .f32) (harg8 : arg8.IsWhole) (arg9 : Memref sig .tc .vmem S8x2048 .f32) (harg9 : arg9.IsWhole) (arg10 : Memref sig .tc .vmem S128x2048 .f32) (harg10 : arg10.IsWhole) (hc0 : ¬cond0_0 i) (hc1 : ¬cond0_1 i) (hc2 : cond0_2 i)
    (x0 : Vec Ideal S128x4096 .f32) (x1 : Vec Ideal S128x2048 .bf16) (x2 : Vec Ideal S1x2048 .f32) (x3 : Vec Ideal S16x128x128 .f32) (x4 : Vec Ideal S128x2048 .f32) (x5 : Vec Ideal S16x128x128 .f32) (x6 : Vec Ideal S128x2048 .f32) (x7 : Vec Ideal S8x2048 .f32) :
    out0_B_8 c i arg1 harg1 arg2 harg2 arg3 harg3 arg4 harg4 arg5 harg5 arg6 harg6 arg7 harg7 arg8 harg8 arg9 harg9 arg10 harg10 hc0 hc1 hc2 x0 x1 x2 x3 x4 x5 x6 x7 = fun y : S8x2048.Idx => x7 y + dgE x0 x1 x3 (y 1) := by
  funext y
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 hc0 hc1 hc2 x0 x1 x2 x3 x4 x5 x6 x7)]
  refine View.canon_apply_of_pieces (fun y : S8x2048.Idx => x7 y + dgE x0 x1 x3 (y 1)) _ (View.PiecesOf.mem (Val := Elt Ideal) (e := .f32) (G := fun y : S8x2048.Idx => x7 y + dgE x0 x1 x3 (y 1)) ?_) y (cover0_B_8 c i arg1 harg1 arg2 harg2 arg3 harg3 arg4 harg4 arg5 harg5 arg6 harg6 arg7 harg7 arg8 harg8 arg9 harg9 arg10 harg10 hc0 hc1 hc2 x0 x1 x2 x3 x4 x5 x6 x7 y)
  unfold kernelRun0_B
  dsimp only
  sl_unfold_words
  simp only [↓View.readCov_skip, ↓View.readCov_fill, View.readAt_eq_ld, harg1.read_unread, harg2.read_unread, harg3.read_unread, harg4.read_unread, harg5.read_unread, harg7.read_unread, harg8.read_unread, harg9.read_unread, pay2_eq, pay3_eq, pay8_eq, pay9_eq]
  rw [readCov_of_pieces arg10.view _ _ (fun y : S128x2048.Idx => dnE x0 x1 x3 (y 0) (y 1)) ?hp (fun y => View.cover_of_tiledBy _ ![128, 128] (by sl_kernel_rfl) y)]
  case hp =>
    refine ⟨?_, ?_, ?_, ?_, ?_, ?_, ?_, ?_, ?_, ?_, ?_, ?_, ?_, ?_, ?_, ?_, trivial⟩
    all_goals
      intro x
      change S128x128.Idx at x
      idx_vars x
      unfold_payloads
      pointwise [emb_idx, mask_eq, pay2_eq]
      simp only [dnE, grp_add, grp_zero, Nat.reduceMod, Nat.reduceDiv]
      rfl
  refine ⟨?_, trivial⟩
  intro x
  change S8x2048.Idx at x
  idx_vars x
  unfold k0_pay1 k0_pay186
  pointwise [emb_idx, pay7_eq]
  rfl

end Cert.KernelIdeal.Block

end
-- ==== Proof.Arrays.lean ====
/- The four result arrays after the kernel's run: the first is computed block row by block row, the other three are sums over
   the block rows. -/
module

public import proofs.«01_k».proof.Proof.RealSpec
public import proofs.«01_k».proof.Proof.A5
public import proofs.«01_k».proof.Proof.A6
public import proofs.«01_k».proof.Proof.A7
public import proofs.«01_k».proof.Proof.A8
public import proofs.«01_k».proof.Proof.B5
public import proofs.«01_k».proof.Proof.B6
public import proofs.«01_k».proof.Proof.B7
public import proofs.«01_k».proof.Proof.B8
public import Idealize.ShloMosaic.Lib.Pipeline.ValueKit.Geometry
public import Idealize.ShloMosaic.Lib.Pipeline.ValueKit.Point
public import Idealize.ShloMosaic.Lib.Claim

@[expose] public section

set_option maxRecDepth 16384

noncomputable section

namespace Cert.KernelIdeal.Block

open Cert.KernelIdeal Cert.KernelIdeal.Gen Idealize.ShloMosaic Idealize.ShloMosaic.TcCoe Idealize.SL.Sem

variable (m : (ℓ : Loc nD τ sig) → Buf (Elt Ideal) ℓ)

/-- The grid point of a block row. -/
abbrev tp (i : Fin 32) : Fin cfg0.N := Fin.cast N_0.symm i

/-! ## The input blocks -/

theorem idx_row : ∀ i : Fin 32, win0_0.index (tp i) = ![i.val, 0] ∧ win0_1.index (tp i) = ![i.val, 0] ∧ win0_5.index (tp i) = ![i.val, 0] := by
  decide +kernel

theorem idx_zero : ∀ i : Fin 32, win0_2.index (tp i) = ![0, 0] ∧ win0_3.index (tp i) = ![0, 0, 0] ∧ win0_4.index (tp i) = ![0, 0] := by
  decide +kernel

theorem blk0 (c : Dev nD) (i : Fin 32) (p : Fin 128) (j : Fin 4096) :
    iblk m c 0 (tp i) (ix2 p j) = m ((c : Thread nD τ).loc main_arg0) (ix2 (Spec.row i p) j) := by
  blk_ext [iblk, V, idx_row i]

theorem blk1 (c : Dev nD) (i : Fin 32) (p : Fin 128) (j : Fin 2048) :
    iblk m c 1 (tp i) (ix2 p j) = m ((c : Thread nD τ).loc main_arg1) (ix2 (Spec.row i p) j) := by
  blk_ext [iblk, V, idx_row i]

theorem blk2 (c : Dev nD) (i : Fin 32) (k : Fin 2048) :
    iblk m c 2 (tp i) (ix2 0 k) = m ((c : Thread nD τ).loc main_arg2) (ix1 k) := by
  have h : iblk m c 2 (tp i) (ix2 0 k) = V m c main_v3 (ix2 0 k) := by blk_ext [iblk, idx_zero i]
  rw [h]
  entry_read
  pointwise

theorem blk3 (c : Dev nD) (i : Fin 32) (g : Fin 16) (p q : Fin 128) :
    iblk m c 3 (tp i) (ix3 g p q) = m ((c : Thread nD τ).loc main_arg3) (ix3 g p q) := by
  blk_ext [iblk, V, idx_zero i]

theorem blk4 (c : Dev nD) (i : Fin 32) (p : Fin 128) (k : Fin 2048) :
    iblk m c 4 (tp i) (ix2 p k) = m ((c : Thread nD τ).loc main_arg4) (ix2 (grp k) p) := by
  have h : iblk m c 4 (tp i) (ix2 p k) = V m c main_v2 (ix2 p k) := by blk_ext [iblk, idx_zero i]
  rw [h]
  entry_read
  pointwise
  rfl

/-! ## What the points leave -/

theorem at5 (c : Dev nD) (t : Fin cfg0.N) :
    (outsAt0 m c t.val t.isLt).1
      = fun y : S128x4096.Idx => dzE (iblk m c 0 t) (iblk m c 1 t) (iblk m c 2 t) (iblk m c 3 t) (iblk m c 4 t) (y 0) (y 1) := by
  have hN : t.val < 32 := lt_of_lt_of_eq t.isLt N_0
  by_cases h : t.val = 0
  · rw [outsAt0_A m c t (by omega) (by omega) (by omega)]
    dsimp only
    rw [out_A_5]
  · rw [outsAt0_B m c t (by omega) (by omega) (by omega)]
    dsimp only
    rw [out_B_5]

/-- A block row's share. -/
def sh6 (c : Dev nD) (i : Fin 32) (g : Fin 16) (p q : Fin 128) : EReal :=
  dwE (iblk m c 0 (tp i)) (iblk m c 1 (tp i)) (iblk m c 2 (tp i)) g p q

theorem at6 (c : Dev nD) (g : Fin 16) (p q : Fin 128) (n : ℕ) (h : n < cfg0.N) (hN : n < 32) :
    (outsAt0 m c n h).2.1 (ix3 g p q) = ∑ i : Fin (n + 1), sh6 m c ⟨i.val, by omega⟩ g p q := by
  induction n with
  | zero =>
    rw [Fin.sum_univ_one]
    have e := outsAt0_A m c ⟨0, h⟩ rfl rfl (Nat.not_succ_le_zero 0)
    dsimp only at e
    rw [e, out_A_6]
    rfl
  | succ n ih =>
    rw [Fin.sum_univ_castSucc]
    have e : (n + 1) % 32 ≠ 0 := by omega
    have e' := outsAt0_B m c ⟨n + 1, h⟩ e e (Nat.le_add_left 1 n)
    dsimp only at e'
    rw [e', out_B_6]
    exact congrArg₂ (· + ·) (ih (by omega) (by omega)) rfl

/-- A block row's share. -/
def sh7 (c : Dev nD) (i : Fin 32) (p : Fin 128) (k : Fin 2048) : EReal :=
  dbE (iblk m c 0 (tp i)) (iblk m c 1 (tp i)) p k

theorem at7 (c : Dev nD) (p : Fin 128) (k : Fin 2048) (n : ℕ) (h : n < cfg0.N) (hN : n < 32) :
    (outsAt0 m c n h).2.2.1 (ix2 p k) = ∑ i : Fin (n + 1), sh7 m c ⟨i.val, by omega⟩ p k := by
  induction n with
  | zero =>
    rw [Fin.sum_univ_one]
    have e := outsAt0_A m c ⟨0, h⟩ rfl rfl (Nat.not_succ_le_zero 0)
    dsimp only at e
    rw [e, out_A_7]
    rfl
  | succ n ih =>
    rw [Fin.sum_univ_castSucc]
    have e : (n + 1) % 32 ≠ 0 := by omega
    have e' := outsAt0_B m c ⟨n + 1, h⟩ e e (Nat.le_add_left 1 n)
    dsimp only at e'
    rw [e', out_B_7]
    exact congrArg₂ (· + ·) (ih (by omega) (by omega)) rfl

/-- A block row's share. -/
def sh8 (c : Dev nD) (i : Fin 32) (k : Fin 2048) : EReal :=
  dgE (iblk m c 0 (tp i)) (iblk m c 1 (tp i)) (iblk m c 3 (tp i)) k

theorem at8 (c : Dev nD) (a : Fin 8) (k : Fin 2048) (n : ℕ) (h : n < cfg0.N) (hN : n < 32) :
    (outsAt0 m c n h).2.2.2 (ix2 a k) = ∑ i : Fin (n + 1), sh8 m c ⟨i.val, by omega⟩ k := by
  induction n with
  | zero =>
    rw [Fin.sum_univ_one]
    have e := outsAt0_A m c ⟨0, h⟩ rfl rfl (Nat.not_succ_le_zero 0)
    dsimp only at e
    rw [e, out_A_8]
    rfl
  | succ n ih =>
    rw [Fin.sum_univ_castSucc]
    have e : (n + 1) % 32 ≠ 0 := by omega
    have e' := outsAt0_B m c ⟨n + 1, h⟩ e e (Nat.le_add_left 1 n)
    dsimp only at e'
    rw [e', out_B_8]
    exact congrArg₂ (· + ·) (ih (by omega) (by omega)) rfl

/-! ## The arrays -/

/-- The first result, from each block row's blocks. -/
theorem arr5 (c : Dev nD) (i : Fin 32) (p : Fin 128) (j : Fin 4096) :
    (dats m 0 c).arrAt 5 cfg0.N (ix2 (Spec.row i p) j)
      = dzE (iblk m c 0 (tp i)) (iblk m c 1 (tp i)) (iblk m c 2 (tp i)) (iblk m c 3 (tp i)) (iblk m c 4 (tp i)) p j := by
  have h := congrFun (Value.blocks5 m c (tp i) (flush0_5 (tp i))) (ix2 p j)
  rw [Value.flushed5, at5] at h
  blk_simp at h
  refine Eq.trans ?_ h
  blk_ext [idx_row i]

theorem last_lt : 31 < cfg0.N := lt_of_lt_of_eq (by omega) N_0.symm

theorem arr6 (c : Dev nD) (g : Fin 16) (p q : Fin 128) :
    (dats m 0 c).arrAt 6 cfg0.N (ix3 g p q) = ∑ i : Fin 32, sh6 m c i g p q := by
  refine Eq.trans ?_ (at6 m c g p q 31 last_lt (by omega))
  have h := (dats m 0 c).arrAt_eq_of_after_last 6 ⟨31, last_lt⟩ (by decide +kernel) ((outsAt0 m c 31 last_lt).2.1)
    (fun j => by rw [after0_6]; rfl)
  rw [h]

theorem arr7 (c : Dev nD) (p : Fin 128) (k : Fin 2048) :
    (dats m 0 c).arrAt 7 cfg0.N (ix2 p k) = ∑ i : Fin 32, sh7 m c i p k := by
  refine Eq.trans ?_ (at7 m c p k 31 last_lt (by omega))
  have h := (dats m 0 c).arrAt_eq_of_after_last 7 ⟨31, last_lt⟩ (by decide +kernel) ((outsAt0 m c 31 last_lt).2.2.1)
    (fun j => by rw [after0_7]; rfl)
  rw [h]

theorem arr8 (c : Dev nD) (a : Fin 8) (k : Fin 2048) :
    (dats m 0 c).arrAt 8 cfg0.N (ix2 a k) = ∑ i : Fin 32, sh8 m c i k := by
  refine Eq.trans ?_ (at8 m c a k 31 last_lt (by omega))
  have h := (dats m 0 c).arrAt_eq_of_after_last 8 ⟨31, last_lt⟩ (by decide +kernel) ((outsAt0 m c 31 last_lt).2.2.2)
    (fun j => by rw [after0_8]; rfl)
  rw [h]

end Cert.KernelIdeal.Block
-- ==== Proof.Ref.lean ====
/- What the reference computes at real arguments, coordinate by coordinate. -/
module

public import proofs.«01_k».proof.Proof.RealSpec
public import proofs.«01_k».proof.Proof.Gen.ReferenceIdeal.Read

@[expose] public section

set_option maxRecDepth 16384

noncomputable section

namespace Cert.ReferenceIdeal.Real

open Cert.ReferenceIdeal Cert.ReferenceIdeal.Gen Cert.ReferenceIdeal.Read Idealize.ShloMosaic Idealize.ShloMosaic.TcCoe
open Cert.KernelIdeal.Block (lo hi grp fea)
open Cert.Spec

variable {x0 : Vec Ideal S4096x4096 .f32} {x1 : Vec Ideal S4096x2048 .bf16} {x2 : Vec Ideal S2048 .f32} {x3 : Vec Ideal S16x128x128 .f32}
  {x4 : Vec Ideal S16x128 .f32}
  {Z : Fin 4096 → Fin 4096 → ℝ} {D : Fin 4096 → Fin 2048 → ℝ} {g : Fin 2048 → ℝ} {w : Fin 16 → Fin 128 → Fin 128 → ℝ}
  {b : Fin 16 → Fin 128 → ℝ}
  (h0 : ∀ i j, x0 (ix2 i j) = ((Z i j : ℝ) : EReal)) (h1 : ∀ i k, x1 (ix2 i k) = ((D i k : ℝ) : EReal))
  (h2 : ∀ k, x2 (ix1 k) = ((g k : ℝ) : EReal)) (h3 : ∀ a p q, x3 (ix3 a p q) = ((w a p q : ℝ) : EReal))
  (h4 : ∀ a p, x4 (ix2 a p) = ((b a p : ℝ) : EReal))

theorem lit_8943 : Ideal.ofBits .f32 0x460BBC00#32 = ((8943 : ℝ) : EReal) := by
  simp [Ideal.ofBits, Ideal.ieee, -EReal.coe_mul]; norm_num

theorem lit_200000 : Ideal.ofBits .f32 0x48435000#32 = ((200000 : ℝ) : EReal) := by
  simp [Ideal.ofBits, Ideal.ieee, -EReal.coe_mul]; norm_num

theorem v6 (y : S4096x4096.Idx) : val_main_v6 (F := Ideal) y = ((8943 / 200000 : ℝ) : EReal) := by
  unfold val_main_v6 val_main_v0 val_main_cst val_main_cst_0
  pointwise [lit_8943, lit_200000]
  exact div_pos_coe _ _ (by norm_num)

include h0 in
theorem v11 (i j : Fin 4096) : val_main_v11 (F := Ideal) x0 (ix2 i j) = ((Real.tanh (arg (Z i j)) : ℝ) : EReal) := by
  unfold val_main_v11 val_main_v10 val_main_v9 val_main_cst_2 val_main_v8 val_main_v7 val_main_v2 val_main_v1
  pointwise [lit_C0, v6, h0]
  rw [← Ideal.tanh_coe]; unfold arg
  norm_cast
  ring_nf

include h0 in
theorem v21 (i j : Fin 4096) : val_main_v21 (F := Ideal) x0 (ix2 i j) = ((gel (Z i j) : ℝ) : EReal) := by
  unfold val_main_v21 val_main_v20 val_main_v19 val_main_cst_6 val_main_v18 val_main_v17 val_main_cst_5
  pointwise [lit_half, v11 h0, h0, Ideal.ofBits_one_f32]
  unfold gel
  rw [one_coe]
  norm_cast
  ring_nf

include h0 in
theorem v22 (i : Fin 4096) (k : Fin 2048) : val_main_v22 (F := Ideal) x0 (ix2 i k) = ((gel (Z i (lo k)) : ℝ) : EReal) := by
  unfold val_main_v22
  pointwise [v21 h0]

include h0 in
theorem v23 (n : Fin 32) (p : Fin 128) (k : Fin 2048) :
    val_main_v23 (F := Ideal) x0 (ix2 (row n p) k) = ((vR (fun p => Z (row n p)) p k : ℝ) : EReal) := by
  unfold val_main_v23
  pointwise [v21 h0]
  rfl

include h0 in
theorem v30 (n : Fin 32) (p : Fin 128) (e : Fin 1) :
    val_main_v30 (F := Ideal) x0 (ix2 (row n p) e) = ((msR (fun p => Z (row n p)) p : ℝ) : EReal) := by
  unfold val_main_v30 val_main_v29 val_main_cst_9 val_main_v28 val_main_v27 val_main_cst_8 val_main_v26 val_main_v25 val_main_cst_7 val_main_v24
  pointwise [v23 h0, lit_EP, lit_2048, Ideal.ofBits_zero_f32]
  simp only [← EReal.coe_mul, sum_coe, zero_add]
  rw [div_2048, ← EReal.coe_add]
  rfl

include h0 in
theorem v31 (n : Fin 32) (p : Fin 128) (e : Fin 1) :
    val_main_v31 (F := Ideal) x0 (ix2 (row n p) e) = ((rR (fun p => Z (row n p)) p : ℝ) : EReal) := by
  unfold val_main_v31
  pointwise [v30 h0]
  exact rsqrt_pos _ (msR_pos _ p)

include h0 in
theorem v34 (n : Fin 32) (p : Fin 128) (e : Fin 1) :
    val_main_v34 (F := Ideal) x0 (ix2 (row n p) e)
      = ((-(1 / 2) * (rR (fun p => Z (row n p)) p / msR (fun p => Z (row n p)) p) : ℝ) : EReal) := by
  unfold val_main_v34 val_main_v33 val_main_cst_10 val_main_v32
  pointwise [v30 h0, v31 h0, lit_neg_half]
  rw [div_pos_coe _ _ (msR_pos _ p), ← EReal.coe_mul]

include h0 in
theorem v36 (n : Fin 32) (p : Fin 128) (k : Fin 2048) :
    val_main_v36 (F := Ideal) x0 (ix2 (row n p) k) = ((vhR (fun p => Z (row n p)) p k : ℝ) : EReal) := by
  unfold val_main_v36 val_main_v35
  pointwise [v23 h0, v31 h0]
  rw [← EReal.coe_mul]; rfl

include h0 h2 in
theorem v39 (n : Fin 32) (p : Fin 128) (k : Fin 2048) :
    val_main_v39 (F := Ideal) x0 x2 (ix2 (row n p) k) = ((vnR (fun p => Z (row n p)) g p k : ℝ) : EReal) := by
  unfold val_main_v39 val_main_v38 val_main_v37
  pointwise [v36 h0, h2]
  rw [← EReal.coe_mul]; rfl

/-- The place of a feature in its group. -/
def cm (k : Fin 2048) : Fin 128 := ⟨k.val % 128, by omega⟩

theorem fea_grp_cm (k : Fin 2048) : fea (grp k) (cm k) = k := Fin.ext (by show 128 * (k.val / 128) + k.val % 128 = k.val; omega)

theorem grp_fea (a : Fin 16) (c : Fin 128) : grp (fea a c) = a := Fin.ext (by show (128 * a.val + c.val) / 128 = a.val; omega)

theorem split_eq (n : Fin 32) (p : Fin 128) (a : Fin 16) (c : Fin 128) : idx_main_v40 (ix4 n p a c) = ix2 (row n p) (fea a c) := by
  funext q
  refine Fin.ext ?_
  match q with
  | ⟨0, _⟩ => show (((n.val * 128 + p.val) * 16 + a.val) * 128 + c.val) / 2048 = 128 * n.val + p.val; omega
  | ⟨1, _⟩ => show (((n.val * 128 + p.val) * 16 + a.val) * 128 + c.val) % 2048 = 128 * a.val + c.val; omega

theorem merge_eq (n : Fin 32) (p : Fin 128) (k : Fin 2048) : idx_main_v52 (ix2 (row n p) k) = ix4 n p (grp k) (cm k) := by
  funext q
  refine Fin.ext ?_
  match q with
  | ⟨0, _⟩ => show ((128 * n.val + p.val) * 2048 + k.val) / 262144 = n.val; omega
  | ⟨1, _⟩ => show ((128 * n.val + p.val) * 2048 + k.val) / 2048 % 128 = p.val; omega
  | ⟨2, _⟩ => show ((128 * n.val + p.val) * 2048 + k.val) / 128 % 16 = k.val / 128; omega
  | ⟨3, _⟩ => show ((128 * n.val + p.val) * 2048 + k.val) % 128 = k.val % 128; omega

include h0 h2 in
theorem v40 (n : Fin 32) (p : Fin 128) (a : Fin 16) (c : Fin 128) :
    val_main_v40 (F := Ideal) x0 x2 (ix4 n p a c) = ((vnR (fun p => Z (row n p)) g p (fea a c) : ℝ) : EReal) := by
  rw [val_main_v40_apply, split_eq, v39 h0 h2]

theorem v42 (p q : Fin 128) : val_main_v42 (F := Ideal) (ix2 p q) = if q ≤ p then ((1 : ℝ) : EReal) else ((0 : ℝ) : EReal) := by
  unfold val_main_v42 val_main_call0_v4 val_main_call0_v2 val_main_call0_v0 val_main_call0_v1 val_main_call0_c val_main_call0_v3 val_main_v41
    val_main_cst_11 val_main_call0_v5 val_main_call0_cst
  pointwise [Ideal.ofBits_one_f32, Ideal.ofBits_zero_f32]
  rw [← one_coe, ← zero_coe]
  rw [show ∀ x : BitVec 32, IntOp.addi x 0#32 = x from fun x => BitVec.add_zero x]
  exact Cert.KernelIdeal.Block.mask_eq p q _ _

include h3 in
theorem v45 (a : Fin 16) (p q : Fin 128) : val_main_v45 (F := Ideal) x3 (ix3 a p q) = ((wR w a p q : ℝ) : EReal) := by
  unfold val_main_v45 val_main_v44 val_main_v43
  pointwise [v42, h3]
  unfold wR
  split_ifs <;> simp

include h0 h2 h3 in
theorem v47 (n : Fin 32) (p : Fin 128) (a : Fin 16) (c : Fin 128) :
    val_main_v47 (F := Ideal) x0 x2 x3 (ix4 n p a c)
      = ((∑ q : Fin 128, wR w a p q * vnR (fun p => Z (row n p)) g q (fea a c) : ℝ) : EReal) := by
  unfold val_main_v47 val_main_v46
  pointwise [v45 h3, v40 h0 h2]
  simp only [← EReal.coe_mul, sum_coe]
  simp only [mul_comm]

include h0 h2 h3 h4 in
theorem v52 (n : Fin 32) (p : Fin 128) (k : Fin 2048) :
    val_main_v52 (F := Ideal) x0 x2 x3 x4 (ix2 (row n p) k) = ((svR (fun p => Z (row n p)) g w b p k : ℝ) : EReal) := by
  rw [val_main_v52_apply, merge_eq]
  unfold val_main_v51 val_main_v50 val_main_v49 val_main_v48
  pointwise [v47 h0 h2 h3, h4]
  rw [← EReal.coe_add, fea_grp_cm]
  rfl

include h0 h1 in
theorem v55 (n : Fin 32) (p : Fin 128) (k : Fin 2048) :
    val_main_v55 (F := Ideal) x0 x1 (ix2 (row n p) k) = ((dsR (fun p => Z (row n p)) (fun p => D (row n p)) p k : ℝ) : EReal) := by
  unfold val_main_v55 val_main_v54
  pointwise [v22 h0, h1]
  rw [← EReal.coe_mul]
  unfold dsR
  rw [mul_comm]

include h0 h1 in
theorem v57 (n : Fin 32) (p : Fin 128) (a : Fin 16) (c : Fin 128) :
    val_main_v57 (F := Ideal) x0 x1 (ix4 n p a c)
      = ((dsR (fun p => Z (row n p)) (fun p => D (row n p)) p (fea a c) : ℝ) : EReal) := by
  rw [val_main_v57_apply, ← v55 h0 h1, ← split_eq]

theorem fiber_outer (h : S32x128x16x128.ReducesTo [0, 3] S128x16) (p : Fin 128) (a : Fin 16) (i : S32x128x16x128.Idx) :
    h.drop i = ix2 p a ↔ ∃ k : Fin 32 × Fin 128, ix4 k.1 p a k.2 = i := by
  constructor
  · intro e
    refine ⟨(i 0, i 3), ?_⟩
    funext q; apply Fin.ext
    match q with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨k, rfl⟩
    funext q; apply Fin.ext
    match q with
    | ⟨0, _⟩ => rfl
    | ⟨1, _⟩ => rfl

theorem reduce_outer (h : S32x128x16x128.ReducesTo [0, 3] S128x16) (v : S32x128x16x128.Idx → EReal) (e : EReal) (p : Fin 128) (a : Fin 16) :
    Ideal.hostReduceAdd h v e (ix2 p a) = e + ∑ n : Fin 32, ∑ c : Fin 128, v (ix4 n p a c) := by
  unfold Ideal.hostReduceAdd
  rw [Finset.sum_filter_eq_sum_of_fiber _ (fun k : Fin 32 × Fin 128 => ix4 k.1 p a k.2)
    (fun _ _ e => Prod.ext (congrFun e 0) (congrFun e 3)) (fiber_outer h p a) v, Fintype.sum_prod_type]

theorem fiber_unit (h : S1x128x16x1.ReducesTo [0, 3] S128x16) (p : Fin 128) (a : Fin 16) (i : S1x128x16x1.Idx) :
    h.drop i = ix2 p a ↔ ∃ k : Fin 1 × Fin 1, ix4 k.1 p a k.2 = i := by
  constructor
  · intro e
    refine ⟨(i 0, i 3), ?_⟩
    funext q; apply Fin.ext
    match q with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨k, rfl⟩
    funext q; apply Fin.ext
    match q with
    | ⟨0, _⟩ => rfl
    | ⟨1, _⟩ => rfl

theorem reduce_unit (h : S1x128x16x1.ReducesTo [0, 3] S128x16) (v : S1x128x16x1.Idx → EReal) (e : EReal) (p : Fin 128) (a : Fin 16) :
    Ideal.hostReduceAdd h v e (ix2 p a) = e + v (ix4 0 p a 0) := by
  unfold Ideal.hostReduceAdd
  rw [Finset.sum_filter_eq_sum_of_fiber _ (fun k : Fin 1 × Fin 1 => ix4 k.1 p a k.2)
    (fun _ _ e => Prod.ext (congrFun e 0) (congrFun e 3)) (fiber_unit h p a) v, Fintype.sum_prod_type]
  simp

include h0 h1 in
theorem v58 (p : Fin 128) (a : Fin 16) :
    val_main_v58 (F := Ideal) x0 x1 (ix2 p a)
      = ((∑ n : Fin 32, ∑ c : Fin 128, dsR (fun p => Z (row n p)) (fun p => D (row n p)) p (fea a c) : ℝ) : EReal) := by
  unfold val_main_v58 val_main_cst_12
  rw [Host.reduceAdd_apply, Ideal.hostReduceAdd_def, reduce_outer]
  pointwise [v57 h0 h1, Ideal.ofBits_zero_f32]
  simp only [sum_coe, zero_add]

include h0 h1 in
theorem v60 (p : Fin 128) (a : Fin 16) :
    val_main_v60 (F := Ideal) x0 x1 (ix2 p a)
      = ((∑ n : Fin 32, ∑ c : Fin 128, dsR (fun p => Z (row n p)) (fun p => D (row n p)) p (fea a c) : ℝ) : EReal) := by
  unfold val_main_v60 val_main_cst_13
  rw [Host.reduceAdd_apply, Ideal.hostReduceAdd_def, reduce_unit, val_main_v59_apply,
    show idx_main_v59 (ix4 0 p a 0) = ix2 p a by
      funext q
      refine Fin.ext ?_
      match q with
      | ⟨0, _⟩ => show (((0 * 128 + p.val) * 16 + a.val) * 1 + 0) / 16 = p.val; omega
      | ⟨1, _⟩ => show (((0 * 128 + p.val) * 16 + a.val) * 1 + 0) % 16 = a.val; omega, v58 h0 h1]
  pointwise [Ideal.ofBits_zero_f32]

include h0 h1 in
theorem v107 (p : Fin 128) (k : Fin 2048) :
    val_main_v107 (F := Ideal) x0 x1 (ix2 p k)
      = ((∑ n : Fin 32, dbR (fun p => Z (row n p)) (fun p => D (row n p)) p k : ℝ) : EReal) := by
  unfold val_main_v107 val_main_v106 val_main_v105 val_main_v61
  pointwise [v60 h0 h1]
  rfl

include h0 h1 h2 in
theorem v67 (a : Fin 16) (p q : Fin 128) :
    val_main_v67 (F := Ideal) x0 x1 x2 (ix3 a p q)
      = ((∑ n : Fin 32, dwR (fun p => Z (row n p)) (fun p => D (row n p)) g a p q : ℝ) : EReal) := by
  unfold val_main_v67 val_main_v66 val_main_v43 val_main_v63 val_main_v62
  pointwise [v57 h0 h1, v40 h0 h2, v42]
  simp only [← EReal.coe_mul, sum_coe]
  unfold dwR
  split_ifs <;> simp [-EReal.coe_mul]

include h0 h1 h3 in
theorem v68 (n : Fin 32) (q : Fin 128) (k : Fin 2048) :
    val_main_v68 (F := Ideal) x0 x1 x3 (ix2 (row n q) k)
      = ((dnR (fun p => Z (row n p)) (fun p => D (row n p)) w q k : ℝ) : EReal) := by
  rw [val_main_v68_apply, show idx_main_v68 (ix2 (row n q) k) = _ from merge_eq n q k]
  unfold val_main_v65 val_main_v64 val_main_v62
  pointwise [v57 h0 h1, v45 h3]
  simp only [← EReal.coe_mul, sum_coe, fea_grp_cm]
  simp only [dnR, mul_comm]

/-- A sum over the rows, block by block. -/
theorem sum_rows (f : Fin 4096 → EReal) : ∑ i : Fin 4096, f i = ∑ n : Fin 32, ∑ p : Fin 128, f (row n p) := by
  rw [Fin.sum_univ_tiles 32 128 (by norm_num)]
  refine Finset.sum_congr rfl fun n _ => Finset.sum_congr rfl fun p _ => congrArg f (Fin.ext ?_)
  show n.val * 128 + p.val = 128 * n.val + p.val
  omega

include h0 h1 h3 in
theorem v108 (e : Fin 8) (k : Fin 2048) :
    val_main_v108 (F := Ideal) x0 x1 x3 (ix2 e k)
      = ((∑ n : Fin 32, dgR (fun p => Z (row n p)) (fun p => D (row n p)) w k : ℝ) : EReal) := by
  unfold val_main_v108 val_main_v74 val_main_cst_15 val_main_v71 val_main_v70 val_main_cst_14 val_main_v69
  pointwise [Ideal.ofBits_zero_f32]
  simp only [Finset.univ_unique, Finset.sum_singleton, sum_rows]
  simp only [v36 h0, v68 h0 h1 h3, ← EReal.coe_mul, sum_coe, zero_add]
  simp only [dgR, mul_comm]

include h0 h1 h2 h3 in
theorem v73 (n : Fin 32) (p : Fin 128) (k : Fin 2048) :
    val_main_v73 (F := Ideal) x0 x1 x2 x3 (ix2 (row n p) k)
      = ((dxR (fun p => Z (row n p)) (fun p => D (row n p)) g w p k : ℝ) : EReal) := by
  unfold val_main_v73 val_main_v72 val_main_v37
  pointwise [v68 h0 h1 h3, h2]
  rw [← EReal.coe_mul]; rfl

include h0 h1 h2 h3 in
theorem v84 (n : Fin 32) (p : Fin 128) (k : Fin 2048) :
    val_main_v84 (F := Ideal) x0 x1 x2 x3 (ix2 (row n p) k)
      = (((∑ k : Fin 2048, vR (fun p => Z (row n p)) p k * dxR (fun p => Z (row n p)) (fun p => D (row n p)) g w p k)
          * (-(1 / 2) * (rR (fun p => Z (row n p)) p / msR (fun p => Z (row n p)) p)) / 2048 : ℝ) : EReal) := by
  unfold val_main_v84 val_main_v83 val_main_cst_18 val_main_v82 val_main_v81 val_main_cst_17 val_main_v80 val_main_v77 val_main_v76 val_main_cst_16
    val_main_v75
  pointwise [v73 h0 h1 h2 h3, v23 h0, v34 h0, lit_2048, Ideal.ofBits_zero_f32]
  simp only [← EReal.coe_mul, sum_coe, zero_add]
  rw [div_2048]
  simp only [Finset.univ_unique, Finset.sum_singleton]

include h0 h1 h2 h3 in
theorem v88 (n : Fin 32) (p : Fin 128) (k : Fin 2048) :
    val_main_v88 (F := Ideal) x0 x1 x2 x3 (ix2 (row n p) k)
      = ((rR (fun p => Z (row n p)) p * (dxR (fun p => Z (row n p)) (fun p => D (row n p)) g w p k
          - vhR (fun p => Z (row n p)) p k * ((∑ k' : Fin 2048, dxR (fun p => Z (row n p)) (fun p => D (row n p)) g w p k'
            * vhR (fun p => Z (row n p)) p k') / 2048)) : ℝ) : EReal) := by
  unfold val_main_v88 val_main_v87 val_main_v86 val_main_v85 val_main_v79 val_main_v78
  pointwise [v73 h0 h1 h2 h3, v23 h0, v84 h0 h1 h2 h3, v31 h0]
  simp only [← EReal.coe_mul, ← EReal.coe_add]
  congr 1
  have hr := rR_sq (fun p => Z (row n p)) p
  have hm := (msR_pos (fun p => Z (row n p)) p).ne'
  have hs : ∑ k' : Fin 2048, dxR (fun p => Z (row n p)) (fun p => D (row n p)) g w p k' * vhR (fun p => Z (row n p)) p k'
      = rR (fun p => Z (row n p)) p * ∑ k : Fin 2048, vR (fun p => Z (row n p)) p k * dxR (fun p => Z (row n p)) (fun p => D (row n p)) g w p k := by
    rw [Finset.mul_sum]
    refine Finset.sum_congr rfl fun k' _ => ?_
    unfold vhR; ring
  rw [hs]
  unfold vhR
  generalize (∑ k : Fin 2048, vR (fun p => Z (row n p)) p k * dxR (fun p => Z (row n p)) (fun p => D (row n p)) g w p k) = S
  generalize rR (fun p => Z (row n p)) p = r at *
  generalize msR (fun p => Z (row n p)) p = t at *
  have hq : r / t = r * r * r := by
    rw [div_eq_iff hm]; linear_combination (-r) * hr
  rw [hq]; ring

include h0 h1 h2 h3 h4 in
theorem v56 (n : Fin 32) (p : Fin 128) (k : Fin 2048) :
    val_main_v56 (F := Ideal) x0 x1 x2 x3 x4 (ix2 (row n p) k)
      = ((D (row n p) k * svR (fun p => Z (row n p)) g w b p k : ℝ) : EReal) := by
  unfold val_main_v56 val_main_v54
  pointwise [v52 h0 h2 h3 h4, h1]
  rw [← EReal.coe_mul]

theorem v91_lo (i : Fin 4096) (k : Fin 2048) :
    val_main_v91 (F := Ideal) x0 x1 x2 x3 x4 (ix2 i (lo k)) = val_main_v56 (F := Ideal) x0 x1 x2 x3 x4 (ix2 i k) := by
  unfold val_main_v91 val_main_v90 val_main_v89 val_main_cst_19 val_main_cst_20
  pointwise [Ideal.ofBits_zero_f32]
  rw [dif_neg (fun h => h.1), zero_add]

theorem v91_hi (i : Fin 4096) (k : Fin 2048) :
    val_main_v91 (F := Ideal) x0 x1 x2 x3 x4 (ix2 i (hi k)) = val_main_v88 (F := Ideal) x0 x1 x2 x3 (ix2 i k) := by
  unfold val_main_v91 val_main_v90 val_main_v89 val_main_cst_19 val_main_cst_20
  pointwise [Ideal.ofBits_zero_f32]

theorem lit_three : Ideal.ofBits .f32 0x40400000#32 = ((3 : ℝ) : EReal) := by
  simp [Ideal.ofBits, Ideal.ieee, -EReal.coe_mul]; norm_num

include h0 in
theorem v104 (i j : Fin 4096) (A : ℝ) (hA : val_main_v91 (F := Ideal) x0 x1 x2 x3 x4 (ix2 i j) = (A : EReal)) :
    val_main_v104 (F := Ideal) x0 x1 x2 x3 x4 (ix2 i j) = ((A * gelD (Z i j) : ℝ) : EReal) := by
  unfold val_main_v104 val_main_v103 val_main_v102 val_main_v101 val_main_v100 val_main_v99 val_main_v98 val_main_v97 val_main_v96 val_main_v95
    val_main_v94 val_main_v93 val_main_v92 val_main_cst_21 val_main_cst_22 val_main_v5 val_main_v4 val_main_v3 val_main_cst_1
    val_main_v16 val_main_v15 val_main_v14 val_main_v13 val_main_v12 val_main_cst_3 val_main_cst_4 val_main_v20 val_main_v19 val_main_v18 val_main_v17
    val_main_cst_5 val_main_cst_6
  have c1 : ∀ y, val_main_v0 (F := Ideal) y = ((8943 / 200000 : ℝ) : EReal) := by
    intro y
    unfold val_main_v0 val_main_cst val_main_cst_0
    pointwise [lit_8943, lit_200000]
    exact div_pos_coe _ _ (by norm_num)
  pointwise [lit_C0, lit_half, lit_three, v11 h0, h0, hA, c1, Ideal.ofBits_one_f32]
  unfold gelD
  rw [one_coe]
  norm_cast
  ring_nf

include h0 h1 h2 h3 h4 in
theorem v104_lo (n : Fin 32) (p : Fin 128) (k : Fin 2048) :
    val_main_v104 (F := Ideal) x0 x1 x2 x3 x4 (ix2 (row n p) (lo k))
      = ((dzuR (fun p => Z (row n p)) (fun p => D (row n p)) g w b p k : ℝ) : EReal) :=
  v104 h0 _ _ _ ((v91_lo _ _).trans (v56 h0 h1 h2 h3 h4 n p k))

include h0 h1 h2 h3 in
theorem v104_hi (n : Fin 32) (p : Fin 128) (k : Fin 2048) :
    val_main_v104 (F := Ideal) x0 x1 x2 x3 x4 (ix2 (row n p) (hi k))
      = ((dzvR (fun p => Z (row n p)) (fun p => D (row n p)) g w p k : ℝ) : EReal) :=
  v104 h0 _ _ _ ((v91_hi _ _).trans (v88 h0 h1 h2 h3 n p k))

end Cert.ReferenceIdeal.Real

end
-- ==== Proof.Match.lean ====
/- The equation between the two programs: at finite arguments the kernel's four result arrays are the reference's. -/
module

public import proofs.«01_k».proof.Defs
public import proofs.«01_k».proof.Proof.Arrays
public import proofs.«01_k».proof.Proof.Ref

@[expose] public section

set_option maxRecDepth 16384

noncomputable section

namespace Cert.Match

open Idealize.ShloMosaic Idealize.ShloMosaic.TcCoe Cert.KernelIdeal Cert.KernelIdeal.Gen Cert.KernelIdeal.Block Cert.Spec
open Cert.ReferenceIdeal.Read Cert.ReferenceIdeal.Real

/-- Every row of the whole array is a row of a block. -/
theorem row_cases (i : Fin 4096) : ∃ (n : Fin 32) (p : Fin 128), i = row n p :=
  ⟨⟨i.val / 128, by omega⟩, ⟨i.val % 128, by omega⟩, Fin.ext (by show i.val = 128 * (i.val / 128) + i.val % 128; omega)⟩

/-- Every column belongs to the left or to the right half. -/
theorem col_cases (j : Fin 4096) : (∃ k : Fin 2048, j = lo k) ∨ ∃ k : Fin 2048, j = hi k := by
  by_cases h : j.val < 2048
  · exact Or.inl ⟨⟨j.val, h⟩, rfl⟩
  · exact Or.inr ⟨⟨j.val - 2048, by omega⟩, Fin.ext (by show j.val = 2048 + (j.val - 2048); omega)⟩

section

variable (m : (ℓ : Loc nD τ sig) → Buf (Elt Ideal) ℓ) (c : Dev nD)

abbrev a0 : Vec Ideal S4096x4096 .f32 := m ((c : Thread nD τ).loc main_arg0)
abbrev a1 : Vec Ideal S4096x2048 .bf16 := m ((c : Thread nD τ).loc main_arg1)
abbrev a2 : Vec Ideal S2048 .f32 := m ((c : Thread nD τ).loc main_arg2)
abbrev a3 : Vec Ideal S16x128x128 .f32 := m ((c : Thread nD τ).loc main_arg3)
abbrev a4 : Vec Ideal S16x128 .f32 := m ((c : Thread nD τ).loc main_arg4)

variable {Z : Fin 4096 → Fin 4096 → ℝ} {D : Fin 4096 → Fin 2048 → ℝ} {g : Fin 2048 → ℝ} {w : Fin 16 → Fin 128 → Fin 128 → ℝ}
  {b : Fin 16 → Fin 128 → ℝ}
  (h0 : ∀ i j, a0 m c (ix2 i j) = ((Z i j : ℝ) : EReal)) (h1 : ∀ i k, a1 m c (ix2 i k) = ((D i k : ℝ) : EReal))
  (h2 : ∀ k, a2 m c (ix1 k) = ((g k : ℝ) : EReal)) (h3 : ∀ a p q, a3 m c (ix3 a p q) = ((w a p q : ℝ) : EReal))
  (h4 : ∀ a p, a4 m c (ix2 a p) = ((b a p : ℝ) : EReal))

include h0 h1 h2 h3 h4 in
theorem eq0 : (dats m 0 c).arrAt 5 cfg0.N = val_main_v104 (F := Ideal) (a0 m c) (a1 m c) (a2 m c) (a3 m c) (a4 m c) := by
  funext y
  obtain ⟨n, p, hp⟩ := row_cases (y 0)
  have hy : y = ix2 (row n p) (y 1) := by rw [← hp]; funext q; match q with | ⟨0, _⟩ => rfl | ⟨1, _⟩ => rfl
  rw [hy]
  have e0 : ∀ p j, iblk m c 0 (tp n) (ix2 p j) = ((Z (row n p) j : ℝ) : EReal) := fun p j => (blk0 m c n p j).trans (h0 _ _)
  have e1 : ∀ p k, iblk m c 1 (tp n) (ix2 p k) = ((D (row n p) k : ℝ) : EReal) := fun p k => (blk1 m c n p k).trans (h1 _ _)
  have e2 : ∀ k, iblk m c 2 (tp n) (ix2 0 k) = ((g k : ℝ) : EReal) := fun k => (blk2 m c n k).trans (h2 _)
  have e3 : ∀ a p q, iblk m c 3 (tp n) (ix3 a p q) = ((w a p q : ℝ) : EReal) := fun a p q => (blk3 m c n a p q).trans (h3 _ _ _)
  have e4 : ∀ p k, iblk m c 4 (tp n) (ix2 p k) = ((b (grp k) p : ℝ) : EReal) := fun p k => (blk4 m c n p k).trans (h4 _ _)
  refine (arr5 m c n p (y 1)).trans ?_
  rcases col_cases (y 1) with ⟨k, hk⟩ | ⟨k, hk⟩
  · rw [hk]
    exact (dzE_coe_lo e0 e1 e2 e3 e4 p k).trans (v104_lo h0 h1 h2 h3 h4 n p k).symm
  · rw [hk]
    exact (dzE_coe_hi e0 e1 e2 e3 p k).trans (v104_hi h0 h1 h2 h3 n p k).symm

include h0 h1 h2 in
theorem eq1 : (dats m 0 c).arrAt 6 cfg0.N = val_main_v67 (F := Ideal) (a0 m c) (a1 m c) (a2 m c) := by
  funext y
  have hy : y = ix3 (y 0) (y 1) (y 2) := by funext q; match q with | ⟨0, _⟩ => rfl | ⟨1, _⟩ => rfl | ⟨2, _⟩ => rfl
  rw [hy]
  refine (arr6 m c (y 0) (y 1) (y 2)).trans (Eq.trans ?_ (v67 h0 h1 h2 (y 0) (y 1) (y 2)).symm)
  refine Eq.trans (α := EReal) (Finset.sum_congr (M := EReal) rfl fun n _ => ?_) (sum_coe _ _)
  exact dwE_coe (fun p j => (blk0 m c n p j).trans (h0 _ _)) (fun p k => (blk1 m c n p k).trans (h1 _ _))
    (fun k => (blk2 m c n k).trans (h2 _)) (y 0) (y 1) (y 2)

include h0 h1 in
theorem eq2 : (dats m 0 c).arrAt 7 cfg0.N = val_main_v107 (F := Ideal) (a0 m c) (a1 m c) := by
  funext y
  have hy : y = ix2 (y 0) (y 1) := by funext q; match q with | ⟨0, _⟩ => rfl | ⟨1, _⟩ => rfl
  rw [hy]
  refine (arr7 m c (y 0) (y 1)).trans (Eq.trans ?_ (v107 h0 h1 (y 0) (y 1)).symm)
  refine Eq.trans (α := EReal) (Finset.sum_congr (M := EReal) rfl fun n _ => ?_) (sum_coe _ _)
  exact dbE_coe (fun p j => (blk0 m c n p j).trans (h0 _ _)) (fun p k => (blk1 m c n p k).trans (h1 _ _)) (y 0) (y 1)

include h0 h1 h3 in
theorem eq3 : (dats m 0 c).arrAt 8 cfg0.N = val_main_v108 (F := Ideal) (a0 m c) (a1 m c) (a3 m c) := by
  funext y
  have hy : y = ix2 (y 0) (y 1) := by funext q; match q with | ⟨0, _⟩ => rfl | ⟨1, _⟩ => rfl
  rw [hy]
  refine (arr8 m c (y 0) (y 1)).trans (Eq.trans ?_ (v108 h0 h1 h3 (y 0) (y 1)).symm)
  refine Eq.trans (α := EReal) (Finset.sum_congr (M := EReal) rfl fun n _ => ?_) (sum_coe _ _)
  exact dgE_coe (fun p j => (blk0 m c n p j).trans (h0 _ _)) (fun p k => (blk1 m c n p k).trans (h1 _ _))
    (fun a p q => (blk3 m c n a p q).trans (h3 _ _ _)) (y 1)

end

/-- The side conditions of the precondition. -/
theorem preFacts : Cert.Pre_finite_inputs.Facts where
  bcast_S_S4096x4096 := by decide
  bitsLt_bf16_f32 := by decide
  bcast_S_S4096x2048 := by decide
  bcast_S_S2048 := by decide
  bcast_S_S16x128x128 := by decide
  bcast_S_S16x128 := by decide

theorem inf_top : Ideal.ofBits .f32 0x7F800000#32 = ⊤ := by simp [Ideal.ofBits, Ideal.ieee]

/-- What a comparison with infinity says of one element. -/
theorem finite_of_cmp {x : EReal} (h : Ideal.cmp .olt (max x (-x)) (Ideal.ofBits .f32 0x7F800000#32) = 1#1) : max x (-x) < ⊤ := by
  rw [inf_top] at h
  unfold Ideal.cmp at h
  by_contra hn
  simp [hn] at h

/-- Finite arguments are arrays of reals. -/
theorem reals (m : (ℓ : Loc nD τ sig) → Buf (Elt Ideal) ℓ) (h : Pre_KernelIdeal_finite_inputs (hPre_finite_inputs := preFacts) m) (c : Dev nD) :
    (∀ i j, a0 m c (ix2 i j) = (((a0 m c (ix2 i j) : EReal).toReal : ℝ) : EReal))
    ∧ (∀ i k, a1 m c (ix2 i k) = (((a1 m c (ix2 i k) : EReal).toReal : ℝ) : EReal))
    ∧ (∀ k, a2 m c (ix1 k) = (((a2 m c (ix1 k) : EReal).toReal : ℝ) : EReal))
    ∧ (∀ a p q, a3 m c (ix3 a p q) = (((a3 m c (ix3 a p q) : EReal).toReal : ℝ) : EReal))
    ∧ (∀ a p, a4 m c (ix2 a p) = (((a4 m c (ix2 a p) : EReal).toReal : ℝ) : EReal)) := by
  obtain ⟨q0, q1, q2, q3, q4⟩ := h c
  refine ⟨fun i j => (coe_of_abs_lt_top (finite_of_cmp ?_)).symm, fun i j => (coe_of_abs_lt_top (finite_of_cmp ?_)).symm,
    fun k => (coe_of_abs_lt_top (finite_of_cmp ?_)).symm, fun a p q => (coe_of_abs_lt_top (finite_of_cmp ?_)).symm,
    fun a p => (coe_of_abs_lt_top (finite_of_cmp ?_)).symm⟩
  · exact congrFun q0 (ix2 i j)
  · exact congrFun q1 (ix2 i j)
  · exact congrFun q2 (ix1 k)
  · exact congrFun q3 (ix3 a p q)
  · exact congrFun q4 (ix2 a p)

end Cert.Match

end
-- ==== Proof.FfnDx.lean ====
/- The claims about a SwiGLU layer's input-gradient call. -/
module

public import proofs.«01_k».proof.Defs
public import proofs.«01_k».proof.Proof.FfnDxValue
public import proofs.«01_k».proof.Proof.FfnDxRef
public import proofs.«01_k».proof.Proof.Match
public import proofs.«01_k».proof.Proof.Gen.Kernel4
public import proofs.«01_k».proof.Proof.Gen.Reference4Ideal.Run

@[expose] public section

set_option maxRecDepth 16384

noncomputable section

namespace Cert.FfnDx

open Idealize.ShloMosaic Idealize.ShloMosaic.TcCoe Idealize.SL.Sem
open Cert.Dx (da_coe db_coe dx_coe dg_coe)
open Cert.Spec (coe_of_abs_lt_top)
open Cert.Match (finite_of_cmp)

theorem preFacts : Cert.Pre_finite_layer.Facts where
  bcast_S_S4096x2048 := by decide
  bcast_S_S2048 := by decide
  bcast_S_S2048x5632 := by decide
  bcast_S_S5632x2048 := by decide

/-- Finite arguments are arrays of reals. -/
theorem reals (m : (ℓ : Loc Cert.Kernel4Ideal.nD Cert.Kernel4Ideal.τ Cert.Kernel4Ideal.sig) → Buf (Elt Ideal) ℓ)
    (h : Cert.Pre_Kernel4Ideal_finite_layer (hPre_finite_layer := preFacts) m) (c : Dev Cert.Kernel4Ideal.nD) :
    (∀ i k, ax m c (ix2 i k) = (((ax m c (ix2 i k) : EReal).toReal : ℝ) : EReal))
    ∧ (∀ k, ag m c (ix1 k) = (((ag m c (ix1 k) : EReal).toReal : ℝ) : EReal))
    ∧ (∀ k l, awg m c (ix2 k l) = (((awg m c (ix2 k l) : EReal).toReal : ℝ) : EReal))
    ∧ (∀ k l, awu m c (ix2 k l) = (((awu m c (ix2 k l) : EReal).toReal : ℝ) : EReal))
    ∧ (∀ l b, awd m c (ix2 l b) = (((awd m c (ix2 l b) : EReal).toReal : ℝ) : EReal))
    ∧ (∀ i b, ady m c (ix2 i b) = (((ady m c (ix2 i b) : EReal).toReal : ℝ) : EReal)) := by
  obtain ⟨q0, q1, q2, q3, q4, q5⟩ := h c
  refine ⟨fun i k => (coe_of_abs_lt_top (finite_of_cmp ?_)).symm, fun k => (coe_of_abs_lt_top (finite_of_cmp ?_)).symm,
    fun k l => (coe_of_abs_lt_top (finite_of_cmp ?_)).symm, fun k l => (coe_of_abs_lt_top (finite_of_cmp ?_)).symm,
    fun l b => (coe_of_abs_lt_top (finite_of_cmp ?_)).symm, fun i b => (coe_of_abs_lt_top (finite_of_cmp ?_)).symm⟩
  · exact congrFun q0 (ix2 i k)
  · exact congrFun q1 (ix1 k)
  · exact congrFun q2 (ix2 k l)
  · exact congrFun q3 (ix2 k l)
  · exact congrFun q4 (ix2 l b)
  · exact congrFun q5 (ix2 i b)

theorem frame_pi : Cert.quiescent_Kernel4Ideal := fun m ρ _ => frame m ρ

theorem frame_pi_pre : Cert.quiescent_Kernel4Ideal_pre_finite_layer (hPre_finite_layer := preFacts) := fun m ρ _ => frame m ρ

set_option maxHeartbeats 4000000 in
/-- The two programs' body tables are the same function, label by label. -/
theorem bodies_eq : Cert.Kernel4.defs₀ (F := Bits) = Cert.Kernel4Ideal.defs₀ (F := Bits) := by
  unfold Cert.Kernel4.defs₀ Cert.Kernel4Ideal.defs₀
  congr 1
  funext l a
  match l, a with
  | 0, (t, s) => rfl

theorem defs_eq : Cert.Kernel4.defs (F := Bits) = Cert.Kernel4Ideal.defs (F := Bits) := by
  unfold Cert.Kernel4.defs Cert.Kernel4Ideal.defs
  exact congrArg (Pipeline.defs (Cert.Kernel4Ideal.pcfgs (F := Bits))) bodies_eq

set_option maxHeartbeats 4000000 in
theorem frame_p : Cert.quiescent_Kernel4 := fun m ρ _ => by
  rw [defs_eq]
  exact frame (F := Bits) m ρ

theorem frame_ri : Cert.quiescent_Reference4Ideal := fun m ρ _ =>
  (θ_run Cert.Reference4Ideal.defs _ _).mono
    (fun r h => ⟨fun c => (h c).2.2.2.2.2, Idealize.ShloMosaic.sem_eq_zero_of_no_sems (by decide) r.2⟩)
    (Cert.Reference4Ideal.Value.run (F := Ideal) m ρ)

theorem frame_ri_pre : Cert.quiescent_Reference4Ideal_pre_finite_layer (hPre_finite_layer := preFacts) := fun m ρ _ => frame_ri m ρ trivial

theorem preserves : Cert.preserves_Kernel4_Kernel4Ideal := trivial

/-- At finite arguments the two programs leave the same five results. -/
theorem algebraic : Cert.algebraic_Kernel4Ideal_Reference4Ideal_pre_finite_layer (hPre_finite_layer := preFacts) := by
  intro m ρ m' ρ' hpre hagree
  refine ⟨_, _, _, _, _, run m ρ, ?_⟩
  refine (θ_run Cert.Reference4Ideal.defs _ _).mono (fun r h c => ?_) (Cert.Reference4Ideal.Value.run (F := Ideal) m' ρ')
  obtain ⟨g0, g1, g2, g3, g4, g5⟩ := hagree c
  obtain ⟨r0, r1, r2, r3, r4, rest⟩ := h c
  obtain ⟨h0, h1, h2, h3, h4, h5⟩ := reals m hpre c
  rw [Cert.Reference4Ideal.Read.val_main_v57_eq, g0, g1, g2, g3, g4, g5] at r0
  rw [Cert.Reference4Ideal.Read.val_main_v60_eq, g0, g1, g2, g3, g4, g5] at r1
  replace r2 := r2.trans (Cert.Reference4Ideal.Read.val_main_v63_eq _ _ _ _ _)
  rw [g0, g1, g2, g4, g5] at r2
  replace r3 := r3.trans (Cert.Reference4Ideal.Read.val_main_v66_eq _)
  rw [g5] at r3
  rw [Cert.Reference4Ideal.Read.val_main_v67_eq, g0, g1, g2, g3, g4, g5] at r4
  refine ⟨r0.trans ?_, r1.trans ?_, r2.trans ?_, r3.trans ?_, r4.trans ?_, rest⟩
  · funext i
    change Cert.Kernel4Ideal.S4096x2048.Idx at i
    idx_vars i
    exact (Cert.Dx.Ref.v57 h0 h1 h2 h3 h4 h5 _ _).trans (dx_coe h0 h1 h2 h3 h4 h5 _ _).symm
  · funext i
    change Cert.Kernel4Ideal.S8x4096x704.Idx at i
    idx_vars i
    exact (Cert.Dx.Ref.v60 h0 h1 h2 h3 h4 h5 _ _ _).trans (da_coe h0 h1 h2 h3 h4 h5 _ _).symm
  · funext i
    change Cert.Kernel4Ideal.S8x4096x704.Idx at i
    idx_vars i
    exact (Cert.Dx.Ref.v63 h0 h1 h2 h4 h5 _ _ _).trans (db_coe h0 h1 h2 h4 h5 _ _).symm
  · funext i
    change Cert.Kernel4Ideal.S4096x2048.Idx at i
    idx_vars i
    exact Cert.Dx.Ref.v66 _ _
  · funext i
    change Cert.Kernel4Ideal.S8x2048.Idx at i
    idx_vars i
    exact (Cert.Dx.Ref.v67 h0 h1 h2 h3 h4 h5 _ _).trans (dg_coe h0 h1 h2 h3 h4 h5 _).symm

end Cert.FfnDx

end
-- ==== Proof.Claims.lean ====
/- The claims, one by one. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Match

@[expose] public section

set_option maxRecDepth 16384

noncomputable section

namespace Cert.Claims

open Idealize.ShloMosaic Idealize.ShloMosaic.TcCoe Idealize.SL.Sem Cert.Match

theorem frame_p : Cert.quiescent_Kernel := fun m ρ _ => Cert.Kernel.Gen.frame m ρ

theorem frame_pi : Cert.quiescent_KernelIdeal := fun m ρ _ => Cert.KernelIdeal.Gen.frame m ρ

theorem frame_pi_pre : Cert.quiescent_KernelIdeal_pre_finite_inputs (hPre_finite_inputs := preFacts) := fun m ρ _ => Cert.KernelIdeal.Gen.frame m ρ

theorem frame_ri : Cert.quiescent_ReferenceIdeal := fun m ρ _ =>
  (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m ρ)

theorem frame_ri_pre : Cert.quiescent_ReferenceIdeal_pre_finite_inputs (hPre_finite_inputs := preFacts) := fun m ρ _ => frame_ri m ρ trivial

theorem preserves : Cert.preserves_Kernel_KernelIdeal :=
  ⟨IdealRules.named_const.statement Cert.KernelIdeal.κ "c1" .f32 0x3D372713#32 _ rfl,
    IdealRules.named_const.statement Cert.KernelIdeal.κ "c3" .f32 0x3E095D4F#32 _ rfl⟩

/-- At finite arguments the two programs leave the same four results. -/
theorem algebraic : Cert.algebraic_KernelIdeal_ReferenceIdeal_pre_finite_inputs (hPre_finite_inputs := preFacts) := by
  intro m ρ m' ρ' hpre hagree
  refine ⟨_, _, _, _, Cert.KernelIdeal.Value.run_blocks (F := Ideal) m ρ, ?_⟩
  refine (θ_run Cert.ReferenceIdeal.defs _ _).mono (fun r h c => ?_) (Cert.ReferenceIdeal.Value.run (F := Ideal) m' ρ')
  obtain ⟨g0, g1, g2, g3, g4⟩ := hagree c
  obtain ⟨r0, r1, r2, r3, rest⟩ := h c
  obtain ⟨h0, h1, h2, h3, h4⟩ := reals m hpre c
  rw [Cert.ReferenceIdeal.Read.val_main_v104_eq] at r0
  rw [Cert.ReferenceIdeal.Read.val_main_v67_eq] at r1
  replace r2 := r2.trans (Cert.ReferenceIdeal.Read.val_main_v107_eq _ _)
  rw [Cert.ReferenceIdeal.Read.val_main_v108_eq] at r3
  rw [g0, g1, g2, g3, g4] at r0
  rw [g0, g1, g2] at r1
  rw [g0, g1] at r2
  rw [g0, g1, g3] at r3
  exact ⟨r0.trans (eq0 m c h0 h1 h2 h3 h4).symm, r1.trans (eq1 m c h0 h1 h2).symm, r2.trans (eq2 m c h0 h1).symm,
    r3.trans (eq3 m c h0 h1 h3).symm, rest⟩

end Cert.Claims

end
-- ==== Proof.WgradOut.lean ====
/- The weight gradient of a mixer's output projection: each point adds one block row's product, and the last of four writes the sum. -/
module

public import proofs.«01_k».proof.Defs
public import proofs.«01_k».proof.Proof.Gen.Kernel5.Frame
public import proofs.«01_k».proof.Proof.Gen.Kernel5Ideal.Value
public import proofs.«01_k».proof.Proof.Gen.Reference5Ideal.Read
public import Idealize.ShloMosaic.Lib.Pipeline.ReadBack
public import Idealize.ShloMosaic.Lib.Pointwise
public import Idealize.ShloMosaic.Lib.Pipeline.ValueKit.Geometry
public import Idealize.ShloMosaic.Lib.Pipeline.ValueKit.Point
public import Idealize.ShloMosaic.Lib.Claim

@[expose] public section

set_option maxRecDepth 16384

noncomputable section

namespace Cert.Kernel5Ideal.Block

open Cert.Kernel5Ideal Cert.Kernel5Ideal.Gen Idealize.ShloMosaic Idealize.ShloMosaic.TcCoe Idealize.SL.Sem

/-- A block row's product at a place. -/
def part (x0 : Vec Ideal S1024x256 .bf16) (x1 : Vec Ideal S1024x2048 .f32) (a : Fin 256) (b : Fin 2048) : EReal :=
  ∑ k : Fin 1024, x0 (ix2 k a) * x1 (ix2 k b)

theorem pay2_apply (v : Vec Ideal S256x2048 .f32) (x0 : Vec Ideal S1024x256 .bf16) (x1 : Vec Ideal S1024x2048 .f32) (a : Fin 256) (b : Fin 2048) :
    k0_pay2 v x0 x1 (ix2 a b) = v (ix2 a b) + part x0 x1 a b := by
  unfold k0_pay2
  pointwise
  rfl

theorem pay1_apply (y : S256x2048.Idx) : k0_pay1 (F := Ideal) y = 0 := by
  idx_vars y
  unfold k0_pay1
  pointwise

theorem pay3_apply (v : Vec Ideal S256x2048 .f32) (a : Fin 256) (b : Fin 2048) : k0_pay3 v (ix3 0 a b) = v (ix2 a b) := by
  unfold k0_pay3
  pointwise

variable (m : (ℓ : Loc nD τ sig) → Buf (Elt Ideal) ℓ)

/-- The grid point of a block column and a block row. -/
abbrev tp (j : Fin 8) (r : Fin 4) : Fin cfg0.N := Fin.cast N_0.symm ⟨4 * j.val + r.val, by omega⟩

theorem idx_in : ∀ (j : Fin 8) (r : Fin 4), win0_0.index (tp j r) = ![r.val, j.val] ∧ win0_1.index (tp j r) = ![r.val, 0] := by
  decide +kernel

/-- A row of the whole arrays from its block row and its place. -/
abbrev row (r : Fin 4) (k : Fin 1024) : Fin 4096 := ⟨r.val * 1024 + k.val, by omega⟩

/-- A column of the left operand from its block and its place. -/
abbrev col (j : Fin 8) (a : Fin 256) : Fin 2048 := ⟨j.val * 256 + a.val, by omega⟩

theorem blk0 (c : Dev nD) (j : Fin 8) (r : Fin 4) (k : Fin 1024) (a : Fin 256) :
    iblk m c 0 (tp j r) (ix2 k a) = m ((c : Thread nD τ).loc main_arg0) (ix2 (row r k) (col j a)) := by
  blk_ext [iblk, V, idx_in j r]

theorem blk1 (c : Dev nD) (j : Fin 8) (r : Fin 4) (k : Fin 1024) (b : Fin 2048) :
    iblk m c 1 (tp j r) (ix2 k b) = m ((c : Thread nD τ).loc main_arg1) (ix2 (row r k) b) := by
  blk_ext [iblk, V, idx_in j r]

/-- What the scratch holds at a point that is not the last of its four: the products so far. -/
theorem scr (c : Dev nD) (j : Fin 8) (r : ℕ) (h : 4 * j.val + r < cfg0.N) (hr : r < 3) (a : Fin 256) (b : Fin 2048) :
    (outsAt0 m c (4 * j.val + r) h).2 (ix2 a b)
      = ∑ q : Fin (r + 1), part (iblk m c 0 (tp j ⟨q.val, by omega⟩)) (iblk m c 1 (tp j ⟨q.val, by omega⟩)) a b := by
  induction r with
  | zero =>
    rw [Fin.sum_univ_one]
    have e := outsAt0_A m c ⟨4 * j.val + 0, h⟩ (by dsimp only; omega) (by dsimp only; omega)
    dsimp only at e
    rw [e]
    frame_out
    rw [pay2_apply, pay1_apply, zero_add]
    rfl
  | succ r ih =>
    rw [Fin.sum_univ_castSucc]
    have e := outsAt0_B m c ⟨4 * j.val + (r + 1), h⟩ (by dsimp only; omega) (by dsimp only; omega)
    dsimp only at e
    rw [e]
    frame_out
    rw [pay2_apply, Memref.IsWhole.read_unread (m := scM0_0)]
    exact congrArg₂ (· + ·) (ih (by omega) (by omega)) rfl

/-- What the last of four points writes. -/
theorem fin (c : Dev nD) (j : Fin 8) (h : 4 * j.val + 3 < cfg0.N) (a : Fin 256) (b : Fin 2048) :
    (outsAt0 m c (4 * j.val + 3) h).1 (ix3 0 a b)
      = ∑ q : Fin 4, part (iblk m c 0 (tp j q)) (iblk m c 1 (tp j q)) a b := by
  rw [Fin.sum_univ_castSucc]
  have e := outsAt0_C m c ⟨4 * j.val + 3, h⟩ (by dsimp only; omega) (by dsimp only; omega)
  dsimp only at e
  rw [e]
  frame_out
  rw [pay3_apply, pay2_apply, Memref.IsWhole.read_unread (m := scM0_0)]
  exact congrArg₂ (· + ·) (scr m c j 2 (by omega) (by omega) a b) rfl

/-- The gradient of a product in its weights, at a place of a block. -/
def grad (x0 : Vec Ideal S4096x2048 .bf16) (x1 : Vec Ideal S4096x2048 .f32) (j : Fin 8) (a : Fin 256) (b : Fin 2048) : EReal :=
  ∑ k : Fin 4096, x0 (ix2 k (col j a)) * x1 (ix2 k b)

/-- The result array at a place of a block. -/
theorem arr (c : Dev nD) (j : Fin 8) (a : Fin 256) (b : Fin 2048) :
    Value.G2 m c (ix3 j a b) = grad (m ((c : Thread nD τ).loc main_arg0)) (m ((c : Thread nD τ).loc main_arg1)) j a b := by
  have hlt : 4 * j.val + 3 < cfg0.N := lt_of_lt_of_eq (by omega) N_0.symm
  have hp : Value.pt2Of (ix3 j a b) = 4 * j.val + 3 := by
    show 4 * (1 * (j.val / 1 - 0) + 1 * (a.val / 256 - 0) + 1 * (b.val / 2048 - 0)) + 3 = _
    omega
  have hl : Value.loc2Of (ix3 j a b) = ix3 0 a b := by
    funext x; apply Fin.ext
    match x with
    | ⟨0, _⟩ => show j.val % 1 = 0; omega
    | ⟨1, _⟩ => show a.val % 256 = a.val; omega
    | ⟨2, _⟩ => show b.val % 2048 = b.val; omega
  have hlt' : 0 + (4 * j.val + 3) < cfg0.N := by rw [Nat.zero_add]; exact hlt
  have e : Value.G2 m c (ix3 j a b) = (outsAt0 m c (4 * j.val + 3) hlt).1 (ix3 0 a b) := by
    rw [Value.outsAt0_sweep m c _ hlt, ← hl]
    refine (dif_pos (show Value.pt2Of (ix3 j a b) < cfg0.N from lt_of_eq_of_lt hp hlt)).trans ?_
    rw [Value.fold0_congr m c _ _ (4 * j.val + 3) hlt' hp]
  rw [e, fin]
  unfold grad
  refine Eq.trans ?_ (Fin.sum_univ_tiles (M := EReal) (N := 4096) 4 1024 (by norm_num) _).symm
  refine Finset.sum_congr (M := EReal) rfl fun r _ => ?_
  unfold part
  refine Finset.sum_congr (M := EReal) rfl fun k _ => ?_
  exact congrArg₂ (α := EReal) (β := EReal) (· * ·) (blk0 m c j r k a) (blk1 m c j r k b)

/-- The reference's result at a place of a block. -/
theorem ref (x0 : Vec Ideal S4096x2048 .bf16) (x1 : Vec Ideal S4096x2048 .f32) (j : Fin 8) (a : Fin 256) (b : Fin 2048) :
    Cert.Reference5Ideal.Read.val_main_v4 (F := Ideal) x0 x1 (ix3 j a b) = grad x0 x1 j a b := by
  rw [Cert.Reference5Ideal.Read.val_main_v4_apply, Cert.Reference5Ideal.Read.val_main_v3_apply, Cert.Reference5Ideal.Read.val_main_v2_apply,
    Cert.Reference5Ideal.Read.val_main_v1_apply]
  show ∑ k : Fin 4096, _ = _
  unfold grad
  refine Finset.sum_congr rfl fun k _ => ?_
  rw [mul_comm]
  refine congrArg₂ (· * ·) (congrArg x0 ?_) (congrArg x1 ?_)
  · funext q; refine Fin.ext ?_
    match q with
    | ⟨0, _⟩ => rfl
    | ⟨1, _⟩ => show ((j.val * 256 + a.val) * 2048 + b.val) / 2048 = j.val * 256 + a.val; omega
  · funext q; refine Fin.ext ?_
    match q with
    | ⟨0, _⟩ => rfl
    | ⟨1, _⟩ => show ((j.val * 256 + a.val) * 2048 + b.val) % 2048 = b.val; omega

end Cert.Kernel5Ideal.Block

namespace Cert.WgradOut

open Idealize.ShloMosaic Idealize.ShloMosaic.TcCoe Idealize.SL.Sem

theorem frame_p : Cert.quiescent_Kernel5 := fun m ρ _ => Cert.Kernel5.Gen.frame m ρ

theorem frame_pi : Cert.quiescent_Kernel5Ideal := fun m ρ _ => Cert.Kernel5Ideal.Gen.frame m ρ

theorem frame_ri : Cert.quiescent_Reference5Ideal := fun m ρ _ =>
  (θ_run Cert.Reference5Ideal.defs _ _).mono
    (fun r h => ⟨fun c => (h c).2, Idealize.ShloMosaic.sem_eq_zero_of_no_sems (by decide) r.2⟩)
    (Cert.Reference5Ideal.Value.run (F := Ideal) m ρ)

theorem preserves : Cert.preserves_Kernel5_Kernel5Ideal := trivial

/-- The two programs leave the same weight gradient. -/
theorem algebraic : Cert.algebraic_Kernel5Ideal_Reference5Ideal := by
  intro m ρ m' ρ' hpre hagree
  refine ⟨_, Cert.Kernel5Ideal.Value.run (F := Ideal) m ρ, ?_⟩
  refine (θ_run Cert.Reference5Ideal.defs _ _).mono (fun r h c => ?_) (Cert.Reference5Ideal.Value.run (F := Ideal) m' ρ')
  obtain ⟨g0, g1⟩ := hagree c
  obtain ⟨r0, rest⟩ := h c
  rw [Cert.Reference5Ideal.Read.val_main_v4_eq, g0, g1] at r0
  refine ⟨r0.trans ?_, rest⟩
  funext i
  change Cert.Kernel5Ideal.S8x256x2048.Idx at i
  idx_vars i
  exact (Cert.Kernel5Ideal.Block.ref _ _ _ _ _).trans (Cert.Kernel5Ideal.Block.arr m c _ _ _).symm

end Cert.WgradOut
-- ==== Proof.WgradGmlp.lean ====
/- The weight gradient of the gMLP's input projection: each point adds one block row's product, and the last of four writes the sum. -/
module

public import proofs.«01_k».proof.Defs
public import proofs.«01_k».proof.Proof.Gen.Kernel6.Frame
public import proofs.«01_k».proof.Proof.Gen.Kernel6Ideal.Value
public import proofs.«01_k».proof.Proof.Gen.Reference6Ideal.Read
public import Idealize.ShloMosaic.Lib.Pipeline.ReadBack
public import Idealize.ShloMosaic.Lib.Pointwise
public import Idealize.ShloMosaic.Lib.Pipeline.ValueKit.Geometry
public import Idealize.ShloMosaic.Lib.Pipeline.ValueKit.Point
public import Idealize.ShloMosaic.Lib.Claim

@[expose] public section

set_option maxRecDepth 16384

noncomputable section

namespace Cert.Kernel6Ideal.Block

open Cert.Kernel6Ideal Cert.Kernel6Ideal.Gen Idealize.ShloMosaic Idealize.ShloMosaic.TcCoe Idealize.SL.Sem

/-- A block row's product at a place. -/
def part (x0 : Vec Ideal S1024x2048 .bf16) (x1 : Vec Ideal S1024x512 .bf16) (a : Fin 2048) (b : Fin 512) : EReal :=
  ∑ k : Fin 1024, x0 (ix2 k a) * x1 (ix2 k b)

theorem pay2_apply (v : Vec Ideal S2048x512 .f32) (x0 : Vec Ideal S1024x2048 .bf16) (x1 : Vec Ideal S1024x512 .bf16) (a : Fin 2048) (b : Fin 512) :
    k0_pay2 v x0 x1 (ix2 a b) = v (ix2 a b) + part x0 x1 a b := by
  unfold k0_pay2
  pointwise
  rfl

theorem pay1_apply (y : S2048x512.Idx) : k0_pay1 (F := Ideal) y = 0 := by
  idx_vars y
  unfold k0_pay1
  pointwise

theorem pay3_apply (v : Vec Ideal S2048x512 .f32) (a : Fin 2048) (b : Fin 512) : k0_pay3 v (ix3 0 a b) = v (ix2 a b) := by
  unfold k0_pay3
  pointwise

variable (m : (ℓ : Loc nD τ sig) → Buf (Elt Ideal) ℓ)

/-- The grid point of a block column and a block row. -/
abbrev tp (j : Fin 8) (r : Fin 4) : Fin cfg0.N := Fin.cast N_0.symm ⟨4 * j.val + r.val, by omega⟩

theorem idx_in : ∀ (j : Fin 8) (r : Fin 4), win0_0.index (tp j r) = ![r.val, 0] ∧ win0_1.index (tp j r) = ![r.val, j.val] := by
  decide +kernel

/-- A row of the whole arrays from its block row and its place. -/
abbrev row (r : Fin 4) (k : Fin 1024) : Fin 4096 := ⟨r.val * 1024 + k.val, by omega⟩

/-- A column of the right operand from its block and its place. -/
abbrev col (j : Fin 8) (b : Fin 512) : Fin 4096 := ⟨j.val * 512 + b.val, by omega⟩

theorem blk0 (c : Dev nD) (j : Fin 8) (r : Fin 4) (k : Fin 1024) (a : Fin 2048) :
    iblk m c 0 (tp j r) (ix2 k a) = m ((c : Thread nD τ).loc main_arg0) (ix2 (row r k) a) := by
  blk_ext [iblk, V, idx_in j r]

theorem blk1 (c : Dev nD) (j : Fin 8) (r : Fin 4) (k : Fin 1024) (b : Fin 512) :
    iblk m c 1 (tp j r) (ix2 k b) = m ((c : Thread nD τ).loc main_arg1) (ix2 (row r k) (col j b)) := by
  blk_ext [iblk, V, idx_in j r]

/-- What the scratch holds at a point that is not the last of its four: the products so far. -/
theorem scr (c : Dev nD) (j : Fin 8) (r : ℕ) (h : 4 * j.val + r < cfg0.N) (hr : r < 3) (a : Fin 2048) (b : Fin 512) :
    (outsAt0 m c (4 * j.val + r) h).2 (ix2 a b)
      = ∑ q : Fin (r + 1), part (iblk m c 0 (tp j ⟨q.val, by omega⟩)) (iblk m c 1 (tp j ⟨q.val, by omega⟩)) a b := by
  induction r with
  | zero =>
    rw [Fin.sum_univ_one]
    have e := outsAt0_A m c ⟨4 * j.val + 0, h⟩ (by dsimp only; omega) (by dsimp only; omega)
    dsimp only at e
    rw [e]
    frame_out
    rw [pay2_apply, pay1_apply, zero_add]
    rfl
  | succ r ih =>
    rw [Fin.sum_univ_castSucc]
    have e := outsAt0_B m c ⟨4 * j.val + (r + 1), h⟩ (by dsimp only; omega) (by dsimp only; omega)
    dsimp only at e
    rw [e]
    frame_out
    rw [pay2_apply, Memref.IsWhole.read_unread (m := scM0_0)]
    exact congrArg₂ (· + ·) (ih (by omega) (by omega)) rfl

/-- What the last of four points writes. -/
theorem fin (c : Dev nD) (j : Fin 8) (h : 4 * j.val + 3 < cfg0.N) (a : Fin 2048) (b : Fin 512) :
    (outsAt0 m c (4 * j.val + 3) h).1 (ix3 0 a b)
      = ∑ q : Fin 4, part (iblk m c 0 (tp j q)) (iblk m c 1 (tp j q)) a b := by
  rw [Fin.sum_univ_castSucc]
  have e := outsAt0_C m c ⟨4 * j.val + 3, h⟩ (by dsimp only; omega) (by dsimp only; omega)
  dsimp only at e
  rw [e]
  frame_out
  rw [pay3_apply, pay2_apply, Memref.IsWhole.read_unread (m := scM0_0)]
  exact congrArg₂ (· + ·) (scr m c j 2 (by omega) (by omega) a b) rfl

/-- The gradient of a product in its weights, at a place of a block. -/
def grad (x0 : Vec Ideal S4096x2048 .bf16) (x1 : Vec Ideal S4096x4096 .bf16) (j : Fin 8) (a : Fin 2048) (b : Fin 512) : EReal :=
  ∑ k : Fin 4096, x0 (ix2 k a) * x1 (ix2 k (col j b))

/-- The result array at a place of a block. -/
theorem arr (c : Dev nD) (j : Fin 8) (a : Fin 2048) (b : Fin 512) :
    Value.G2 m c (ix3 j a b) = grad (m ((c : Thread nD τ).loc main_arg0)) (m ((c : Thread nD τ).loc main_arg1)) j a b := by
  have hlt : 4 * j.val + 3 < cfg0.N := lt_of_lt_of_eq (by omega) N_0.symm
  have hp : Value.pt2Of (ix3 j a b) = 4 * j.val + 3 := by
    show 4 * (1 * (j.val / 1 - 0) + 1 * (a.val / 2048 - 0) + 1 * (b.val / 512 - 0)) + 3 = _
    omega
  have hl : Value.loc2Of (ix3 j a b) = ix3 0 a b := by
    funext x; apply Fin.ext
    match x with
    | ⟨0, _⟩ => show j.val % 1 = 0; omega
    | ⟨1, _⟩ => show a.val % 2048 = a.val; omega
    | ⟨2, _⟩ => show b.val % 512 = b.val; omega
  have hlt' : 0 + (4 * j.val + 3) < cfg0.N := by rw [Nat.zero_add]; exact hlt
  have e : Value.G2 m c (ix3 j a b) = (outsAt0 m c (4 * j.val + 3) hlt).1 (ix3 0 a b) := by
    rw [Value.outsAt0_sweep m c _ hlt, ← hl]
    refine (dif_pos (show Value.pt2Of (ix3 j a b) < cfg0.N from lt_of_eq_of_lt hp hlt)).trans ?_
    rw [Value.fold0_congr m c _ _ (4 * j.val + 3) hlt' hp]
  rw [e, fin]
  unfold grad
  refine Eq.trans ?_ (Fin.sum_univ_tiles (M := EReal) (N := 4096) 4 1024 (by norm_num) _).symm
  refine Finset.sum_congr (M := EReal) rfl fun r _ => ?_
  unfold part
  refine Finset.sum_congr (M := EReal) rfl fun k _ => ?_
  exact congrArg₂ (α := EReal) (β := EReal) (· * ·) (blk0 m c j r k a) (blk1 m c j r k b)

/-- The reference's result at a place of a block. -/
theorem ref (x0 : Vec Ideal S4096x2048 .bf16) (x1 : Vec Ideal S4096x4096 .bf16) (j : Fin 8) (a : Fin 2048) (b : Fin 512) :
    Cert.Reference6Ideal.Read.val_main_v6 (F := Ideal) x0 x1 (ix3 j a b) = grad x0 x1 j a b := by
  rw [Cert.Reference6Ideal.Read.val_main_v6_apply, Cert.Reference6Ideal.Read.val_main_v5_apply, Cert.Reference6Ideal.Read.val_main_v4_apply,
    Cert.Reference6Ideal.Read.val_main_v3_apply, Cert.Reference6Ideal.Read.val_main_v2_apply]
  show ∑ k : Fin 4096, _ = _
  unfold grad
  refine Finset.sum_congr rfl fun k _ => ?_
  rw [mul_comm]
  refine congrArg₂ (· * ·) (congrArg x0 ?_) (congrArg x1 ?_)
  · funext q; refine Fin.ext ?_
    match q with
    | ⟨0, _⟩ => rfl
    | ⟨1, _⟩ => show ((a.val * 8 + j.val) * 512 + b.val) / 4096 = a.val; omega
  · funext q; refine Fin.ext ?_
    match q with
    | ⟨0, _⟩ => rfl
    | ⟨1, _⟩ => show ((a.val * 8 + j.val) * 512 + b.val) % 4096 = j.val * 512 + b.val; omega

end Cert.Kernel6Ideal.Block

namespace Cert.WgradGmlp

open Idealize.ShloMosaic Idealize.ShloMosaic.TcCoe Idealize.SL.Sem

theorem frame_p : Cert.quiescent_Kernel6 := fun m ρ _ => Cert.Kernel6.Gen.frame m ρ

theorem frame_pi : Cert.quiescent_Kernel6Ideal := fun m ρ _ => Cert.Kernel6Ideal.Gen.frame m ρ

theorem frame_ri : Cert.quiescent_Reference6Ideal := fun m ρ _ =>
  (θ_run Cert.Reference6Ideal.defs _ _).mono
    (fun r h => ⟨fun c => (h c).2, Idealize.ShloMosaic.sem_eq_zero_of_no_sems (by decide) r.2⟩)
    (Cert.Reference6Ideal.Value.run (F := Ideal) m ρ)

theorem preserves : Cert.preserves_Kernel6_Kernel6Ideal := trivial

/-- The two programs leave the same weight gradient. -/
theorem algebraic : Cert.algebraic_Kernel6Ideal_Reference6Ideal := by
  intro m ρ m' ρ' hpre hagree
  refine ⟨_, Cert.Kernel6Ideal.Value.run (F := Ideal) m ρ, ?_⟩
  refine (θ_run Cert.Reference6Ideal.defs _ _).mono (fun r h c => ?_) (Cert.Reference6Ideal.Value.run (F := Ideal) m' ρ')
  obtain ⟨g0, g1⟩ := hagree c
  obtain ⟨r0, rest⟩ := h c
  rw [Cert.Reference6Ideal.Read.val_main_v6_eq, g0, g1] at r0
  refine ⟨r0.trans ?_, rest⟩
  funext i
  change Cert.Kernel6Ideal.S8x2048x512.Idx at i
  idx_vars i
  exact (Cert.Kernel6Ideal.Block.ref _ _ _ _ _).trans (Cert.Kernel6Ideal.Block.arr m c _ _ _).symm

end Cert.WgradGmlp
-- ==== Proof.WgradQ.lean ====
/- The weight gradient of the attention's query projection: each point adds one block row's product, and the last of four writes the sum. -/
module

public import proofs.«01_k».proof.Defs
public import proofs.«01_k».proof.Proof.Gen.Kernel7.Frame
public import proofs.«01_k».proof.Proof.Gen.Kernel7Ideal.Value
public import proofs.«01_k».proof.Proof.Gen.Reference7Ideal.Read
public import Idealize.ShloMosaic.Lib.Pipeline.ReadBack
public import Idealize.ShloMosaic.Lib.Pointwise
public import Idealize.ShloMosaic.Lib.Pipeline.ValueKit.Geometry
public import Idealize.ShloMosaic.Lib.Pipeline.ValueKit.Point
public import Idealize.ShloMosaic.Lib.Claim

@[expose] public section

set_option maxRecDepth 16384

noncomputable section

namespace Cert.Kernel7Ideal.Block

open Cert.Kernel7Ideal Cert.Kernel7Ideal.Gen Idealize.ShloMosaic Idealize.ShloMosaic.TcCoe Idealize.SL.Sem

/-- A block row's product at a place. -/
def part (x0 : Vec Ideal S1024x2048 .bf16) (x1 : Vec Ideal S1024x768 .bf16) (a : Fin 2048) (b : Fin 768) : EReal :=
  ∑ k : Fin 1024, x0 (ix2 k a) * x1 (ix2 k b)

theorem pay2_apply (v : Vec Ideal S2048x768 .f32) (x0 : Vec Ideal S1024x2048 .bf16) (x1 : Vec Ideal S1024x768 .bf16) (a : Fin 2048) (b : Fin 768) :
    k0_pay2 v x0 x1 (ix2 a b) = v (ix2 a b) + part x0 x1 a b := by
  unfold k0_pay2
  pointwise
  rfl

theorem pay1_apply (y : S2048x768.Idx) : k0_pay1 (F := Ideal) y = 0 := by
  idx_vars y
  unfold k0_pay1
  pointwise

theorem pay3_apply (v : Vec Ideal S2048x768 .f32) (a : Fin 2048) (b : Fin 768) : k0_pay3 v (ix3 0 a b) = v (ix2 a b) := by
  unfold k0_pay3
  pointwise

variable (m : (ℓ : Loc nD τ sig) → Buf (Elt Ideal) ℓ)

/-- The grid point of a block column and a block row. -/
abbrev tp (j : Fin 8) (r : Fin 4) : Fin cfg0.N := Fin.cast N_0.symm ⟨4 * j.val + r.val, by omega⟩

theorem idx_in : ∀ (j : Fin 8) (r : Fin 4), win0_0.index (tp j r) = ![r.val, 0] ∧ win0_1.index (tp j r) = ![r.val, j.val] := by
  decide +kernel

/-- A row of the whole arrays from its block row and its place. -/
abbrev row (r : Fin 4) (k : Fin 1024) : Fin 4096 := ⟨r.val * 1024 + k.val, by omega⟩

/-- A column of the right operand from its block and its place. -/
abbrev col (j : Fin 8) (b : Fin 768) : Fin 6144 := ⟨j.val * 768 + b.val, by omega⟩

theorem blk0 (c : Dev nD) (j : Fin 8) (r : Fin 4) (k : Fin 1024) (a : Fin 2048) :
    iblk m c 0 (tp j r) (ix2 k a) = m ((c : Thread nD τ).loc main_arg0) (ix2 (row r k) a) := by
  blk_ext [iblk, V, idx_in j r]

theorem blk1 (c : Dev nD) (j : Fin 8) (r : Fin 4) (k : Fin 1024) (b : Fin 768) :
    iblk m c 1 (tp j r) (ix2 k b) = m ((c : Thread nD τ).loc main_arg1) (ix2 (row r k) (col j b)) := by
  blk_ext [iblk, V, idx_in j r]

/-- What the scratch holds at a point that is not the last of its four: the products so far. -/
theorem scr (c : Dev nD) (j : Fin 8) (r : ℕ) (h : 4 * j.val + r < cfg0.N) (hr : r < 3) (a : Fin 2048) (b : Fin 768) :
    (outsAt0 m c (4 * j.val + r) h).2 (ix2 a b)
      = ∑ q : Fin (r + 1), part (iblk m c 0 (tp j ⟨q.val, by omega⟩)) (iblk m c 1 (tp j ⟨q.val, by omega⟩)) a b := by
  induction r with
  | zero =>
    rw [Fin.sum_univ_one]
    have e := outsAt0_A m c ⟨4 * j.val + 0, h⟩ (by dsimp only; omega) (by dsimp only; omega)
    dsimp only at e
    rw [e]
    frame_out
    rw [pay2_apply, pay1_apply, zero_add]
    rfl
  | succ r ih =>
    rw [Fin.sum_univ_castSucc]
    have e := outsAt0_B m c ⟨4 * j.val + (r + 1), h⟩ (by dsimp only; omega) (by dsimp only; omega)
    dsimp only at e
    rw [e]
    frame_out
    rw [pay2_apply, Memref.IsWhole.read_unread (m := scM0_0)]
    exact congrArg₂ (· + ·) (ih (by omega) (by omega)) rfl

/-- What the last of four points writes. -/
theorem fin (c : Dev nD) (j : Fin 8) (h : 4 * j.val + 3 < cfg0.N) (a : Fin 2048) (b : Fin 768) :
    (outsAt0 m c (4 * j.val + 3) h).1 (ix3 0 a b)
      = ∑ q : Fin 4, part (iblk m c 0 (tp j q)) (iblk m c 1 (tp j q)) a b := by
  rw [Fin.sum_univ_castSucc]
  have e := outsAt0_C m c ⟨4 * j.val + 3, h⟩ (by dsimp only; omega) (by dsimp only; omega)
  dsimp only at e
  rw [e]
  frame_out
  rw [pay3_apply, pay2_apply, Memref.IsWhole.read_unread (m := scM0_0)]
  exact congrArg₂ (· + ·) (scr m c j 2 (by omega) (by omega) a b) rfl

/-- The gradient of a product in its weights, at a place of a block. -/
def grad (x0 : Vec Ideal S4096x2048 .bf16) (x1 : Vec Ideal S4096x6144 .bf16) (j : Fin 8) (a : Fin 2048) (b : Fin 768) : EReal :=
  ∑ k : Fin 4096, x0 (ix2 k a) * x1 (ix2 k (col j b))

/-- The result array at a place of a block. -/
theorem arr (c : Dev nD) (j : Fin 8) (a : Fin 2048) (b : Fin 768) :
    Value.G2 m c (ix3 j a b) = grad (m ((c : Thread nD τ).loc main_arg0)) (m ((c : Thread nD τ).loc main_arg1)) j a b := by
  have hlt : 4 * j.val + 3 < cfg0.N := lt_of_lt_of_eq (by omega) N_0.symm
  have hp : Value.pt2Of (ix3 j a b) = 4 * j.val + 3 := by
    show 4 * (1 * (j.val / 1 - 0) + 1 * (a.val / 2048 - 0) + 1 * (b.val / 768 - 0)) + 3 = _
    omega
  have hl : Value.loc2Of (ix3 j a b) = ix3 0 a b := by
    funext x; apply Fin.ext
    match x with
    | ⟨0, _⟩ => show j.val % 1 = 0; omega
    | ⟨1, _⟩ => show a.val % 2048 = a.val; omega
    | ⟨2, _⟩ => show b.val % 768 = b.val; omega
  have hlt' : 0 + (4 * j.val + 3) < cfg0.N := by rw [Nat.zero_add]; exact hlt
  have e : Value.G2 m c (ix3 j a b) = (outsAt0 m c (4 * j.val + 3) hlt).1 (ix3 0 a b) := by
    rw [Value.outsAt0_sweep m c _ hlt, ← hl]
    refine (dif_pos (show Value.pt2Of (ix3 j a b) < cfg0.N from lt_of_eq_of_lt hp hlt)).trans ?_
    rw [Value.fold0_congr m c _ _ (4 * j.val + 3) hlt' hp]
  rw [e, fin]
  unfold grad
  refine Eq.trans ?_ (Fin.sum_univ_tiles (M := EReal) (N := 4096) 4 1024 (by norm_num) _).symm
  refine Finset.sum_congr (M := EReal) rfl fun r _ => ?_
  unfold part
  refine Finset.sum_congr (M := EReal) rfl fun k _ => ?_
  exact congrArg₂ (α := EReal) (β := EReal) (· * ·) (blk0 m c j r k a) (blk1 m c j r k b)

/-- The reference's result at a place of a block. -/
theorem ref (x0 : Vec Ideal S4096x2048 .bf16) (x1 : Vec Ideal S4096x6144 .bf16) (j : Fin 8) (a : Fin 2048) (b : Fin 768) :
    Cert.Reference7Ideal.Read.val_main_v6 (F := Ideal) x0 x1 (ix3 j a b) = grad x0 x1 j a b := by
  rw [Cert.Reference7Ideal.Read.val_main_v6_apply, Cert.Reference7Ideal.Read.val_main_v5_apply, Cert.Reference7Ideal.Read.val_main_v4_apply,
    Cert.Reference7Ideal.Read.val_main_v3_apply, Cert.Reference7Ideal.Read.val_main_v2_apply]
  show ∑ k : Fin 4096, _ = _
  unfold grad
  refine Finset.sum_congr rfl fun k _ => ?_
  rw [mul_comm]
  refine congrArg₂ (· * ·) (congrArg x0 ?_) (congrArg x1 ?_)
  · funext q; refine Fin.ext ?_
    match q with
    | ⟨0, _⟩ => rfl
    | ⟨1, _⟩ => show ((a.val * 8 + j.val) * 768 + b.val) / 6144 = a.val; omega
  · funext q; refine Fin.ext ?_
    match q with
    | ⟨0, _⟩ => rfl
    | ⟨1, _⟩ => show ((a.val * 8 + j.val) * 768 + b.val) % 6144 = j.val * 768 + b.val; omega

end Cert.Kernel7Ideal.Block

namespace Cert.WgradQ

open Idealize.ShloMosaic Idealize.ShloMosaic.TcCoe Idealize.SL.Sem

theorem frame_p : Cert.quiescent_Kernel7 := fun m ρ _ => Cert.Kernel7.Gen.frame m ρ

theorem frame_pi : Cert.quiescent_Kernel7Ideal := fun m ρ _ => Cert.Kernel7Ideal.Gen.frame m ρ

theorem frame_ri : Cert.quiescent_Reference7Ideal := fun m ρ _ =>
  (θ_run Cert.Reference7Ideal.defs _ _).mono
    (fun r h => ⟨fun c => (h c).2, Idealize.ShloMosaic.sem_eq_zero_of_no_sems (by decide) r.2⟩)
    (Cert.Reference7Ideal.Value.run (F := Ideal) m ρ)

theorem preserves : Cert.preserves_Kernel7_Kernel7Ideal := trivial

/-- The two programs leave the same weight gradient. -/
theorem algebraic : Cert.algebraic_Kernel7Ideal_Reference7Ideal := by
  intro m ρ m' ρ' hpre hagree
  refine ⟨_, Cert.Kernel7Ideal.Value.run (F := Ideal) m ρ, ?_⟩
  refine (θ_run Cert.Reference7Ideal.defs _ _).mono (fun r h c => ?_) (Cert.Reference7Ideal.Value.run (F := Ideal) m' ρ')
  obtain ⟨g0, g1⟩ := hagree c
  obtain ⟨r0, rest⟩ := h c
  rw [Cert.Reference7Ideal.Read.val_main_v6_eq, g0, g1] at r0
  refine ⟨r0.trans ?_, rest⟩
  funext i
  change Cert.Kernel7Ideal.S8x2048x768.Idx at i
  idx_vars i
  exact (Cert.Kernel7Ideal.Block.ref _ _ _ _ _).trans (Cert.Kernel7Ideal.Block.arr m c _ _ _).symm

end Cert.WgradQ
-- ==== Proof.WgradKv.lean ====
/- The weight gradient of the shared key and value projection: each point adds one block row's product, and the last of four writes the sum. -/
module

public import proofs.«01_k».proof.Defs
public import proofs.«01_k».proof.Proof.Gen.Kernel8.Frame
public import proofs.«01_k».proof.Proof.Gen.Kernel8Ideal.Value
public import proofs.«01_k».proof.Proof.Gen.Reference8Ideal.Read
public import Idealize.ShloMosaic.Lib.Pipeline.ReadBack
public import Idealize.ShloMosaic.Lib.Pointwise
public import Idealize.ShloMosaic.Lib.Pipeline.ValueKit.Geometry
public import Idealize.ShloMosaic.Lib.Pipeline.ValueKit.Point
public import Idealize.ShloMosaic.Lib.Claim

@[expose] public section

set_option maxRecDepth 16384

noncomputable section

namespace Cert.Kernel8Ideal.Block

open Cert.Kernel8Ideal Cert.Kernel8Ideal.Gen Idealize.ShloMosaic Idealize.ShloMosaic.TcCoe Idealize.SL.Sem

/-- A block row's product at a place. -/
def part (x0 : Vec Ideal S1024x2048 .bf16) (x1 : Vec Ideal S1024x1536 .bf16) (a : Fin 2048) (b : Fin 1536) : EReal :=
  ∑ k : Fin 1024, x0 (ix2 k a) * x1 (ix2 k b)

theorem pay2_apply (v : Vec Ideal S2048x1536 .f32) (x0 : Vec Ideal S1024x2048 .bf16) (x1 : Vec Ideal S1024x1536 .bf16) (a : Fin 2048) (b : Fin 1536) :
    k0_pay2 v x0 x1 (ix2 a b) = v (ix2 a b) + part x0 x1 a b := by
  unfold k0_pay2
  pointwise
  rfl

theorem pay1_apply (y : S2048x1536.Idx) : k0_pay1 (F := Ideal) y = 0 := by
  idx_vars y
  unfold k0_pay1
  pointwise

theorem pay3_apply (v : Vec Ideal S2048x1536 .f32) (a : Fin 2048) (b : Fin 1536) : k0_pay3 v (ix3 0 a b) = v (ix2 a b) := by
  unfold k0_pay3
  pointwise

variable (m : (ℓ : Loc nD τ sig) → Buf (Elt Ideal) ℓ)

/-- The grid point of a block column and a block row. -/
abbrev tp (j : Fin 8) (r : Fin 4) : Fin cfg0.N := Fin.cast N_0.symm ⟨4 * j.val + r.val, by omega⟩

theorem idx_in : ∀ (j : Fin 8) (r : Fin 4), win0_0.index (tp j r) = ![r.val, 0] ∧ win0_1.index (tp j r) = ![r.val, j.val] := by
  decide +kernel

/-- A row of the whole arrays from its block row and its place. -/
abbrev row (r : Fin 4) (k : Fin 1024) : Fin 4096 := ⟨r.val * 1024 + k.val, by omega⟩

/-- A column of the right operand from its block and its place. -/
abbrev col (j : Fin 8) (b : Fin 1536) : Fin 12288 := ⟨j.val * 1536 + b.val, by omega⟩

theorem blk0 (c : Dev nD) (j : Fin 8) (r : Fin 4) (k : Fin 1024) (a : Fin 2048) :
    iblk m c 0 (tp j r) (ix2 k a) = m ((c : Thread nD τ).loc main_arg0) (ix2 (row r k) a) := by
  blk_ext [iblk, V, idx_in j r]

theorem blk1 (c : Dev nD) (j : Fin 8) (r : Fin 4) (k : Fin 1024) (b : Fin 1536) :
    iblk m c 1 (tp j r) (ix2 k b) = m ((c : Thread nD τ).loc main_arg1) (ix2 (row r k) (col j b)) := by
  blk_ext [iblk, V, idx_in j r]

/-- What the scratch holds at a point that is not the last of its four: the products so far. -/
theorem scr (c : Dev nD) (j : Fin 8) (r : ℕ) (h : 4 * j.val + r < cfg0.N) (hr : r < 3) (a : Fin 2048) (b : Fin 1536) :
    (outsAt0 m c (4 * j.val + r) h).2 (ix2 a b)
      = ∑ q : Fin (r + 1), part (iblk m c 0 (tp j ⟨q.val, by omega⟩)) (iblk m c 1 (tp j ⟨q.val, by omega⟩)) a b := by
  induction r with
  | zero =>
    rw [Fin.sum_univ_one]
    have e := outsAt0_A m c ⟨4 * j.val + 0, h⟩ (by dsimp only; omega) (by dsimp only; omega)
    dsimp only at e
    rw [e]
    frame_out
    rw [pay2_apply, pay1_apply, zero_add]
    rfl
  | succ r ih =>
    rw [Fin.sum_univ_castSucc]
    have e := outsAt0_B m c ⟨4 * j.val + (r + 1), h⟩ (by dsimp only; omega) (by dsimp only; omega)
    dsimp only at e
    rw [e]
    frame_out
    rw [pay2_apply, Memref.IsWhole.read_unread (m := scM0_0)]
    exact congrArg₂ (· + ·) (ih (by omega) (by omega)) rfl

/-- What the last of four points writes. -/
theorem fin (c : Dev nD) (j : Fin 8) (h : 4 * j.val + 3 < cfg0.N) (a : Fin 2048) (b : Fin 1536) :
    (outsAt0 m c (4 * j.val + 3) h).1 (ix3 0 a b)
      = ∑ q : Fin 4, part (iblk m c 0 (tp j q)) (iblk m c 1 (tp j q)) a b := by
  rw [Fin.sum_univ_castSucc]
  have e := outsAt0_C m c ⟨4 * j.val + 3, h⟩ (by dsimp only; omega) (by dsimp only; omega)
  dsimp only at e
  rw [e]
  frame_out
  rw [pay3_apply, pay2_apply, Memref.IsWhole.read_unread (m := scM0_0)]
  exact congrArg₂ (· + ·) (scr m c j 2 (by omega) (by omega) a b) rfl

/-- The gradient of a product in its weights, at a place of a block. -/
def grad (x0 : Vec Ideal S4096x2048 .bf16) (x1 : Vec Ideal S4096x12288 .bf16) (j : Fin 8) (a : Fin 2048) (b : Fin 1536) : EReal :=
  ∑ k : Fin 4096, x0 (ix2 k a) * x1 (ix2 k (col j b))

/-- The result array at a place of a block. -/
theorem arr (c : Dev nD) (j : Fin 8) (a : Fin 2048) (b : Fin 1536) :
    Value.G2 m c (ix3 j a b) = grad (m ((c : Thread nD τ).loc main_arg0)) (m ((c : Thread nD τ).loc main_arg1)) j a b := by
  have hlt : 4 * j.val + 3 < cfg0.N := lt_of_lt_of_eq (by omega) N_0.symm
  have hp : Value.pt2Of (ix3 j a b) = 4 * j.val + 3 := by
    show 4 * (1 * (j.val / 1 - 0) + 1 * (a.val / 2048 - 0) + 1 * (b.val / 1536 - 0)) + 3 = _
    omega
  have hl : Value.loc2Of (ix3 j a b) = ix3 0 a b := by
    funext x; apply Fin.ext
    match x with
    | ⟨0, _⟩ => show j.val % 1 = 0; omega
    | ⟨1, _⟩ => show a.val % 2048 = a.val; omega
    | ⟨2, _⟩ => show b.val % 1536 = b.val; omega
  have hlt' : 0 + (4 * j.val + 3) < cfg0.N := by rw [Nat.zero_add]; exact hlt
  have e : Value.G2 m c (ix3 j a b) = (outsAt0 m c (4 * j.val + 3) hlt).1 (ix3 0 a b) := by
    rw [Value.outsAt0_sweep m c _ hlt, ← hl]
    refine (dif_pos (show Value.pt2Of (ix3 j a b) < cfg0.N from lt_of_eq_of_lt hp hlt)).trans ?_
    rw [Value.fold0_congr m c _ _ (4 * j.val + 3) hlt' hp]
  rw [e, fin]
  unfold grad
  refine Eq.trans ?_ (Fin.sum_univ_tiles (M := EReal) (N := 4096) 4 1024 (by norm_num) _).symm
  refine Finset.sum_congr (M := EReal) rfl fun r _ => ?_
  unfold part
  refine Finset.sum_congr (M := EReal) rfl fun k _ => ?_
  exact congrArg₂ (α := EReal) (β := EReal) (· * ·) (blk0 m c j r k a) (blk1 m c j r k b)

/-- The reference's result at a place of a block. -/
theorem ref (x0 : Vec Ideal S4096x2048 .bf16) (x1 : Vec Ideal S4096x12288 .bf16) (j : Fin 8) (a : Fin 2048) (b : Fin 1536) :
    Cert.Reference8Ideal.Read.val_main_v6 (F := Ideal) x0 x1 (ix3 j a b) = grad x0 x1 j a b := by
  rw [Cert.Reference8Ideal.Read.val_main_v6_apply, Cert.Reference8Ideal.Read.val_main_v5_apply, Cert.Reference8Ideal.Read.val_main_v4_apply,
    Cert.Reference8Ideal.Read.val_main_v3_apply, Cert.Reference8Ideal.Read.val_main_v2_apply]
  show ∑ k : Fin 4096, _ = _
  unfold grad
  refine Finset.sum_congr rfl fun k _ => ?_
  rw [mul_comm]
  refine congrArg₂ (· * ·) (congrArg x0 ?_) (congrArg x1 ?_)
  · funext q; refine Fin.ext ?_
    match q with
    | ⟨0, _⟩ => rfl
    | ⟨1, _⟩ => show ((a.val * 8 + j.val) * 1536 + b.val) / 12288 = a.val; omega
  · funext q; refine Fin.ext ?_
    match q with
    | ⟨0, _⟩ => rfl
    | ⟨1, _⟩ => show ((a.val * 8 + j.val) * 1536 + b.val) % 12288 = j.val * 1536 + b.val; omega

end Cert.Kernel8Ideal.Block

namespace Cert.WgradKv

open Idealize.ShloMosaic Idealize.ShloMosaic.TcCoe Idealize.SL.Sem

theorem frame_p : Cert.quiescent_Kernel8 := fun m ρ _ => Cert.Kernel8.Gen.frame m ρ

theorem frame_pi : Cert.quiescent_Kernel8Ideal := fun m ρ _ => Cert.Kernel8Ideal.Gen.frame m ρ

theorem frame_ri : Cert.quiescent_Reference8Ideal := fun m ρ _ =>
  (θ_run Cert.Reference8Ideal.defs _ _).mono
    (fun r h => ⟨fun c => (h c).2, Idealize.ShloMosaic.sem_eq_zero_of_no_sems (by decide) r.2⟩)
    (Cert.Reference8Ideal.Value.run (F := Ideal) m ρ)

theorem preserves : Cert.preserves_Kernel8_Kernel8Ideal := trivial

/-- The two programs leave the same weight gradient. -/
theorem algebraic : Cert.algebraic_Kernel8Ideal_Reference8Ideal := by
  intro m ρ m' ρ' hpre hagree
  refine ⟨_, Cert.Kernel8Ideal.Value.run (F := Ideal) m ρ, ?_⟩
  refine (θ_run Cert.Reference8Ideal.defs _ _).mono (fun r h c => ?_) (Cert.Reference8Ideal.Value.run (F := Ideal) m' ρ')
  obtain ⟨g0, g1⟩ := hagree c
  obtain ⟨r0, rest⟩ := h c
  rw [Cert.Reference8Ideal.Read.val_main_v6_eq, g0, g1] at r0
  refine ⟨r0.trans ?_, rest⟩
  funext i
  change Cert.Kernel8Ideal.S8x2048x1536.Idx at i
  idx_vars i
  exact (Cert.Kernel8Ideal.Block.ref _ _ _ _ _).trans (Cert.Kernel8Ideal.Block.arr m c _ _ _).symm

end Cert.WgradKv
-- ==== Proof.RowProj.lean ====
/- A mixer's output projection with its residual: the first point of a row block adds the residual, every point one block's product. -/
module

public import proofs.«01_k».proof.Defs
public import proofs.«01_k».proof.Proof.Gen.Kernel9.Frame
public import proofs.«01_k».proof.Proof.Gen.Kernel9Ideal.Value
public import proofs.«01_k».proof.Proof.Gen.Reference9Ideal.Read
public import Idealize.ShloMosaic.Lib.Pipeline.ReadBack
public import Idealize.ShloMosaic.Lib.Pointwise
public import Idealize.ShloMosaic.Lib.Pipeline.ValueKit.Geometry
public import Idealize.ShloMosaic.Lib.Pipeline.ValueKit.Point
public import Idealize.ShloMosaic.Lib.Claim

@[expose] public section

set_option maxRecDepth 16384

noncomputable section

namespace Cert.Kernel9Ideal.Block

open Cert.Kernel9Ideal Cert.Kernel9Ideal.Gen Idealize.ShloMosaic Idealize.ShloMosaic.TcCoe Idealize.SL.Sem

theorem pay1_apply (h : Vec Ideal S512x256 .bf16) (w : Vec Ideal S1x256x2048 .bf16) (p : Fin 512) (b : Fin 2048) :
    k0_pay1 h w (ix2 p b) = ∑ a : Fin 256, h (ix2 p a) * w (ix3 0 a b) := by
  unfold k0_pay1
  pointwise

theorem pay2_apply (h : Vec Ideal S512x256 .bf16) (w : Vec Ideal S1x256x2048 .bf16) (v : Vec Ideal S512x2048 .f32) (p : Fin 512) (b : Fin 2048) :
    k0_pay2 h w v (ix2 p b) = v (ix2 p b) + k0_pay1 h w (ix2 p b) := by
  unfold k0_pay2
  pointwise

theorem pay3_apply (h : Vec Ideal S512x256 .bf16) (w : Vec Ideal S1x256x2048 .bf16) (v : Vec Ideal S512x2048 .f32) (p : Fin 512) (b : Fin 2048) :
    k0_pay3 h w v (ix2 p b) = v (ix2 p b) + k0_pay1 h w (ix2 p b) := by
  unfold k0_pay3
  pointwise

variable (m : (ℓ : Loc nD τ sig) → Buf (Elt Ideal) ℓ)

/-- The grid point of a row block and a block of the weights. -/
abbrev tp (r j : Fin 8) : Fin cfg0.N := Fin.cast N_0.symm ⟨8 * r.val + j.val, by omega⟩

theorem tp_of (t : Fin cfg0.N) : ∃ r j : Fin 8, t = tp r j := by
  have ht : t.val < 64 := lt_of_lt_of_eq t.isLt N_0
  exact ⟨⟨t.val / 8, by omega⟩, ⟨t.val % 8, by omega⟩, Fin.ext (by show t.val = 8 * (t.val / 8) + t.val % 8; omega)⟩

theorem idx_in : ∀ r j : Fin 8, win0_0.index (tp r j) = ![r.val, 0] ∧ win0_1.index (tp r j) = ![r.val, j.val]
    ∧ win0_2.index (tp r j) = ![j.val, 0, 0] := by
  decide +kernel

theorem idx_out : ∀ r j : Fin 8, win0_3.index (tp r j) = ![r.val, 0] := by
  decide +kernel

/-- A row of the whole arrays from its block row and its place. -/
abbrev row (r : Fin 8) (p : Fin 512) : Fin 4096 := ⟨r.val * 512 + p.val, by omega⟩

/-- A row of the weights from its block and its place. -/
abbrev col (j : Fin 8) (a : Fin 256) : Fin 2048 := ⟨j.val * 256 + a.val, by omega⟩

abbrev ax (c : Dev nD) : Vec Ideal S4096x2048 .f32 := m ((c : Thread nD τ).loc main_arg0)
abbrev at' (c : Dev nD) : Vec Ideal S4096x2048 .bf16 := m ((c : Thread nD τ).loc main_arg1)
abbrev aw (c : Dev nD) : Vec Ideal S2048x2048 .f32 := m ((c : Thread nD τ).loc main_arg2)

theorem blk0 (c : Dev nD) (r j : Fin 8) (p : Fin 512) (b : Fin 2048) : iblk m c 0 (tp r j) (ix2 p b) = ax m c (ix2 (row r p) b) := by
  blk_ext [iblk, V, idx_in r j]

theorem blk1 (c : Dev nD) (r j : Fin 8) (p : Fin 512) (a : Fin 256) : iblk m c 1 (tp r j) (ix2 p a) = at' m c (ix2 (row r p) (col j a)) := by
  blk_ext [iblk, V, idx_in r j]

theorem blk2 (c : Dev nD) (r j : Fin 8) (a : Fin 256) (b : Fin 2048) : iblk m c 2 (tp r j) (ix3 0 a b) = aw m c (ix2 (col j a) b) := by
  have h : iblk m c 2 (tp r j) (ix3 0 a b) = V m c main_v1 (ix3 j a b) := by blk_ext [iblk, idx_in r j]
  rw [h]
  entry_read
  pointwise

/-- One block's share of the product. -/
def part (c : Dev nD) (i : Fin 4096) (b : Fin 2048) (j : Fin 8) : EReal := ∑ a : Fin 256, at' m c (ix2 i (col j a)) * aw m c (ix2 (col j a) b)

theorem prod (c : Dev nD) (r j : Fin 8) (p : Fin 512) (b : Fin 2048) :
    k0_pay1 (iblk m c 1 (tp r j)) (iblk m c 2 (tp r j)) (ix2 p b) = part m c (row r p) b j := by
  rw [pay1_apply]
  unfold part
  exact Finset.sum_congr (M := EReal) rfl fun a _ => congrArg₂ (α := EReal) (β := EReal) (· * ·) (blk1 m c r j p a) (blk2 m c r j a b)

/-- What the output block holds at the points of a row block: the residual and the products so far. -/
theorem acc (c : Dev nD) (r : Fin 8) (n : ℕ) (hn : n < 8) (h : 8 * r.val + n < cfg0.N) (p : Fin 512) (b : Fin 2048) :
    outsAt0 m c (8 * r.val + n) h (ix2 p b) = ax m c (ix2 (row r p) b) + ∑ q : Fin (n + 1), part m c (row r p) b ⟨q.val, by omega⟩ := by
  induction n with
  | zero =>
    rw [Fin.sum_univ_one]
    have e := outsAt0_A m c ⟨8 * r.val + 0, h⟩ (by dsimp only; omega) (by dsimp only; omega)
    dsimp only at e
    rw [e]
    frame_out
    rw [pay2_apply]
    exact congrArg₂ (α := EReal) (β := EReal) (· + ·) (blk0 m c r 0 p b) (prod m c r 0 p b)
  | succ n ih =>
    rw [Fin.sum_univ_castSucc]
    refine Eq.trans ?_ (add_assoc (G := EReal) _ _ _)
    have e := outsAt0_B m c ⟨8 * r.val + (n + 1), h⟩ (by dsimp only; omega) (by dsimp only; omega)
    dsimp only at e
    rw [e]
    frame_out
    rw [pay3_apply]
    exact congrArg₂ (α := EReal) (β := EReal) (· + ·) (ih (by omega) (by omega)) (prod m c r ⟨n + 1, hn⟩ p b)

/-- The projection with its residual, at a place. -/
def out (x0 : Vec Ideal S4096x2048 .f32) (x1 : Vec Ideal S4096x2048 .bf16) (x2 : Vec Ideal S2048x2048 .f32) (i : Fin 4096) (b : Fin 2048) : EReal :=
  x0 (ix2 i b) + ∑ l : Fin 2048, x1 (ix2 i l) * x2 (ix2 l b)

theorem last (c : Dev nD) (r : Fin 8) (p : Fin 512) (b : Fin 2048) :
    outsAt0 m c (tp r 7).val (tp r 7).isLt (ix2 p b) = out (ax m c) (at' m c) (aw m c) (row r p) b := by
  refine (acc m c r 7 (by omega) (tp r 7).isLt p b).trans ?_
  unfold out
  refine congrArg (α := EReal) (ax m c (ix2 (row r p) b) + ·) ?_
  refine Eq.trans ?_ (Fin.sum_univ_tiles (M := EReal) (N := 2048) 8 256 (by norm_num) _).symm
  refine Finset.sum_congr (M := EReal) rfl fun q _ => ?_
  unfold part
  exact Finset.sum_congr (M := EReal) rfl fun a _ => rfl

/-- The result array over the arguments. -/
def G3 (c : Dev nD) : Buf (Elt Ideal) ((c : Thread nD τ).loc main_v2) := fun i : S4096x2048.Idx =>
  out (ax m c) (at' m c) (aw m c) (i 0) (i 1)

theorem flushed (c : Dev nD) (t : Fin cfg0.N) (hf : (cfg0.win 3).flush t = true) :
    (dats m 0 c).flushed 3 t = ((cfg0.win 3).blk t).view.read (Elt Ideal) (G3 m c) := by
  have hm : t.val % 8 = 7 := (flush0_3 t).mp hf
  obtain ⟨r, j, rfl⟩ := tp_of t
  have hj : j = 7 := Fin.ext (by have : (8 * r.val + j.val) % 8 = 7 := hm; show j.val = 7; omega)
  subst hj
  rw [Value.flushed3]
  funext y
  have hx0 : (((cfg0.win 3).blk (tp r 7)).view.emb y 0).val = win0_3.index (tp r 7) (0 : Fin 2) * 512 + 1 * (y 0).val := rfl
  have hx1 : (((cfg0.win 3).blk (tp r 7)).view.emb y 1).val = win0_3.index (tp r 7) (1 : Fin 2) * 2048 + 1 * (y 1).val := rfl
  have hi := idx_out r 7
  rw [hi] at hx0 hx1
  have e : ((cfg0.win 3).blk (tp r 7)).view.emb y = ix2 (row r ⟨(y 0).val, (y 0).isLt⟩) (⟨(y 1).val, (y 1).isLt⟩ : Fin 2048) := by
    funext q
    refine Fin.ext ?_
    match q with
    | ⟨0, _⟩ => refine hx0.trans ?_; show r.val * 512 + 1 * (y 0).val = r.val * 512 + (y 0).val; omega
    | ⟨1, _⟩ => refine hx1.trans ?_; show 0 * 2048 + 1 * (y 1).val = (y 1).val; omega
  have e' : (cfg0.win 3).xinj (grid0.coords (tp r 7)) y = ix2 (⟨(y 0).val, (y 0).isLt⟩ : Fin 512) (⟨(y 1).val, (y 1).isLt⟩ : Fin 2048) := by
    funext q
    match q with
    | ⟨0, _⟩ => rfl
    | ⟨1, _⟩ => rfl
  show outsAt0 m c (tp r 7).val (tp r 7).isLt ((cfg0.win 3).xinj (grid0.coords (tp r 7)) y) = G3 m c (((cfg0.win 3).blk (tp r 7)).view.emb y)
  rw [e, e']
  exact last m c r _ _

theorem mem_blk (t : Fin cfg0.N) (i : S4096x2048.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole main_v2).slice (win0_3.rect t)).set ↔ _
  rw [View.set_slice_whole, Rect.mem_set_unit]
  exact Iff.rfl

theorem cover (i : S4096x2048.Idx) : ∃ t : Fin cfg0.N, (cfg0.win 3).flush t = true ∧ i ∈ ((cfg0.win 3).blk t).view.set := by
  have h0 : (i 0).val < 4096 := (i 0).isLt
  have h1 : (i 1).val < 2048 := (i 1).isLt
  have hi := idx_out ⟨(i 0).val / 512, by omega⟩ 7
  refine ⟨tp ⟨(i 0).val / 512, by omega⟩ 7, (flush0_3 _).mpr (by show (8 * ((i 0).val / 512) + 7) % 8 = 7; omega), ?_⟩
  rw [mem_blk, hi]
  intro a
  match a with
  | ⟨0, _⟩ => show (i 0).val / 512 * 512 ≤ (i 0).val ∧ (i 0).val < (i 0).val / 512 * 512 + 512; omega
  | ⟨1, _⟩ => show 0 * 2048 ≤ (i 1).val ∧ (i 1).val < 0 * 2048 + 2048; omega

theorem final (c : Dev nD) : (dats m 0 c).arrAt 3 cfg0.N = G3 m c :=
  (dats m 0 c).arrAt_eq_of_cover 3 _ (fun t hf => flushed m c t hf) cover

/-- The reference's result at a place. -/
theorem ref (x0 : Vec Ideal S4096x2048 .f32) (x1 : Vec Ideal S4096x2048 .bf16) (x2 : Vec Ideal S2048x2048 .f32) (i : Fin 4096) (b : Fin 2048) :
    Cert.Reference9Ideal.Read.val_main_v2 (F := Ideal) x0 x1 x2 (ix2 i b) = out x0 x1 x2 i b := by
  unfold Cert.Reference9Ideal.Read.val_main_v2 Cert.Reference9Ideal.Read.val_main_v1 Cert.Reference9Ideal.Read.val_main_v0 out
  pointwise

end Cert.Kernel9Ideal.Block

namespace Cert.RowProj

open Idealize.ShloMosaic Idealize.ShloMosaic.TcCoe Idealize.SL.Sem

theorem frame_p : Cert.quiescent_Kernel9 := fun m ρ _ => Cert.Kernel9.Gen.frame m ρ

theorem frame_pi : Cert.quiescent_Kernel9Ideal := fun m ρ _ => Cert.Kernel9Ideal.Gen.frame m ρ

theorem frame_ri : Cert.quiescent_Reference9Ideal := fun m ρ _ =>
  (θ_run Cert.Reference9Ideal.defs _ _).mono
    (fun r h => ⟨fun c => (h c).2, Idealize.ShloMosaic.sem_eq_zero_of_no_sems (by decide) r.2⟩)
    (Cert.Reference9Ideal.Value.run (F := Ideal) m ρ)

theorem preserves : Cert.preserves_Kernel9_Kernel9Ideal := trivial

/-- The two programs leave the same projection. -/
theorem algebraic : Cert.algebraic_Kernel9Ideal_Reference9Ideal := by
  intro m ρ m' ρ' hpre hagree
  refine ⟨_, Cert.Kernel9Ideal.Value.run_blocks (F := Ideal) m ρ, ?_⟩
  refine (θ_run Cert.Reference9Ideal.defs _ _).mono (fun r h c => ?_) (Cert.Reference9Ideal.Value.run (F := Ideal) m' ρ')
  obtain ⟨g0, g1, g2⟩ := hagree c
  obtain ⟨r0, rest⟩ := h c
  rw [Cert.Reference9Ideal.Read.val_main_v2_eq, g0, g1, g2] at r0
  refine ⟨r0.trans ?_, rest⟩
  rw [Cert.Kernel9Ideal.Block.final m c]
  funext i
  change Cert.Kernel9Ideal.S4096x2048.Idx at i
  idx_vars i
  exact Cert.Kernel9Ideal.Block.ref _ _ _ _ _

end Cert.RowProj
-- ==== Proof.DgradAttn.lean ====
/- The gradient of the attention's output projection in its operand: a block row's cotangent, cast once, times each block of the weights. -/
module

public import proofs.«01_k».proof.Defs
public import proofs.«01_k».proof.Proof.Gen.Kernel10.Frame
public import proofs.«01_k».proof.Proof.Gen.Kernel10Ideal.Value
public import proofs.«01_k».proof.Proof.Gen.Reference10Ideal.Read
public import Idealize.ShloMosaic.Lib.Pipeline.ReadBack
public import Idealize.ShloMosaic.Lib.Pointwise
public import Idealize.ShloMosaic.Lib.Pipeline.ValueKit.Geometry
public import Idealize.ShloMosaic.Lib.Pipeline.ValueKit.Point
public import Idealize.ShloMosaic.Lib.Claim

@[expose] public section

set_option maxRecDepth 16384

noncomputable section

namespace Cert.Kernel10Ideal.Block

open Cert.Kernel10Ideal Cert.Kernel10Ideal.Gen Idealize.ShloMosaic Idealize.ShloMosaic.TcCoe Idealize.SL.Sem

theorem pay1_apply (v : Vec Ideal S512x2048 .f32) (p : Fin 512) (k : Fin 2048) : k0_pay1 v (ix2 p k) = v (ix2 p k) := by
  unfold k0_pay1
  pointwise

theorem pay2_apply (h : Vec Ideal S512x2048 .bf16) (w : Vec Ideal S1x256x2048 .bf16) (p : Fin 512) (a : Fin 256) :
    k0_pay2 h w (ix2 p a) = ∑ k : Fin 2048, h (ix2 p k) * w (ix3 0 a k) := by
  unfold k0_pay2
  pointwise

variable (m : (ℓ : Loc nD τ sig) → Buf (Elt Ideal) ℓ)

/-- The grid point of a row block and a block of the weights. -/
abbrev tp (r j : Fin 8) : Fin cfg0.N := Fin.cast N_0.symm ⟨8 * r.val + j.val, by omega⟩

theorem idx_in : ∀ r j : Fin 8, win0_0.index (tp r j) = ![r.val, 0] ∧ win0_1.index (tp r j) = ![j.val, 0, 0] := by
  decide +kernel

/-- A row of the whole arrays from its block row and its place. -/
abbrev row (r : Fin 8) (p : Fin 512) : Fin 4096 := ⟨r.val * 512 + p.val, by omega⟩

/-- A row of the weights from its block and its place. -/
abbrev col (j : Fin 8) (a : Fin 256) : Fin 2048 := ⟨j.val * 256 + a.val, by omega⟩

abbrev ady (c : Dev nD) : Vec Ideal S4096x2048 .f32 := m ((c : Thread nD τ).loc main_arg0)
abbrev aw (c : Dev nD) : Vec Ideal S2048x2048 .f32 := m ((c : Thread nD τ).loc main_arg1)

theorem blk0 (c : Dev nD) (r j : Fin 8) (p : Fin 512) (k : Fin 2048) : iblk m c 0 (tp r j) (ix2 p k) = ady m c (ix2 (row r p) k) := by
  blk_ext [iblk, V, idx_in r j]

theorem blk1 (c : Dev nD) (r j : Fin 8) (a : Fin 256) (k : Fin 2048) : iblk m c 1 (tp r j) (ix3 0 a k) = aw m c (ix2 (col j a) k) := by
  have h : iblk m c 1 (tp r j) (ix3 0 a k) = V m c main_v1 (ix3 j a k) := by blk_ext [iblk, idx_in r j]
  rw [h]
  entry_read
  pointwise

/-- What the scratch holds at the points of a row block: its rows of the cotangent. -/
theorem scr (c : Dev nD) (r : Fin 8) (n : ℕ) (hn : n < 8) (h : 8 * r.val + n < cfg0.N) (p : Fin 512) (k : Fin 2048) :
    (outsAt0 m c (8 * r.val + n) h).2 (ix2 p k) = ady m c (ix2 (row r p) k) := by
  induction n with
  | zero =>
    have e := outsAt0_A m c ⟨8 * r.val + 0, h⟩ (by dsimp only; omega)
    dsimp only at e
    rw [e]
    frame_out
    rw [pay1_apply]
    exact blk0 m c r 0 p k
  | succ n ih =>
    have e := outsAt0_B m c ⟨8 * r.val + (n + 1), h⟩ (by dsimp only; omega)
    dsimp only at e
    rw [e]
    exact ih (by omega) (by omega)

/-- The gradient of a product in its left operand, at a place. -/
def grad (x0 : Vec Ideal S4096x2048 .f32) (x1 : Vec Ideal S2048x2048 .f32) (i : Fin 4096) (l : Fin 2048) : EReal :=
  ∑ k : Fin 2048, x0 (ix2 i k) * x1 (ix2 l k)

/-- What a point writes. -/
theorem out (c : Dev nD) (r j : Fin 8) (h : 8 * r.val + j.val < cfg0.N) (p : Fin 512) (a : Fin 256) :
    (outsAt0 m c (8 * r.val + j.val) h).1 (ix2 p a) = grad (ady m c) (aw m c) (row r p) (col j a) := by
  obtain ⟨n, hn⟩ := j
  unfold grad
  cases n with
  | zero =>
    have e := outsAt0_A m c ⟨8 * r.val + 0, h⟩ (by dsimp only; omega)
    dsimp only at e
    rw [e]
    frame_out
    rw [pay2_apply]
    refine Finset.sum_congr (M := EReal) rfl fun k _ => ?_
    exact congrArg₂ (α := EReal) (β := EReal) (· * ·) ((pay1_apply _ p k).trans (blk0 m c r 0 p k)) (blk1 m c r 0 a k)
  | succ n =>
    have e := outsAt0_B m c ⟨8 * r.val + (n + 1), h⟩ (by dsimp only; omega)
    dsimp only at e
    rw [e]
    frame_out
    rw [pay2_apply, Memref.IsWhole.read_unread (m := scM0_0)]
    refine Finset.sum_congr (M := EReal) rfl fun k _ => ?_
    exact congrArg₂ (α := EReal) (β := EReal) (· * ·) (scr m c r n (by omega) (by dsimp only at h; omega) p k) (blk1 m c r ⟨n + 1, hn⟩ a k)

/-- The result array at a place of a block. -/
theorem arr (c : Dev nD) (i : Fin 4096) (l : Fin 2048) : Value.G2 m c (ix2 i l) = grad (ady m c) (aw m c) i l := by
  obtain ⟨r, p, rfl⟩ : ∃ (r : Fin 8) (p : Fin 512), i = row r p :=
    ⟨⟨i.val / 512, by omega⟩, ⟨i.val % 512, by omega⟩, Fin.ext (by show i.val = i.val / 512 * 512 + i.val % 512; omega)⟩
  obtain ⟨j, a, rfl⟩ : ∃ (j : Fin 8) (a : Fin 256), l = col j a :=
    ⟨⟨l.val / 256, by omega⟩, ⟨l.val % 256, by omega⟩, Fin.ext (by show l.val = l.val / 256 * 256 + l.val % 256; omega)⟩
  have hlt : 8 * r.val + j.val < cfg0.N := lt_of_lt_of_eq (by omega) N_0.symm
  have hp : Value.pt2Of (ix2 (row r p) (col j a)) = 8 * r.val + j.val := by
    show 8 * ((r.val * 512 + p.val) / 512 - 0) + 1 * ((j.val * 256 + a.val) / 256 - 0) = _
    omega
  have hl : Value.loc2Of (ix2 (row r p) (col j a)) = ix2 p a := by
    funext x; apply Fin.ext
    match x with
    | ⟨0, _⟩ => show (r.val * 512 + p.val) % 512 = p.val; omega
    | ⟨1, _⟩ => show (j.val * 256 + a.val) % 256 = a.val; omega
  have hlt' : 0 + (8 * r.val + j.val) < cfg0.N := by rw [Nat.zero_add]; exact hlt
  have e : Value.G2 m c (ix2 (row r p) (col j a)) = (outsAt0 m c (8 * r.val + j.val) hlt).1 (ix2 p a) := by
    rw [Value.outsAt0_sweep m c _ hlt, ← hl]
    refine (dif_pos (show Value.pt2Of (ix2 (row r p) (col j a)) < cfg0.N from lt_of_eq_of_lt hp hlt)).trans ?_
    rw [Value.fold0_congr m c _ _ (8 * r.val + j.val) hlt' hp]
  rw [e, out]

/-- The reference's result at a place. -/
theorem ref (x0 : Vec Ideal S4096x2048 .f32) (x1 : Vec Ideal S2048x2048 .f32) (i : Fin 4096) (l : Fin 2048) :
    Cert.Reference10Ideal.Read.val_main_v0 (F := Ideal) x0 x1 (ix2 i l) = grad x0 x1 i l := by
  unfold Cert.Reference10Ideal.Read.val_main_v0 grad
  pointwise

end Cert.Kernel10Ideal.Block

namespace Cert.DgradAttn

open Idealize.ShloMosaic Idealize.ShloMosaic.TcCoe Idealize.SL.Sem

theorem frame_p : Cert.quiescent_Kernel10 := fun m ρ _ => Cert.Kernel10.Gen.frame m ρ

theorem frame_pi : Cert.quiescent_Kernel10Ideal := fun m ρ _ => Cert.Kernel10Ideal.Gen.frame m ρ

theorem frame_ri : Cert.quiescent_Reference10Ideal := fun m ρ _ =>
  (θ_run Cert.Reference10Ideal.defs _ _).mono
    (fun r h => ⟨fun c => (h c).2, Idealize.ShloMosaic.sem_eq_zero_of_no_sems (by decide) r.2⟩)
    (Cert.Reference10Ideal.Value.run (F := Ideal) m ρ)

theorem preserves : Cert.preserves_Kernel10_Kernel10Ideal := trivial

/-- The two programs leave the same gradient. -/
theorem algebraic : Cert.algebraic_Kernel10Ideal_Reference10Ideal := by
  intro m ρ m' ρ' hpre hagree
  refine ⟨_, Cert.Kernel10Ideal.Value.run (F := Ideal) m ρ, ?_⟩
  refine (θ_run Cert.Reference10Ideal.defs _ _).mono (fun r h c => ?_) (Cert.Reference10Ideal.Value.run (F := Ideal) m' ρ')
  obtain ⟨g0, g1⟩ := hagree c
  obtain ⟨r0, rest⟩ := h c
  rw [Cert.Reference10Ideal.Read.val_main_v0_eq, g0, g1] at r0
  refine ⟨r0.trans ?_, rest⟩
  funext i
  change Cert.Kernel10Ideal.S4096x2048.Idx at i
  idx_vars i
  exact (Cert.Kernel10Ideal.Block.ref _ _ _ _).trans (Cert.Kernel10Ideal.Block.arr m c _ _).symm

end Cert.DgradAttn
-- ==== Proof.DgradGmlp.lean ====
/- The gradient of the gMLP's output projection in its operand: a block row's cotangent, cast once, times each block of the weights. -/
module

public import proofs.«01_k».proof.Defs
public import proofs.«01_k».proof.Proof.Gen.Kernel11.Frame
public import proofs.«01_k».proof.Proof.Gen.Kernel11Ideal.Value
public import proofs.«01_k».proof.Proof.Gen.Reference11Ideal.Read
public import Idealize.ShloMosaic.Lib.Pipeline.ReadBack
public import Idealize.ShloMosaic.Lib.Pointwise
public import Idealize.ShloMosaic.Lib.Pipeline.ValueKit.Geometry
public import Idealize.ShloMosaic.Lib.Pipeline.ValueKit.Point
public import Idealize.ShloMosaic.Lib.Claim

@[expose] public section

set_option maxRecDepth 16384

noncomputable section

namespace Cert.Kernel11Ideal.Block

open Cert.Kernel11Ideal Cert.Kernel11Ideal.Gen Idealize.ShloMosaic Idealize.ShloMosaic.TcCoe Idealize.SL.Sem

theorem pay1_apply (v : Vec Ideal S512x2048 .f32) (p : Fin 512) (k : Fin 2048) : k0_pay1 v (ix2 p k) = v (ix2 p k) := by
  unfold k0_pay1
  pointwise

theorem pay2_apply (h : Vec Ideal S512x2048 .bf16) (w : Vec Ideal S1x256x2048 .bf16) (p : Fin 512) (a : Fin 256) :
    k0_pay2 h w (ix2 p a) = ∑ k : Fin 2048, h (ix2 p k) * w (ix3 0 a k) := by
  unfold k0_pay2
  pointwise

variable (m : (ℓ : Loc nD τ sig) → Buf (Elt Ideal) ℓ)

/-- The grid point of a row block and a block of the weights. -/
abbrev tp (r j : Fin 8) : Fin cfg0.N := Fin.cast N_0.symm ⟨8 * r.val + j.val, by omega⟩

theorem idx_in : ∀ r j : Fin 8, win0_0.index (tp r j) = ![r.val, 0] ∧ win0_1.index (tp r j) = ![j.val, 0, 0] := by
  decide +kernel

/-- A row of the whole arrays from its block row and its place. -/
abbrev row (r : Fin 8) (p : Fin 512) : Fin 4096 := ⟨r.val * 512 + p.val, by omega⟩

/-- A row of the weights from its block and its place. -/
abbrev col (j : Fin 8) (a : Fin 256) : Fin 2048 := ⟨j.val * 256 + a.val, by omega⟩

abbrev ady (c : Dev nD) : Vec Ideal S4096x2048 .f32 := m ((c : Thread nD τ).loc main_arg0)
abbrev aw (c : Dev nD) : Vec Ideal S2048x2048 .f32 := m ((c : Thread nD τ).loc main_arg1)

theorem blk0 (c : Dev nD) (r j : Fin 8) (p : Fin 512) (k : Fin 2048) : iblk m c 0 (tp r j) (ix2 p k) = ady m c (ix2 (row r p) k) := by
  blk_ext [iblk, V, idx_in r j]

theorem blk1 (c : Dev nD) (r j : Fin 8) (a : Fin 256) (k : Fin 2048) : iblk m c 1 (tp r j) (ix3 0 a k) = aw m c (ix2 (col j a) k) := by
  have h : iblk m c 1 (tp r j) (ix3 0 a k) = V m c main_v1 (ix3 j a k) := by blk_ext [iblk, idx_in r j]
  rw [h]
  entry_read
  pointwise

/-- What the scratch holds at the points of a row block: its rows of the cotangent. -/
theorem scr (c : Dev nD) (r : Fin 8) (n : ℕ) (hn : n < 8) (h : 8 * r.val + n < cfg0.N) (p : Fin 512) (k : Fin 2048) :
    (outsAt0 m c (8 * r.val + n) h).2 (ix2 p k) = ady m c (ix2 (row r p) k) := by
  induction n with
  | zero =>
    have e := outsAt0_A m c ⟨8 * r.val + 0, h⟩ (by dsimp only; omega)
    dsimp only at e
    rw [e]
    frame_out
    rw [pay1_apply]
    exact blk0 m c r 0 p k
  | succ n ih =>
    have e := outsAt0_B m c ⟨8 * r.val + (n + 1), h⟩ (by dsimp only; omega)
    dsimp only at e
    rw [e]
    exact ih (by omega) (by omega)

/-- The gradient of a product in its left operand, at a place. -/
def grad (x0 : Vec Ideal S4096x2048 .f32) (x1 : Vec Ideal S2048x2048 .f32) (i : Fin 4096) (l : Fin 2048) : EReal :=
  ∑ k : Fin 2048, x0 (ix2 i k) * x1 (ix2 l k)

/-- What a point writes. -/
theorem out (c : Dev nD) (r j : Fin 8) (h : 8 * r.val + j.val < cfg0.N) (p : Fin 512) (a : Fin 256) :
    (outsAt0 m c (8 * r.val + j.val) h).1 (ix2 p a) = grad (ady m c) (aw m c) (row r p) (col j a) := by
  obtain ⟨n, hn⟩ := j
  unfold grad
  cases n with
  | zero =>
    have e := outsAt0_A m c ⟨8 * r.val + 0, h⟩ (by dsimp only; omega)
    dsimp only at e
    rw [e]
    frame_out
    rw [pay2_apply]
    refine Finset.sum_congr (M := EReal) rfl fun k _ => ?_
    exact congrArg₂ (α := EReal) (β := EReal) (· * ·) ((pay1_apply _ p k).trans (blk0 m c r 0 p k)) (blk1 m c r 0 a k)
  | succ n =>
    have e := outsAt0_B m c ⟨8 * r.val + (n + 1), h⟩ (by dsimp only; omega)
    dsimp only at e
    rw [e]
    frame_out
    rw [pay2_apply, Memref.IsWhole.read_unread (m := scM0_0)]
    refine Finset.sum_congr (M := EReal) rfl fun k _ => ?_
    exact congrArg₂ (α := EReal) (β := EReal) (· * ·) (scr m c r n (by omega) (by dsimp only at h; omega) p k) (blk1 m c r ⟨n + 1, hn⟩ a k)

/-- The result array at a place of a block. -/
theorem arr (c : Dev nD) (i : Fin 4096) (l : Fin 2048) : Value.G2 m c (ix2 i l) = grad (ady m c) (aw m c) i l := by
  obtain ⟨r, p, rfl⟩ : ∃ (r : Fin 8) (p : Fin 512), i = row r p :=
    ⟨⟨i.val / 512, by omega⟩, ⟨i.val % 512, by omega⟩, Fin.ext (by show i.val = i.val / 512 * 512 + i.val % 512; omega)⟩
  obtain ⟨j, a, rfl⟩ : ∃ (j : Fin 8) (a : Fin 256), l = col j a :=
    ⟨⟨l.val / 256, by omega⟩, ⟨l.val % 256, by omega⟩, Fin.ext (by show l.val = l.val / 256 * 256 + l.val % 256; omega)⟩
  have hlt : 8 * r.val + j.val < cfg0.N := lt_of_lt_of_eq (by omega) N_0.symm
  have hp : Value.pt2Of (ix2 (row r p) (col j a)) = 8 * r.val + j.val := by
    show 8 * ((r.val * 512 + p.val) / 512 - 0) + 1 * ((j.val * 256 + a.val) / 256 - 0) = _
    omega
  have hl : Value.loc2Of (ix2 (row r p) (col j a)) = ix2 p a := by
    funext x; apply Fin.ext
    match x with
    | ⟨0, _⟩ => show (r.val * 512 + p.val) % 512 = p.val; omega
    | ⟨1, _⟩ => show (j.val * 256 + a.val) % 256 = a.val; omega
  have hlt' : 0 + (8 * r.val + j.val) < cfg0.N := by rw [Nat.zero_add]; exact hlt
  have e : Value.G2 m c (ix2 (row r p) (col j a)) = (outsAt0 m c (8 * r.val + j.val) hlt).1 (ix2 p a) := by
    rw [Value.outsAt0_sweep m c _ hlt, ← hl]
    refine (dif_pos (show Value.pt2Of (ix2 (row r p) (col j a)) < cfg0.N from lt_of_eq_of_lt hp hlt)).trans ?_
    rw [Value.fold0_congr m c _ _ (8 * r.val + j.val) hlt' hp]
  rw [e, out]

/-- The reference's result at a place. -/
theorem ref (x0 : Vec Ideal S4096x2048 .f32) (x1 : Vec Ideal S2048x2048 .f32) (i : Fin 4096) (l : Fin 2048) :
    Cert.Reference11Ideal.Read.val_main_v1 (F := Ideal) x0 x1 (ix2 i l) = grad x0 x1 i l := by
  unfold Cert.Reference11Ideal.Read.val_main_v1 Cert.Reference11Ideal.Read.val_main_v0 grad
  pointwise

end Cert.Kernel11Ideal.Block

namespace Cert.DgradGmlp

open Idealize.ShloMosaic Idealize.ShloMosaic.TcCoe Idealize.SL.Sem

theorem frame_p : Cert.quiescent_Kernel11 := fun m ρ _ => Cert.Kernel11.Gen.frame m ρ

theorem frame_pi : Cert.quiescent_Kernel11Ideal := fun m ρ _ => Cert.Kernel11Ideal.Gen.frame m ρ

theorem frame_ri : Cert.quiescent_Reference11Ideal := fun m ρ _ =>
  (θ_run Cert.Reference11Ideal.defs _ _).mono
    (fun r h => ⟨fun c => (h c).2, Idealize.ShloMosaic.sem_eq_zero_of_no_sems (by decide) r.2⟩)
    (Cert.Reference11Ideal.Value.run (F := Ideal) m ρ)

theorem preserves : Cert.preserves_Kernel11_Kernel11Ideal := trivial

/-- The two programs leave the same gradient. -/
theorem algebraic : Cert.algebraic_Kernel11Ideal_Reference11Ideal := by
  intro m ρ m' ρ' hpre hagree
  refine ⟨_, Cert.Kernel11Ideal.Value.run (F := Ideal) m ρ, ?_⟩
  refine (θ_run Cert.Reference11Ideal.defs _ _).mono (fun r h c => ?_) (Cert.Reference11Ideal.Value.run (F := Ideal) m' ρ')
  obtain ⟨g0, g1⟩ := hagree c
  obtain ⟨r0, rest⟩ := h c
  rw [Cert.Reference11Ideal.Read.val_main_v1_eq, g0, g1] at r0
  refine ⟨r0.trans ?_, rest⟩
  funext i
  change Cert.Kernel11Ideal.S4096x2048.Idx at i
  idx_vars i
  exact (Cert.Kernel11Ideal.Block.ref _ _ _ _).trans (Cert.Kernel11Ideal.Block.arr m c _ _).symm

end Cert.DgradGmlp
-- ==== Proof.lean ====
/- The proof of the certificate's claim. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Wgrad
public import proofs.«01_k».proof.Proof.FfnFwd
public import proofs.«01_k».proof.Proof.FfnDx
public import proofs.«01_k».proof.Proof.Claims
public import proofs.«01_k».proof.Proof.WgradOut
public import proofs.«01_k».proof.Proof.WgradGmlp
public import proofs.«01_k».proof.Proof.WgradQ
public import proofs.«01_k».proof.Proof.WgradKv
public import proofs.«01_k».proof.Proof.RowProj
public import proofs.«01_k».proof.Proof.DgradAttn
public import proofs.«01_k».proof.Proof.DgradGmlp
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Match.preFacts, Cert.FfnDx.preFacts,
    Cert.Claims.frame_p, Cert.Claims.frame_pi, Cert.Claims.frame_pi_pre, Cert.Claims.frame_ri, Cert.Claims.frame_ri_pre,
    Cert.Wgrad.frame_p, Cert.Wgrad.frame_pi, Cert.Wgrad.frame_ri, Cert.FfnFwd.frame_p, Cert.FfnFwd.frame_pi, Cert.FfnFwd.frame_ri,
    Cert.FfnDx.frame_p, Cert.FfnDx.frame_pi, Cert.FfnDx.frame_pi_pre, Cert.FfnDx.frame_ri, Cert.FfnDx.frame_ri_pre,
    Cert.WgradOut.frame_p, Cert.WgradOut.frame_pi, Cert.WgradOut.frame_ri,
    Cert.WgradGmlp.frame_p, Cert.WgradGmlp.frame_pi, Cert.WgradGmlp.frame_ri,
    Cert.WgradQ.frame_p, Cert.WgradQ.frame_pi, Cert.WgradQ.frame_ri,
    Cert.WgradKv.frame_p, Cert.WgradKv.frame_pi, Cert.WgradKv.frame_ri,
    Cert.RowProj.frame_p, Cert.RowProj.frame_pi, Cert.RowProj.frame_ri,
    Cert.DgradAttn.frame_p, Cert.DgradAttn.frame_pi, Cert.DgradAttn.frame_ri,
    Cert.DgradGmlp.frame_p, Cert.DgradGmlp.frame_pi, Cert.DgradGmlp.frame_ri,
    Cert.Claims.preserves, Cert.Claims.algebraic, Cert.Wgrad.preserves, Cert.Wgrad.algebraic,
    Cert.FfnFwd.preserves, Cert.FfnFwd.algebraic, Cert.FfnDx.preserves, Cert.FfnDx.algebraic,
    Cert.WgradOut.preserves, Cert.WgradOut.algebraic, Cert.WgradGmlp.preserves, Cert.WgradGmlp.algebraic,
    Cert.WgradQ.preserves, Cert.WgradQ.algebraic, Cert.WgradKv.preserves, Cert.WgradKv.algebraic,
    Cert.RowProj.preserves, Cert.RowProj.algebraic, Cert.DgradAttn.preserves, Cert.DgradAttn.algebraic, Cert.DgradGmlp.preserves, Cert.DgradGmlp.algebraic⟩

end Cert.Proof

end
